-- ==== Defs.lean ====
def Pre_Kernel [hPre_lens_fit : Cert.Pre_lens_fit.Facts] (m : (ℓ : Loc Cert.Kernel.nD Cert.Kernel.τ Cert.Kernel.sig) → Buf (Elt Bits) ℓ) : Prop :=
  ∀ c : Dev Cert.Kernel.nD,
    (Cert.Pre_lens_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_fit [hPre_lens_fit : Cert.Pre_lens_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_lens_fit : Cert.Pre_lens_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_lens_fit [hReferenceIdeal : Cert.ReferenceIdeal.Facts] [hPre_lens_fit : Cert.Pre_lens_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v5_0)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v8_3)) (v7 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v5_0) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v8_3) = v6 c
          ∧ r.2.mem ((c.tc : Thread Cert.KernelIdeal.nD Cert.KernelIdeal.τ).loc Cert.KernelIdeal.main_v13) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_lens_fit : Cert.Pre_lens_fit.Facts),
    quiescent_Kernel (hKernel := hKernel) (hPre_lens_fit := hPre_lens_fit)
    ∧ quiescent_KernelIdeal (hKernelIdeal := hKernelIdeal) (hPre_lens_fit := hPre_lens_fit)
    ∧ quiescent_ReferenceIdeal (hReferenceIdeal := hReferenceIdeal)
    ∧ quiescent_ReferenceIdeal_pre_lens_fit (hReferenceIdeal := hReferenceIdeal) (hPre_lens_fit := hPre_lens_fit)
    ∧ preserves_Kernel_KernelIdeal
    ∧ algebraic_KernelIdeal_ReferenceIdeal (hKernelIdeal := hKernelIdeal) (hReferenceIdeal := hReferenceIdeal) (hPre_lens_fit := hPre_lens_fit)
-- ==== Pre_lens_fit.lean ====
abbrev S32x512x768 : Shape := ⟨3, ![32, 512, 768]⟩
abbrev S32x512 : Shape := ⟨2, ![32, 512]⟩
abbrev S32 : Shape := ⟨1, ![32]⟩
abbrev S768x768 : Shape := ⟨2, ![768, 768]⟩
abbrev S768 : Shape := ⟨1, ![768]⟩
abbrev S50368x384 : Shape := ⟨2, ![50368, 384]⟩
abbrev S50368x6 : Shape := ⟨2, ![50368, 6]⟩
abbrev S50368 : Shape := ⟨1, ![50368]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S32x512x768 .fp8e4m3) (main_arg1 : FVec F S32x512 .f32) (main_arg2 : IVec S32 32) (main_arg3 : FVec F S768x768 .fp8e4m3) (main_arg4 : FVec F S768 .f32) (main_arg5 : FVec F S768 .f32) (main_arg6 : FVec F S768 .f32) (main_arg7 : FVec F S768 .f32) (main_arg8 : IVec S50368x384 8) (main_arg9 : FVec F S50368x6 .f32) (main_arg10 : FVec F S50368 .f32) : IVec S_ 1 :=
  let main_c : IVec S_ 32 := constantI S_ 32 512#32
  let main_v0 : IVec S32 32 := broadcastInDim S32 ![] bcast_S_S32 main_c
  let main_v1 : IVec S32 1 := cmpi .sle main_arg2 main_v0
  let main_c_0 : IVec S_ 1 := constantI S_ 1 1#1
  let main_v2 : IVec S_ 1 := (fun x v => Host.reduce IntOp.andi x v reducesTo_S32_S_d0 h_S_) main_v1 main_c_0
  main_v2
-- ==== Kernel.lean ====
abbrev S32x512x768 : Shape := ⟨3, ![32, 512, 768]⟩
abbrev S32x512 : Shape := ⟨2, ![32, 512]⟩
abbrev S32 : Shape := ⟨1, ![32]⟩
abbrev S768x768 : Shape := ⟨2, ![768, 768]⟩
abbrev S768 : Shape := ⟨1, ![768]⟩
abbrev S50368x384 : Shape := ⟨2, ![50368, 384]⟩
abbrev S50368x6 : Shape := ⟨2, ![50368, 6]⟩
abbrev S50368 : Shape := ⟨1, ![50368]⟩
abbrev S32x1x512 : Shape := ⟨3, ![32, 1, 512]⟩
abbrev S1x768 : Shape := ⟨2, ![1, 768]⟩
abbrev S32x512x128 : Shape := ⟨3, ![32, 512, 128]⟩
abbrev S1x512x768 : Shape := ⟨3, ![1, 512, 768]⟩
abbrev S1x1x512 : Shape := ⟨3, ![1, 1, 512]⟩
abbrev S1x512x128 : Shape := ⟨3, ![1, 512, 128]⟩
abbrev S1x128x768 : Shape := ⟨3, ![1, 128, 768]⟩
abbrev S128x768 : Shape := ⟨2, ![128, 768]⟩
abbrev S1x1x128 : Shape := ⟨3, ![1, 1, 128]⟩
abbrev S1x128 : Shape := ⟨2, ![1, 128]⟩
abbrev S128x128 : Shape := ⟨2, ![128, 128]⟩
abbrev S128x1 : Shape := ⟨2, ![128, 1]⟩
abbrev S128 : Shape := ⟨1, ![128]⟩
abbrev S1x128x128 : Shape := ⟨3, ![1, 128, 128]⟩
abbrev S1x50368 : Shape := ⟨2, ![1, 50368]⟩
abbrev S32x50368 : Shape := ⟨2, ![32, 50368]⟩
abbrev S512x384 : Shape := ⟨2, ![512, 384]⟩
abbrev S512x6 : Shape := ⟨2, ![512, 6]⟩
abbrev S1x512 : Shape := ⟨2, ![1, 512]⟩
abbrev S768x512 : Shape := ⟨2, ![768, 512]⟩
abbrev S128x384 : Shape := ⟨2, ![128, 384]⟩
abbrev S384x128 : Shape := ⟨2, ![384, 128]⟩
abbrev S6x512 : Shape := ⟨2, ![6, 512]⟩
abbrev S768x128 : Shape := ⟨2, ![768, 128]⟩
abbrev S1 : Shape := ⟨1, ![1]⟩
abbrev S8x512 : Shape := ⟨2, ![8, 512]⟩
abbrev S128x512 : Shape := ⟨2, ![128, 512]⟩
abbrev S1x128x1 : Shape := ⟨3, ![1, 128, 1]⟩
abbrev S16x8x512 : Shape := ⟨3, ![16, 8, 512]⟩
abbrev S512 : Shape := ⟨1, ![512]⟩
abbrev S32x1 : Shape := ⟨2, ![32, 1]⟩
abbrev S1x1 : Shape := ⟨2, ![1, 1]⟩
abbrev S_ : Shape := ⟨0, ![]⟩

abbrev nBuf : Space → Nat
  | .hbm => 30
  | .vmem => 32
  | .smem => 1
  | _ => 0

abbrev bufTy : (tb : Table) → Fin (tcTables nBuf tb) → BufTy
  | .hbm, ⟨0, _⟩ => ⟨S32x512x768, .fp8e4m3⟩
  | .hbm, ⟨1, _⟩ => ⟨S32x512, .f32⟩
  | .hbm, ⟨2, _⟩ => ⟨S768x768, .fp8e4m3⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S50368x384, .i8⟩
  | .hbm, ⟨8, _⟩ => ⟨S50368x6, .f32⟩
  | .hbm, ⟨9, _⟩ => ⟨S50368, .f32⟩
  | .hbm, ⟨10, _⟩ => ⟨S32x1x512, .f32⟩
  | .hbm, ⟨11, _⟩ => ⟨S1x768, .f32⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S32x512x768, .fp8e4m3⟩
  | .hbm, ⟨16, _⟩ => ⟨S32x1x512, .f32⟩
  | .hbm, ⟨17, _⟩ => ⟨S32x512x128, .f32⟩
  | .hbm, ⟨18, _⟩ => ⟨S1x50368, .f32⟩
  | .hbm, ⟨19, _⟩ => ⟨S32x50368, .f32⟩
  | .hbm, ⟨20, _⟩ => ⟨S32x1, .f32⟩
  | .hbm, ⟨21, _⟩ => ⟨S1x50368, .f32⟩
  | .hbm, ⟨22, _⟩ => ⟨S1x1, .f32⟩
  | .hbm, ⟨23, _⟩ => ⟨S32x50368, .i8⟩
  | .hbm, ⟨24, _⟩ => ⟨S32x1, .f32⟩
  | .hbm, ⟨25, _⟩ => ⟨S32, .f32⟩
  | .hbm, ⟨26, _⟩ => ⟨S50368, .f32⟩
  | .hbm, ⟨27, _⟩ => ⟨S_, .f32⟩
  | .hbm, ⟨28, _⟩ => ⟨S32x512, .f32⟩
  | .hbm, ⟨29, _⟩ => ⟨S32, .f32⟩
  | .local _ .vmem, ⟨0, _⟩ => ⟨S1x512x768, .fp8e4m3⟩
  | .local _ .vmem, ⟨1, _⟩ => ⟨S1x512x768, .fp8e4m3⟩
  | .local _ .vmem, ⟨2, _⟩ => ⟨S1x1x512, .f32⟩
  | .local _ .vmem, ⟨3, _⟩ => ⟨S1x1x512, .f32⟩
  | .local _ .vmem, ⟨4, _⟩ => ⟨S768x768, .fp8e4m3⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x512x768, .fp8e4m3⟩
  | .local _ .vmem, ⟨10, _⟩ => ⟨S1x512x768, .fp8e4m3⟩
  | .local _ .vmem, ⟨11, _⟩ => ⟨S1x1x512, .f32⟩
  | .local _ .vmem, ⟨12, _⟩ => ⟨S1x1x512, .f32⟩
  | .local _ .vmem, ⟨13, _⟩ => ⟨S1x512x128, .f32⟩
  | .local _ .vmem, ⟨14, _⟩ => ⟨S1x512x128, .f32⟩
  | .local _ .vmem, ⟨15, _⟩ => ⟨S32x512x768, .fp8e4m3⟩
  | .local _ .vmem, ⟨16, _⟩ => ⟨S32x512x128, .f32⟩
  | .local _ .vmem, ⟨17, _⟩ => ⟨S512x384, .i8⟩
  | .local _ .vmem, ⟨18, _⟩ => ⟨S512x384, .i8⟩
  | .local _ .vmem, ⟨19, _⟩ => ⟨S512x6, .f32⟩
  | .local _ .vmem, ⟨20, _⟩ => ⟨S512x6, .f32⟩
  | .local _ .vmem, ⟨21, _⟩ => ⟨S1x512, .f32⟩
  | .local _ .vmem, ⟨22, _⟩ => ⟨S1x512, .f32⟩
  | .local _ .vmem, ⟨23, _⟩ => ⟨S32x512, .f32⟩
  | .local _ .vmem, ⟨24, _⟩ => ⟨S32x512, .f32⟩
  | .local _ .vmem, ⟨25, _⟩ => ⟨S768x512, .bf16⟩
  | .local _ .vmem, ⟨26, _⟩ => ⟨S32x50368, .f32⟩
  | .local _ .vmem, ⟨27, _⟩ => ⟨S32x1, .f32⟩
  | .local _ .vmem, ⟨28, _⟩ => ⟨S1x50368, .f32⟩
  | .local _ .vmem, ⟨29, _⟩ => ⟨S1x1, .f32⟩
  | .local _ .vmem, ⟨30, _⟩ => ⟨S32x50368, .i8⟩
  | .local _ .vmem, ⟨31, _⟩ => ⟨S32x1, .f32⟩
  | .local _ .smem, ⟨0, _⟩ => ⟨S32, .i32⟩
  | _, _ => ⟨S32x512x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x768 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![99], ![false]⟩

abbrev pre1 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32_70 : BitVec 32 := 0#32
  let c32_i32 : BitVec 32 := 32#32
  let v292 : BitVec 32 := Scalar.addi c0_i32_70 c32_i32
  let c1_i32 : BitVec 32 := 1#32
  ⟨c0_i32_70, v292, c1_i32⟩
def k1_off1 (k1_t1 : Fin k1_t1_loop.trips) : Fin 1 → Nat :=
  let c0_i32_73 : BitVec 32 := 0#32
  let c0_i32_70 : BitVec 32 := 0#32
  let c1_i32 : BitVec 32 := 1#32
  let arg9 : BitVec 32 := Scf.iv c0_i32_70 c1_i32 k1_t1
  let c1_i32_72 : BitVec 32 := 1#32
  let v293 : BitVec 32 := Scalar.muli arg9 c1_i32_72
  let v294 : BitVec 32 := Scalar.addi c0_i32_73 v293
  let v295 : Index := Scalar.indexCast v294
  ![v295.toNat]
@[reducible] def k1_t2_loop (v296 : BitVec 32) : Scf.Loop 32 :=
  let c0_i32_75 : BitVec 32 := 0#32
  let c127_i32 : BitVec 32 := 127#32
  let v297 : BitVec 32 := Scalar.addi v296 c127_i32
  let c128_i32 : BitVec 32 := 128#32
  let v298 : BitVec 32 := Scalar.divsi v297 c128_i32
  let v300 : BitVec 32 := Scalar.subi v298 c0_i32_75
  let c1_i32_76 : BitVec 32 := 1#32
  let v302 : BitVec 32 := Scalar.divsi v300 c1_i32_76
  let v303 : BitVec 32 := Scalar.muli v302 c1_i32_76
  let v304 : BitVec 32 := Scalar.addi c0_i32_75 v303
  let c1_i32_77 : BitVec 32 := 1#32
  ⟨c0_i32_75, v304, c1_i32_77⟩

def k1_mult1 (v296 : BitVec 32) (k1_t2 : Fin (k1_t2_loop v296).trips) : BitVec 32 :=
  let c0_i32_75 : BitVec 32 := 0#32
  let c1_i32_77 : BitVec 32 := 1#32
  let arg10 : BitVec 32 := Scf.iv c0_i32_75 c1_i32_77 k1_t2
  let c128_i32_84 : BitVec 32 := 128#32
  let v317 : BitVec 32 := Scalar.muli arg10 c128_i32_84
  v317
def k1_off2 (k1_t1 : Fin k1_t1_loop.trips) (v296 : BitVec 32) (k1_t2 : Fin (k1_t2_loop v296).trips) : Fin 3 → Nat :=
  let c0_i32_73 : BitVec 32 := 0#32
  let c0_i32_70 : BitVec 32 := 0#32
  let c1_i32 : BitVec 32 := 1#32
  let arg9 : BitVec 32 := Scf.iv c0_i32_70 c1_i32 k1_t1
  let c1_i32_72 : BitVec 32 := 1#32
  let v293 : BitVec 32 := Scalar.muli arg9 c1_i32_72
  let v294 : BitVec 32 := Scalar.addi c0_i32_73 v293
  let v319 : Index := Scalar.indexCast v294
  let c0_i32_75 : BitVec 32 := 0#32
  let c1_i32_77 : BitVec 32 := 1#32
  let arg10 : BitVec 32 := Scf.iv c0_i32_75 c1_i32_77 k1_t2
  let c128_i32_84 : BitVec 32 := 128#32
  let v317 : BitVec 32 := Scalar.muli arg10 c128_i32_84
  let v318 : BitVec 32 := v317
  let v320 : Index := Scalar.indexCast v318
  let c0_85 : Index := 0#32
  ![v319.toNat, v320.toNat, 0]
def k1_off3 (k1_t1 : Fin k1_t1_loop.trips) (v296 : BitVec 32) (k1_t2 : Fin (k1_t2_loop v296).trips) : Fin 3 → Nat :=
  let c0_i32_73 : BitVec 32 := 0#32
  let c0_i32_70 : BitVec 32 := 0#32
  let c1_i32 : BitVec 32 := 1#32
  let arg9 : BitVec 32 := Scf.iv c0_i32_70 c1_i32 k1_t1
  let c1_i32_72 : BitVec 32 := 1#32
  let v293 : BitVec 32 := Scalar.muli arg9 c1_i32_72
  let v294 : BitVec 32 := Scalar.addi c0_i32_73 v293
  let v326 : Index := Scalar.indexCast v294
  let c0_i32_75 : BitVec 32 := 0#32
  let c1_i32_77 : BitVec 32 := 1#32
  let arg10 : BitVec 32 := Scf.iv c0_i32_75 c1_i32_77 k1_t2
  let c128_i32_84 : BitVec 32 := 128#32
  let v317 : BitVec 32 := Scalar.muli arg10 c128_i32_84
  let v318 : BitVec 32 := v317
  let v327 : Index := Scalar.indexCast v318
  let c0_89 : Index := 0#32
  ![v326.toNat, v327.toNat, 0]
@[reducible] def k1_t3_loop (v296 : BitVec 32) : Scf.Loop 32 :=
  let c0_i32_75 : BitVec 32 := 0#32
  let c127_i32 : BitVec 32 := 127#32
  let v297 : BitVec 32 := Scalar.addi v296 c127_i32
  let c128_i32 : BitVec 32 := 128#32
  let v298 : BitVec 32 := Scalar.divsi v297 c128_i32
  let v300 : BitVec 32 := Scalar.subi v298 c0_i32_75
  let c1_i32_76 : BitVec 32 := 1#32
  let v302 : BitVec 32 := Scalar.divsi v300 c1_i32_76
  let v303 : BitVec 32 := Scalar.muli v302 c1_i32_76
  let v304 : BitVec 32 := Scalar.addi c0_i32_75 v303
  let v301 : BitVec 32 := Scalar.addi c0_i32_75 v300
  let c1_i32_78 : BitVec 32 := 1#32
  ⟨v304, v301, c1_i32_78⟩
def k1_mult2 (v296 : BitVec 32) (k1_t3 : Fin (k1_t3_loop v296).trips) : BitVec 32 :=
  let c0_i32_75 : BitVec 32 := 0#32
  let c127_i32 : BitVec 32 := 127#32
  let v297 : BitVec 32 := Scalar.addi v296 c127_i32
  let c128_i32 : BitVec 32 := 128#32
  let v298 : BitVec 32 := Scalar.divsi v297 c128_i32
  let v300 : BitVec 32 := Scalar.subi v298 c0_i32_75
  let c1_i32_76 : BitVec 32 := 1#32
  let v302 : BitVec 32 := Scalar.divsi v300 c1_i32_76
  let v303 : BitVec 32 := Scalar.muli v302 c1_i32_76
  let v304 : BitVec 32 := Scalar.addi c0_i32_75 v303
  let c1_i32_78 : BitVec 32 := 1#32
  let arg10 : BitVec 32 := Scf.iv v304 c1_i32_78 k1_t3
  let c128_i32_84 : BitVec 32 := 128#32
  let v317 : BitVec 32 := Scalar.muli arg10 c128_i32_84
  v317
def k1_off4 (k1_t1 : Fin k1_t1_loop.trips) (v296 : BitVec 32) (k1_t3 : Fin (k1_t3_loop v296).trips) : Fin 3 → Nat :=
  let c0_i32_73 : BitVec 32 := 0#32
  let c0_i32_70 : BitVec 32 := 0#32
  let c1_i32 : BitVec 32 := 1#32
  let arg9 : BitVec 32 := Scf.iv c0_i32_70 c1_i32 k1_t1
  let c1_i32_72 : BitVec 32 := 1#32
  let v293 : BitVec 32 := Scalar.muli arg9 c1_i32_72
  let v294 : BitVec 32 := Scalar.addi c0_i32_73 v293
  let v319 : Index := Scalar.indexCast v294
  let c0_i32_75 : BitVec 32 := 0#32
  let c127_i32 : BitVec 32 := 127#32
  let v297 : BitVec 32 := Scalar.addi v296 c127_i32
  let c128_i32 : BitVec 32 := 128#32
  let v298 : BitVec 32 := Scalar.divsi v297 c128_i32
  let v300 : BitVec 32 := Scalar.subi v298 c0_i32_75
  let c1_i32_76 : BitVec 32 := 1#32
  let v302 : BitVec 32 := Scalar.divsi v300 c1_i32_76
  let v303 : BitVec 32 := Scalar.muli v302 c1_i32_76
  let v304 : BitVec 32 := Scalar.addi c0_i32_75 v303
  let c1_i32_78 : BitVec 32 := 1#32
  let arg10 : BitVec 32 := Scf.iv v304 c1_i32_78 k1_t3
  let c128_i32_84 : BitVec 32 := 128#32
  let v317 : BitVec 32 := Scalar.muli arg10 c128_i32_84
  let v318 : BitVec 32 := v317
  let v320 : Index := Scalar.indexCast v318
  let c0_85 : Index := 0#32
  ![v319.toNat, v320.toNat, 0]
def k1_off5 (k1_t1 : Fin k1_t1_loop.trips) (v296 : BitVec 32) (k1_t3 : Fin (k1_t3_loop v296).trips) : Fin 3 → Nat :=
  let c0_i32_73 : BitVec 32 := 0#32
  let c0_i32_70 : BitVec 32 := 0#32
  let c1_i32 : BitVec 32 := 1#32
  let arg9 : BitVec 32 := Scf.iv c0_i32_70 c1_i32 k1_t1
  let c1_i32_72 : BitVec 32 := 1#32
  let v293 : BitVec 32 := Scalar.muli arg9 c1_i32_72
  let v294 : BitVec 32 := Scalar.addi c0_i32_73 v293
  let v326 : Index := Scalar.indexCast v294
  let c0_i32_75 : BitVec 32 := 0#32
  let c127_i32 : BitVec 32 := 127#32
  let v297 : BitVec 32 := Scalar.addi v296 c127_i32
  let c128_i32 : BitVec 32 := 128#32
  let v298 : BitVec 32 := Scalar.divsi v297 c128_i32
  let v300 : BitVec 32 := Scalar.subi v298 c0_i32_75
  let c1_i32_76 : BitVec 32 := 1#32
  let v302 : BitVec 32 := Scalar.divsi v300 c1_i32_76
  let v303 : BitVec 32 := Scalar.muli v302 c1_i32_76
  let v304 : BitVec 32 := Scalar.addi c0_i32_75 v303
  let c1_i32_78 : BitVec 32 := 1#32
  let arg10 : BitVec 32 := Scf.iv v304 c1_i32_78 k1_t3
  let c128_i32_84 : BitVec 32 := 128#32
  let v317 : BitVec 32 := Scalar.muli arg10 c128_i32_84
  let v318 : BitVec 32 := v317
  let v327 : Index := Scalar.indexCast v318
  let c0_89 : Index := 0#32
  ![v326.toNat, v327.toNat, 0]

def k1_chk1 (k1_t1 : Fin k1_t1_loop.trips) (v296 : BitVec 32) : Prop :=
  ((k1_t2_loop v296).OK) ∧
  (∀ k1_t2 : Fin (k1_t2_loop v296).trips, 128 ∣ (k1_mult1 v296 k1_t2).toNat) ∧
  (∀ k1_t2 : Fin (k1_t2_loop v296).trips, ∀ a, (k1_off2 k1_t1 v296 k1_t2) a + S1x128x768.size a ≤ S32x512x768.size a) ∧
  (∀ k1_t2 : Fin (k1_t2_loop v296).trips, ∀ a, (k1_off3 k1_t1 v296 k1_t2) a + S1x128x1.size a ≤ S32x512x128.size a) ∧
  ((k1_t3_loop v296).OK) ∧
  (∀ k1_t3 : Fin (k1_t3_loop v296).trips, 128 ∣ (k1_mult2 v296 k1_t3).toNat) ∧
  (∀ k1_t3 : Fin (k1_t3_loop v296).trips, ∀ a, (k1_off4 k1_t1 v296 k1_t3) a + S1x128x768.size a ≤ S32x512x768.size a) ∧
  (∀ k1_t3 : Fin (k1_t3_loop v296).trips, ∀ a, (k1_off5 k1_t1 v296 k1_t3) a + S1x128x1.size a ≤ S32x512x128.size a)
theorem k1_t2_ok : ∀ (k1_t1 : Fin k1_t1_loop.trips) (v296 : BitVec 32) (k1_hw1 : k1_chk1 k1_t1 v296), (k1_t2_loop v296).OK := fun k1_t1 v296 k1_hw1 => k1_hw1.1
theorem k1_mult1_dvd : ∀ (k1_t1 : Fin k1_t1_loop.trips) (v296 : BitVec 32) (k1_hw1 : k1_chk1 k1_t1 v296) (k1_t2 : Fin (k1_t2_loop v296).trips), 128 ∣ (k1_mult1 v296 k1_t2).toNat := fun k1_t1 v296 k1_hw1 k1_t2 => k1_hw1.2.1 k1_t2
theorem k1_off2_inb : ∀ (k1_t1 : Fin k1_t1_loop.trips) (v296 : BitVec 32) (k1_hw1 : k1_chk1 k1_t1 v296) (k1_t2 : Fin (k1_t2_loop v296).trips), ∀ a, (k1_off2 k1_t1 v296 k1_t2) a + S1x128x768.size a ≤ S32x512x768.size a := fun k1_t1 v296 k1_hw1 k1_t2 => k1_hw1.2.2.1 k1_t2
theorem k1_off3_inb : ∀ (k1_t1 : Fin k1_t1_loop.trips) (v296 : BitVec 32) (k1_hw1 : k1_chk1 k1_t1 v296) (k1_t2 : Fin (k1_t2_loop v296).trips), ∀ a, (k1_off3 k1_t1 v296 k1_t2) a + S1x128x1.size a ≤ S32x512x128.size a := fun k1_t1 v296 k1_hw1 k1_t2 => k1_hw1.2.2.2.1 k1_t2
theorem k1_t3_ok : ∀ (k1_t1 : Fin k1_t1_loop.trips) (v296 : BitVec 32) (k1_hw1 : k1_chk1 k1_t1 v296), (k1_t3_loop v296).OK := fun k1_t1 v296 k1_hw1 => k1_hw1.2.2.2.2.1
theorem k1_mult2_dvd : ∀ (k1_t1 : Fin k1_t1_loop.trips) (v296 : BitVec 32) (k1_hw1 : k1_chk1 k1_t1 v296) (k1_t3 : Fin (k1_t3_loop v296).trips), 128 ∣ (k1_mult2 v296 k1_t3).toNat := fun k1_t1 v296 k1_hw1 k1_t3 => k1_hw1.2.2.2.2.2.1 k1_t3
theorem k1_off4_inb : ∀ (k1_t1 : Fin k1_t1_loop.trips) (v296 : BitVec 32) (k1_hw1 : k1_chk1 k1_t1 v296) (k1_t3 : Fin (k1_t3_loop v296).trips), ∀ a, (k1_off4 k1_t1 v296 k1_t3) a + S1x128x768.size a ≤ S32x512x768.size a := fun k1_t1 v296 k1_hw1 k1_t3 => k1_hw1.2.2.2.2.2.2.1 k1_t3
theorem k1_off5_inb : ∀ (k1_t1 : Fin k1_t1_loop.trips) (v296 : BitVec 32) (k1_hw1 : k1_chk1 k1_t1 v296) (k1_t3 : Fin (k1_t3_loop v296).trips), ∀ a, (k1_off5 k1_t1 v296 k1_t3) a + S1x128x1.size a ≤ S32x512x128.size a := fun k1_t1 v296 k1_hw1 k1_t3 => k1_hw1.2.2.2.2.2.2.2 k1_t3

def k1_off6 (k1_t1 : Fin k1_t1_loop.trips) : Fin 2 → Nat :=
  let c0_i32_73 : BitVec 32 := 0#32
  let c0_i32_70 : BitVec 32 := 0#32
  let c1_i32 : BitVec 32 := 1#32
  let arg9 : BitVec 32 := Scf.iv c0_i32_70 c1_i32 k1_t1
  let c1_i32_72 : BitVec 32 := 1#32
  let v293 : BitVec 32 := Scalar.muli arg9 c1_i32_72
  let v294 : BitVec 32 := Scalar.addi c0_i32_73 v293
  let v315 : Index := Scalar.indexCast v294
  let c0_83 : Index := 0#32
  ![v315.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x512x768 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x384 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x6 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S32x50368 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x50368 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S32x50368 .i8 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== ReferenceIdeal.lean ====
abbrev S32x512x768 : Shape := ⟨3, ![32, 512, 768]⟩
abbrev S32x512 : Shape := ⟨2, ![32, 512]⟩
abbrev S32 : Shape := ⟨1, ![32]⟩
abbrev S768x768 : Shape := ⟨2, ![768, 768]⟩
abbrev S768 : Shape := ⟨1, ![768]⟩
abbrev S50368x384 : Shape := ⟨2, ![50368, 384]⟩
abbrev S50368x6 : Shape := ⟨2, ![50368, 6]⟩
abbrev S50368 : Shape := ⟨1, ![50368]⟩
abbrev S32x50368 : Shape := ⟨2, ![32, 50368]⟩
abbrev S1x1 : Shape := ⟨2, ![1, 1]⟩
abbrev S32x512x1 : Shape := ⟨3, ![32, 512, 1]⟩
abbrev S1x1x768 : Shape := ⟨3, ![1, 1, 768]⟩
abbrev S50368x6x1 : Shape := ⟨3, ![50368, 6, 1]⟩
abbrev S50368x6x64 : Shape := ⟨3, ![50368, 6, 64]⟩
abbrev S32x512x384x2 : Shape := ⟨4, ![32, 512, 384, 2]⟩
abbrev S32x512x384x1 : Shape := ⟨4, ![32, 512, 384, 1]⟩
abbrev S32x512x384 : Shape := ⟨3, ![32, 512, 384]⟩
abbrev S32x512x50368 : Shape := ⟨3, ![32, 512, 50368]⟩
abbrev S1x1x50368 : Shape := ⟨3, ![1, 1, 50368]⟩
abbrev S32x1 : Shape := ⟨2, ![32, 1]⟩
abbrev S1x50368 : Shape := ⟨2, ![1, 50368]⟩
abbrev S1 : Shape := ⟨1, ![1]⟩
abbrev S_ : Shape := ⟨0, ![]⟩

abbrev nBuf : Space → Nat
  | .hbm => 20
  | .vmem => 19
  | .smem => 0
  | _ => 0

abbrev bufTy : (tb : Table) → Fin (tcTables nBuf tb) → BufTy
  | .hbm, ⟨0, _⟩ => ⟨S32x512x768, .fp8e4m3⟩
  | .hbm, ⟨1, _⟩ => ⟨S32x512, .f32⟩
  | .hbm, ⟨2, _⟩ => ⟨S32, .i32⟩
  | .hbm, ⟨3, _⟩ => ⟨S768x768, .fp8e4m3⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S50368x384, .i8⟩
  | .hbm, ⟨9, _⟩ => ⟨S50368x6, .f32⟩
  | .hbm, ⟨10, _⟩ => ⟨S50368, .f32⟩
  | .hbm, ⟨11, _⟩ => ⟨S32x50368, .f32⟩
  | .hbm, ⟨12, _⟩ => ⟨S32, .f32⟩
  | .hbm, ⟨13, _⟩ => ⟨S50368, .f32⟩
  | .hbm, ⟨14, _⟩ => ⟨S1x1, .f32⟩
  | .hbm, ⟨15, _⟩ => ⟨S32x512x768, .fp8e4m3⟩
  | .hbm, ⟨16, _⟩ => ⟨S32x512, .f32⟩
  | .hbm, ⟨17, _⟩ => ⟨S32x50368, .i8⟩
  | .hbm, ⟨18, _⟩ => ⟨S32, .f32⟩
  | .hbm, ⟨19, _⟩ => ⟨S_, .f32⟩
  | .local _ .vmem, ⟨0, _⟩ => ⟨S32x512x768, .fp8e4m3⟩
  | .local _ .vmem, ⟨1, _⟩ => ⟨S32x512, .f32⟩
  | .local _ .vmem, ⟨2, _⟩ => ⟨S32, .i32⟩
  | .local _ .vmem, ⟨3, _⟩ => ⟨S768x768, .fp8e4m3⟩
  | .local _ .vmem, ⟨4, _⟩ => ⟨S768, .f32⟩
  | .local _ .vmem, ⟨5, _⟩ => ⟨S768, .f32⟩
  | .local _ .vmem, ⟨6, _⟩ => ⟨S768, .f32⟩
  | .local _ .vmem, ⟨7, _⟩ => ⟨S768, .f32⟩
  | .local _ .vmem, ⟨8, _⟩ => ⟨S50368x384, .i8⟩
  | .local _ .vmem, ⟨9, _⟩ => ⟨S50368x6, .f32⟩
  | .local _ .vmem, ⟨10, _⟩ => ⟨S50368, .f32⟩
  | .local _ .vmem, ⟨11, _⟩ => ⟨S32x50368, .f32⟩
  | .local _ .vmem, ⟨12, _⟩ => ⟨S32, .f32⟩
  | .local _ .vmem, ⟨13, _⟩ => ⟨S50368, .f32⟩
  | .local _ .vmem, ⟨14, _⟩ => ⟨S1x1, .f32⟩
  | .local _ .vmem, ⟨15, _⟩ => ⟨S32x512x768, .fp8e4m3⟩
  | .local _ .vmem, ⟨16, _⟩ => ⟨S32x512, .f32⟩
  | .local _ .vmem, ⟨17, _⟩ => ⟨S32x50368, .i8⟩
  | .local _ .vmem, ⟨18, _⟩ => ⟨S32, .f32⟩
  | _, _ => ⟨S32x512x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S32x512x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S50368x384 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S50368x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S50368 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x50368 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S50368 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x512x768 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x50368 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Kernel.Region0.lean ====
/- The body of @main's call 0 (`cc0_transform`) run on its windows' blocks: what it leaves in every output window, the
   pipeline's proof data and its body obligation, at any contents `V` of the buffers when the call is entered. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_transform` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ × UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ × UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ × UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ × UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ × UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ × UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ × UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x768 := Rect.unit (s := S1x512x768) ![0, 0, 0] S1x128x768.size inb_S1x512x768_S1x128x768_0_0_0
abbrev r0_1 : Rect S768x768 := Rect.unit (s := S768x768) ![0, 0] S768x768.size inb_S768x768_S768x768_0_0
abbrev r0_2 : Rect S1x1x512 := Rect.unit (s := S1x1x512) ![0, 0, 0] S1x1x128.size inb_S1x1x512_S1x1x128_0_0_0
abbrev r0_3 : Rect S1x768 := Rect.unit (s := S1x768) ![0, 0] S1x768.size inb_S1x768_S1x768_0_0
abbrev r0_4 : Rect S1x512x128 := Rect.unit (s := S1x512x128) ![0, 0, 0] S1x128x128.size inb_S1x512x128_S1x128x128_0_0_0
abbrev r0_5 : Rect S1x512x768 := Rect.unit (s := S1x512x768) ![0, 128, 0] S1x128x768.size inb_S1x512x768_S1x128x768_0_128_0
abbrev r0_6 : Rect S1x1x512 := Rect.unit (s := S1x1x512) ![0, 0, 128] S1x1x128.size inb_S1x1x512_S1x1x128_0_0_128
abbrev r0_7 : Rect S1x512x128 := Rect.unit (s := S1x512x128) ![0, 128, 0] S1x128x128.size inb_S1x512x128_S1x128x128_0_128_0
abbrev r0_8 : Rect S1x512x768 := Rect.unit (s := S1x512x768) ![0, 256, 0] S1x128x768.size inb_S1x512x768_S1x128x768_0_256_0
abbrev r0_9 : Rect S1x1x512 := Rect.unit (s := S1x1x512) ![0, 0, 256] S1x1x128.size inb_S1x1x512_S1x1x128_0_0_256
abbrev r0_10 : Rect S1x512x128 := Rect.unit (s := S1x512x128) ![0, 256, 0] S1x128x128.size inb_S1x512x128_S1x128x128_0_256_0
abbrev r0_11 : Rect S1x512x768 := Rect.unit (s := S1x512x768) ![0, 384, 0] S1x128x768.size inb_S1x512x768_S1x128x768_0_384_0
abbrev r0_12 : Rect S1x1x512 := Rect.unit (s := S1x1x512) ![0, 0, 384] S1x1x128.size inb_S1x1x512_S1x1x128_0_0_384
abbrev r0_13 : Rect S1x512x128 := Rect.unit (s := S1x512x128) ![0, 384, 0] S1x128x128.size inb_S1x512x128_S1x128x128_0_384_0

/-! ## What the body leaves in each output window's buffer -/

/-! ### Values of the body that the stores' payloads, spelt out, would write more than once

    Each is a vector the body binds (often a part call's result), stated over the input windows' blocks and
    numbered on from the skeleton's payload functions (`k0_pay35` …, after `k0_pay34`), so that
    `out0_W` and the values after it name it instead of spelling it out (`unfold_out out0_W` opens a canon
    with them, `unfold_payloads` opens them with the payloads); the comment after each is the printed function's
    name for the value (a count appended where that name is bound again). -/

def k0_pay35 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay4 (View.ld x0 r0_0) (View.ld x2 r0_1) (View.ld x1 r0_2) (View.ld x3 r0_3) (View.ld x4 r0_3) -- `v33`
def k0_pay36 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x1 .f32 :=
  k0_pay5 (View.ld x0 r0_0) (View.ld x2 r0_1) (View.ld x1 r0_2) (View.ld x3 r0_3) (View.ld x4 r0_3) -- `v38`
def k0_pay37 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay13 (View.ld x0 r0_5) (View.ld x2 r0_1) (View.ld x1 r0_6) (View.ld x3 r0_3) (View.ld x4 r0_3) -- `v114`
def k0_pay38 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128 .f32 :=
  k0_pay14 (View.ld x0 r0_5) (View.ld x2 r0_1) (View.ld x1 r0_6) (View.ld x3 r0_3) (View.ld x4 r0_3) -- `v116`
def k0_pay39 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay21 (View.ld x0 r0_8) (View.ld x2 r0_1) (View.ld x1 r0_9) (View.ld x3 r0_3) (View.ld x4 r0_3) -- `v189`
def k0_pay40 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay22 (View.ld x0 r0_8) (View.ld x2 r0_1) (View.ld x1 r0_9) (View.ld x3 r0_3) (View.ld x4 r0_3) -- `v194`
def k0_pay41 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x128 .f32 :=
  k0_pay26 (k0_pay39 x0 x1 x2 x3 x4 x5 x6) (k0_pay40 x0 x1 x2 x3 x4 x5 x6) (View.ld x5 r0_3) (View.ld x6 r0_3) -- `v234`
def k0_pay42 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay29 (View.ld x0 r0_11) (View.ld x2 r0_1) (View.ld x1 r0_12) (View.ld x3 r0_3) (View.ld x4 r0_3) -- `v270`
def k0_pay43 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x1 .f32 :=
  k0_pay30 (View.ld x0 r0_11) (View.ld x2 r0_1) (View.ld x1 r0_12) (View.ld x3 r0_3) (View.ld x4 r0_3) -- `v272`
def k0_pay44 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x1 .f32 :=
  k0_pay34 (k0_pay42 x0 x1 x2 x3 x4 x5 x6) (k0_pay43 x0 x1 x2 x3 x4 x5 x6) (View.ld x5 r0_3) (View.ld x6 r0_3) -- `v314`

/-- Window 7's staging buffer after the body, from the input windows' blocks: its 4 stores as pieces, LAST
    FIRST (Lib/Pipeline/FrameBody.lean `View.canon`; the payloads are the skeleton's and the values stated above). -/
def out0_7 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : Vec F S1x512x768 .fp8e4m3 :=
  View.canon [⟨r0_11, k0_pay33 (k0_pay42 x0 x1 x2 x3 x4 x5 x6) (k0_pay43 x0 x1 x2 x3 x4 x5 x6) (View.ld x5 r0_3) (View.ld x6 r0_3)⟩,
    ⟨r0_8, k0_pay25 (k0_pay39 x0 x1 x2 x3 x4 x5 x6) (k0_pay40 x0 x1 x2 x3 x4 x5 x6) (View.ld x5 r0_3) (View.ld x6 r0_3)⟩,
    ⟨r0_5, k0_pay17 (k0_pay37 x0 x1 x2 x3 x4 x5 x6) (k0_pay38 x0 x1 x2 x3 x4 x5 x6) (View.ld x5 r0_3) (View.ld x6 r0_3)⟩,
    ⟨r0_0, k0_pay8 (k0_pay35 x0 x1 x2 x3 x4 x5 x6) (k0_pay36 x0 x1 x2 x3 x4 x5 x6) (View.ld x5 r0_3) (View.ld x6 r0_3)⟩]

/-- Its stores tile the buffer (checked by evaluation), so they cover it. -/
theorem cover0_7 (p0 : Vec F S1x128x768 .fp8e4m3) (p1 : Vec F S1x128x768 .fp8e4m3) (p2 : Vec F S1x128x768 .fp8e4m3) (p3 : Vec F S1x128x768 .fp8e4m3) (y : S1x512x768.Idx) :
    ∃ pc ∈ ([⟨r0_11, p0⟩, ⟨r0_8, p1⟩, ⟨r0_5, p2⟩, ⟨r0_0, p3⟩] : List (View.Piece (Elt F) S1x512x768 .fp8e4m3)), y ∈ pc.1.set :=
  View.cover_of_tiled [⟨r0_11, p0⟩, ⟨r0_8, p1⟩, ⟨r0_5, p2⟩, ⟨r0_0, p3⟩] S1x128x768.size (by rfl) y

/-- Window 8's staging buffer after the body, from the input windows' blocks: its 4 stores as pieces, LAST
    FIRST (Lib/Pipeline/FrameBody.lean `View.canon`; the payloads are the skeleton's and the values stated above). -/
def out0_8 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : Vec F S1x1x512 .f32 :=
  View.canon [⟨r0_12, k0_pay3 (k0_pay44 x0 x1 x2 x3 x4 x5 x6)⟩,
    ⟨r0_9, k0_pay28 (k0_pay41 x0 x1 x2 x3 x4 x5 x6)⟩,
    ⟨r0_6, k0_pay20 (k0_pay18 (k0_pay37 x0 x1 x2 x3 x4 x5 x6) (k0_pay38 x0 x1 x2 x3 x4 x5 x6) (View.ld x5 r0_3) (View.ld x6 r0_3))⟩,
    ⟨r0_2, k0_pay12 (k0_pay11 (k0_pay35 x0 x1 x2 x3 x4 x5 x6) (k0_pay36 x0 x1 x2 x3 x4 x5 x6) (View.ld x5 r0_3) (View.ld x6 r0_3))⟩]

/-- Its stores tile the buffer (checked by evaluation), so they cover it. -/
theorem cover0_8 (p0 : Vec F S1x1x128 .f32) (p1 : Vec F S1x1x128 .f32) (p2 : Vec F S1x1x128 .f32) (p3 : Vec F S1x1x128 .f32) (y : S1x1x512.Idx) :
    ∃ pc ∈ ([⟨r0_12, p0⟩, ⟨r0_9, p1⟩, ⟨r0_6, p2⟩, ⟨r0_2, p3⟩] : List (View.Piece (Elt F) S1x1x512 .f32)), y ∈ pc.1.set :=
  View.cover_of_tiled [⟨r0_12, p0⟩, ⟨r0_9, p1⟩, ⟨r0_6, p2⟩, ⟨r0_2, p3⟩] S1x1x128.size (by rfl) y

/-- Window 9's staging buffer after the body, from the input windows' blocks: its 4 stores as pieces, LAST
    FIRST (Lib/Pipeline/FrameBody.lean `View.canon`; the payloads are the skeleton's and the values stated above). -/
def out0_9 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : Vec F S1x512x128 .f32 :=
  View.canon [⟨r0_13, k0_pay2 (k0_pay44 x0 x1 x2 x3 x4 x5 x6)⟩,
    ⟨r0_10, k0_pay27 (k0_pay41 x0 x1 x2 x3 x4 x5 x6)⟩,
    ⟨r0_7, k0_pay19 (k0_pay37 x0 x1 x2 x3 x4 x5 x6) (k0_pay38 x0 x1 x2 x3 x4 x5 x6) (View.ld x5 r0_3) (View.ld x6 r0_3)⟩,
    ⟨r0_4, k0_pay10 (k0_pay35 x0 x1 x2 x3 x4 x5 x6) (k0_pay36 x0 x1 x2 x3 x4 x5 x6) (View.ld x5 r0_3) (View.ld x6 r0_3)⟩]

/-- Its stores tile the buffer (checked by evaluation), so they cover it. -/
theorem cover0_9 (p0 : Vec F S1x128x128 .f32) (p1 : Vec F S1x128x128 .f32) (p2 : Vec F S1x128x128 .f32) (p3 : Vec F S1x128x128 .f32) (y : S1x512x128.Idx) :
    ∃ pc ∈ ([⟨r0_13, p0⟩, ⟨r0_10, p1⟩, ⟨r0_7, p2⟩, ⟨r0_4, p3⟩] : List (View.Piece (Elt F) S1x512x128 .f32)), y ∈ pc.1.set :=
  View.cover_of_tiled [⟨r0_13, p0⟩, ⟨r0_10, p1⟩, ⟨r0_7, p2⟩, ⟨r0_4, p3⟩] S1x128x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x512x768 .fp8e4m3) (harg1 : arg1.IsWhole) (arg2 : Memref sig .tc .vmem S1x1x512 .f32) (harg2 : arg2.IsWhole) (arg3 : Memref sig .tc .vmem S768x768 .fp8e4m3) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1x512x768 .fp8e4m3) (harg8 : arg8.IsWhole) (arg9 : Memref sig .tc .vmem S1x1x512 .f32) (harg9 : arg9.IsWhole) (arg10 : Memref sig .tc .vmem S1x512x128 .f32) (harg10 : arg10.IsWhole)
    (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0_transform i arg1 harg1 arg2 harg2 arg3 harg3 arg4 harg4 arg5 harg5 arg6 harg6 arg7 harg7 arg8 harg8 arg9 harg9 arg10 harg10) K := by
  simp only [cc0_transform_eq_skeleton]; unfold cc0_transform_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _ _ _ _)).trans ?_
    rfl
  iexists _; isplitr
  swap; · iexact H9
  ipureintro
  refine (View.read_writes_eq_canon _ _ _ (cover0_9 _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ × UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.Kernel.DocLoops.lean ====
/- The loops of @main's call 1 (`cc1_logits`): over the documents, and inside each over its 128-token chunks. What every
   loop computes is a plain recursion on the arrays read, and the loops run by these as invariants. -/
module

public import proofs.«01_k».proof.Proof.Gen.Kernel.Loops
public import Idealize.ShloMosaic.Lib.Pipeline.FrameBody
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × UR sig nD τ) ℕ

/-- Document `k1_t1`'s running maximum after `k` of its chunks, from `init`. -/
def docChunks (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) : ℕ → FVec F S8x512 .f32
  | 0 => init
  | k + 1 => if h : k < (k1_t2_loop v296).trips then
      k1_pay6 v296 ⟨k, h⟩ (docChunks k1_t1 v296 hw z s w init k)
        (View.ld z (Rect.unit (s := S32x512x768) (k1_off2 k1_t1 v296 ⟨k, h⟩) S1x128x768.size (k1_off2_inb k1_t1 v296 hw ⟨k, h⟩)))
        (View.ld w (Rect.unit (s := S768x512) ![0, 0] S768x512.size inb_S768x512_S768x512_0_0))
        (View.ld s (Rect.unit (s := S32x512x128) (k1_off3 k1_t1 v296 ⟨k, h⟩) S1x128x1.size (k1_off3_inb k1_t1 v296 hw ⟨k, h⟩)))
    else docChunks k1_t1 v296 hw z s w init k

theorem docChunks_zero (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) :
    docChunks k1_t1 v296 hw z s w init 0 = init := rfl

theorem docChunks_succ (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) (k : Fin (k1_t2_loop v296).trips) :
    docChunks k1_t1 v296 hw z s w init (k.val + 1) = k1_pay6 v296 k (docChunks k1_t1 v296 hw z s w init k.val)
        (View.ld z (Rect.unit (s := S32x512x768) (k1_off2 k1_t1 v296 k) S1x128x768.size (k1_off2_inb k1_t1 v296 hw k)))
        (View.ld w (Rect.unit (s := S768x512) ![0, 0] S768x512.size inb_S768x512_S768x512_0_0))
        (View.ld s (Rect.unit (s := S32x512x128) (k1_off3 k1_t1 v296 k) S1x128x1.size (k1_off3_inb k1_t1 v296 hw k))) := by
  rw [docChunks]; exact dif_pos k.isLt

set_option maxHeartbeats 4000000 in
set_option warn.classDefReducibility false in
/-- That loop by its invariant: the arrays it reads stay, and the carried value is the recursion's. -/
@[sl_loop] def loopRun_k1_t2 (𝒱 : Variants) (c : Dev nD) (bd : Option 𝒱.V) (E : Set ℕ) (i : grid1.Coords) (arg1 : Memref sig .tc .smem S32 .i32) (harg1 : arg1.IsWhole) (arg2 : Memref sig .tc .vmem S32x512x768 .fp8e4m3) (harg2 : arg2.IsWhole) (arg3 : Memref sig .tc .vmem S32x512x128 .f32) (harg3 : arg3.IsWhole) (arg4 : Memref sig .tc .vmem S512x384 .i8) (harg4 : arg4.IsWhole) (arg5 : Memref sig .tc .vmem S512x6 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S768x512 .bf16) (harg8 : arg8.IsWhole) (k1_t1 : Fin k1_t1_loop.trips) (v296 : Elt F .i32) (k1_hw1 : k1_chk1 k1_t1 v296) (X2 : BufTy.Contents (Elt F) arg2.view.ty) (X3 : BufTy.Contents (Elt F) arg3.view.ty) (X8 : BufTy.Contents (Elt F) arg8.view.ty) (init : FVec F S8x512 .f32) :
    LoopInvTy_k1_t2 (F := F) Unit ℕ (UR sig nD τ × UR sig nD τ) ℕ 𝒱 c bd E i arg1 harg1 arg2 harg2 arg3 harg3 arg4 harg4 arg5 harg5 arg6 harg6 arg7 harg7 arg8 harg8 k1_t1 v296 k1_hw1 init where
  inv k acc := iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8)
    ∗ ⌜acc = docChunks k1_t1 v296 k1_hw1 (arg2.view.read (Elt F) X2) (arg3.view.read (Elt F) X3) (arg8.view.read (Elt F) X8) init k⌝)
  step k acc := by
    iintro ⟨H2, H3, H8, %h_acc⟩
    subst h_acc
    unfold k1_t2_body
    sl_exec
    sl_step
    isplitl [H2]; · iexact H2
    isplitl [H3]; · iexact H3
    isplitl [H8]; · iexact H8
    ipureintro
    rw [docChunks_succ]; rfl

/-- The same over the chunks the first loop leaves out (there are none). -/
def docRest (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) : ℕ → FVec F S8x512 .f32
  | 0 => init
  | k + 1 => if h : k < (k1_t3_loop v296).trips then
      k1_pay7 v296 ⟨k, h⟩ (docRest k1_t1 v296 hw z s w init k)
        (View.ld z (Rect.unit (s := S32x512x768) (k1_off4 k1_t1 v296 ⟨k, h⟩) S1x128x768.size (k1_off4_inb k1_t1 v296 hw ⟨k, h⟩)))
        (View.ld w (Rect.unit (s := S768x512) ![0, 0] S768x512.size inb_S768x512_S768x512_0_0))
        (View.ld s (Rect.unit (s := S32x512x128) (k1_off5 k1_t1 v296 ⟨k, h⟩) S1x128x1.size (k1_off5_inb k1_t1 v296 hw ⟨k, h⟩)))
    else docRest k1_t1 v296 hw z s w init k

theorem docRest_zero (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) :
    docRest k1_t1 v296 hw z s w init 0 = init := rfl

theorem docRest_succ (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) (k : Fin (k1_t3_loop v296).trips) :
    docRest k1_t1 v296 hw z s w init (k.val + 1) = k1_pay7 v296 k (docRest k1_t1 v296 hw z s w init k.val)
        (View.ld z (Rect.unit (s := S32x512x768) (k1_off4 k1_t1 v296 k) S1x128x768.size (k1_off4_inb k1_t1 v296 hw k)))
        (View.ld w (Rect.unit (s := S768x512) ![0, 0] S768x512.size inb_S768x512_S768x512_0_0))
        (View.ld s (Rect.unit (s := S32x512x128) (k1_off5 k1_t1 v296 k) S1x128x1.size (k1_off5_inb k1_t1 v296 hw k))) := by
  rw [docRest]; exact dif_pos k.isLt

set_option maxHeartbeats 4000000 in
set_option warn.classDefReducibility false in
/-- That loop by its invariant: the arrays it reads stay, and the carried value is the recursion's. -/
@[sl_loop] def loopRun_k1_t3 (𝒱 : Variants) (c : Dev nD) (bd : Option 𝒱.V) (E : Set ℕ) (i : grid1.Coords) (arg1 : Memref sig .tc .smem S32 .i32) (harg1 : arg1.IsWhole) (arg2 : Memref sig .tc .vmem S32x512x768 .fp8e4m3) (harg2 : arg2.IsWhole) (arg3 : Memref sig .tc .vmem S32x512x128 .f32) (harg3 : arg3.IsWhole) (arg4 : Memref sig .tc .vmem S512x384 .i8) (harg4 : arg4.IsWhole) (arg5 : Memref sig .tc .vmem S512x6 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S768x512 .bf16) (harg8 : arg8.IsWhole) (k1_t1 : Fin k1_t1_loop.trips) (v296 : Elt F .i32) (k1_hw1 : k1_chk1 k1_t1 v296) (X2 : BufTy.Contents (Elt F) arg2.view.ty) (X3 : BufTy.Contents (Elt F) arg3.view.ty) (X8 : BufTy.Contents (Elt F) arg8.view.ty) (init : FVec F S8x512 .f32) :
    LoopInvTy_k1_t3 (F := F) Unit ℕ (UR sig nD τ × UR sig nD τ) ℕ 𝒱 c bd E i arg1 harg1 arg2 harg2 arg3 harg3 arg4 harg4 arg5 harg5 arg6 harg6 arg7 harg7 arg8 harg8 k1_t1 v296 k1_hw1 init where
  inv k acc := iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8)
    ∗ ⌜acc = docRest k1_t1 v296 k1_hw1 (arg2.view.read (Elt F) X2) (arg3.view.read (Elt F) X3) (arg8.view.read (Elt F) X8) init k⌝)
  step k acc := by
    iintro ⟨H2, H3, H8, %h_acc⟩
    subst h_acc
    unfold k1_t3_body
    sl_exec
    sl_step
    isplitl [H2]; · iexact H2
    isplitl [H3]; · iexact H3
    isplitl [H8]; · iexact H8
    ipureintro
    rw [docRest_succ]; rfl

/-- Document `k1_t1`'s row of the output: its running maximum over all chunks, with the bias and the activation. -/
def docRow (k1_t1 : Fin k1_t1_loop.trips) (v296 : BitVec 32) (hw : k1_chk1 k1_t1 v296) (z : Vec F S32x512x768 .fp8e4m3)
    (s : Vec F S32x512x128 .f32) (w : Vec F S768x512 .bf16) (b : Vec F S1x512 .f32) : FVec F S1x512 .f32 :=
  k1_pay8 (docRest k1_t1 v296 hw z s w (docChunks k1_t1 v296 hw z s w k1_pay5 (k1_t2_loop v296).trips) (k1_t3_loop v296).trips)
    (View.ld b (Rect.unit (s := S1x512) ![0, 0] S1x512.size inb_S1x512_S1x512_0_0))

/-- The length the table holds for document `k1_t1`. -/
def lenAt (x : Vec F S32 .i32) (k1_t1 : Fin k1_t1_loop.trips) : BitVec 32 :=
  View.ld (Val := Elt F) x (Rect.unit (s := S32) (k1_off1 k1_t1) S1.size (k1_off1_inb k1_t1)) (Shape.Idx.first (numel1_S1.symm ▸ Nat.one_pos))

/-- Every document's length satisfies the body's side condition. -/
def LensOK (x : Vec F S32 .i32) : Prop := ∀ t, k1_chk1 t (lenAt x t)

/-- The output's row stores, of the documents before `k`, the last first. -/
def docRows (x : Vec F S32 .i32) (hl : LensOK x) (z : Vec F S32x512x768 .fp8e4m3)
    (s : Vec F S32x512x128 .f32) (w : Vec F S768x512 .bf16) (b : Vec F S1x512 .f32) : ℕ → List (View.Piece (Elt F) S32x512 .f32)
  | 0 => []
  | k + 1 => if h : k < k1_t1_loop.trips then
      ⟨Rect.unit (s := S32x512) (k1_off6 ⟨k, h⟩) S1x512.size (k1_off6_inb ⟨k, h⟩), docRow ⟨k, h⟩ (lenAt x ⟨k, h⟩) (hl ⟨k, h⟩) z s w b⟩ :: docRows x hl z s w b k
    else docRows x hl z s w b k

theorem docRows_succ (x : Vec F S32 .i32) (hl : LensOK x) (z : Vec F S32x512x768 .fp8e4m3)
    (s : Vec F S32x512x128 .f32) (w : Vec F S768x512 .bf16) (b : Vec F S1x512 .f32) (k : Fin k1_t1_loop.trips) :
    docRows x hl z s w b (k.val + 1)
      = ⟨Rect.unit (s := S32x512) (k1_off6 k) S1x512.size (k1_off6_inb k), docRow k (lenAt x k) (hl k) z s w b⟩ :: docRows x hl z s w b k.val := by
  rw [docRows]; exact dif_pos k.isLt

set_option maxHeartbeats 4000000 in
set_option warn.classDefReducibility false in
/-- The loop over the documents by its invariant: what it reads stays, and the output holds the rows stored so far. -/
@[sl_loop] def loopRun_k1_t1 (𝒱 : Variants) (c : Dev nD) (bd : Option 𝒱.V) (E : Set ℕ) (i : grid1.Coords) (arg1 : Memref sig .tc .smem S32 .i32) (harg1 : arg1.IsWhole) (arg2 : Memref sig .tc .vmem S32x512x768 .fp8e4m3) (harg2 : arg2.IsWhole) (arg3 : Memref sig .tc .vmem S32x512x128 .f32) (harg3 : arg3.IsWhole) (arg4 : Memref sig .tc .vmem S512x384 .i8) (harg4 : arg4.IsWhole) (arg5 : Memref sig .tc .vmem S512x6 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S768x512 .bf16) (harg8 : arg8.IsWhole)
    (X1 : BufTy.Contents (Elt F) arg1.view.ty) (hl : LensOK (arg1.view.read (Elt F) X1)) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) :
    LoopInvTy_k1_t1 (F := F) Unit ℕ (UR sig nD τ × UR sig nD τ) ℕ 𝒱 c bd E i arg1 harg1 arg2 harg2 arg3 harg3 arg4 harg4 arg5 harg5 arg6 harg6 arg7 harg7 arg8 harg8 where
  inv k acc := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg8.view.loc (c : Thread nD τ) ↦[arg8.view.set]{fullShare} X8)
    ∗ (arg7.view.loc (c : Thread nD τ) ↦[arg7.view.set]{fullShare} arg7.view.writes (Elt F) X7 (docRows (arg1.view.read (Elt F) X1) hl (arg2.view.read (Elt F) X2) (arg3.view.read (Elt F) X3) (arg8.view.read (Elt F) X8) (arg6.view.read (Elt F) X6) k)))
  step k acc := by
    iintro ⟨H1, H2, H3, H6, H8, H7⟩
    unfold k1_t1_body
    sl_exec
    have h_chk : k1_chk1 k (loopRun_k1_t1.sl.r arg1 X1 k) := hl k
    have e_r : lenAt (arg1.view.read (Elt F) X1) k = loopRun_k1_t1.sl.r arg1 X1 k := rfl
    rw [docRows_succ]
    revert h_chk e_r
    generalize loopRun_k1_t1.sl.r arg1 X1 k = w
    intro h_chk e_r
    iapply (wp_assume _ _ _ _ h_chk)
    sl_exec
    sl_step
    isplitl [H1]; · iexact H1
    isplitl [H2]; · iexact H2
    isplitl [H3]; · iexact H3
    isplitl [H6]; · iexact H6
    isplitl [H8]; · iexact H8
    subst e_r
    iexact H7

end Cert.Kernel.Gen

end
-- ==== Proof.Kernel.Body1.lean ====
/- The body of @main's call 1 (`cc1_logits`), run on its windows' blocks: the unpacked weights the scratch buffer ends
   with, and the output tile. -/
module

public import proofs.«01_k».proof.Proof.Kernel.DocLoops
public import proofs.«01_k».proof.Proof.Gen.Kernel.Launch
public import proofs.«01_k».proof.Proof.Gen.Kernel.Skeleton
public import Idealize.ShloMosaic.Lib.Pipeline.FrameBody
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × UR sig nD τ) ℕ

/-! ## The scratch buffer's weights -/

/-- The packed block's rows 0 to 127, -/
def packed0 (x4 : Vec F S512x384 .i8) : Vec F S128x384 .i8 := View.ld x4 (Rect.unit (s := S512x384) ![0, 0] S128x384.size inb_S512x384_S128x384_0_0)
/-- 128 to 255, -/
def packed1 (x4 : Vec F S512x384 .i8) : Vec F S128x384 .i8 := View.ld x4 (Rect.unit (s := S512x384) ![128, 0] S128x384.size inb_S512x384_S128x384_128_0)
/-- 256 to 383, -/
def packed2 (x4 : Vec F S512x384 .i8) : Vec F S128x384 .i8 := View.ld x4 (Rect.unit (s := S512x384) ![256, 0] S128x384.size inb_S512x384_S128x384_256_0)
/-- and 384 to 511. -/
def packed3 (x4 : Vec F S512x384 .i8) : Vec F S128x384 .i8 := View.ld x4 (Rect.unit (s := S512x384) ![384, 0] S128x384.size inb_S512x384_S128x384_384_0)
/-- The group scales' block. -/
def gsOf (x5 : Vec F S512x6 .f32) : Vec F S512x6 .f32 := View.ld x5 (Rect.unit (s := S512x6) ![0, 0] S512x6.size inb_S512x6_S512x6_0_0)
/-- Four rows' packed bytes in one 32-bit word, transposed. -/
def wordsOf (x4 : Vec F S512x384 .i8) : IVec S384x128 32 := k1_pay9 (F := F) (packed0 x4) (packed1 x4) (packed2 x4) (packed3 x4)

/-- The scratch buffer's stores, the last first. -/
def scrPieces (x4 : Vec F S512x384 .i8) (x5 : Vec F S512x6 .f32) : List (View.Piece (Elt F) S768x512 .bf16) :=
  [⟨Rect.unit (s := S768x512) ![640, 384] S128x128.size inb_S768x512_S128x128_640_384, k1_pay4 (k1_pay10 (gsOf x5)) (k1_pay37 (F := F) (wordsOf x4))⟩,
   ⟨Rect.unit (s := S768x512) ![512, 384] S128x128.size inb_S768x512_S128x128_512_384, k1_pay3 (k1_pay10 (gsOf x5)) (k1_pay37 (F := F) (wordsOf x4))⟩,
   ⟨Rect.unit (s := S768x512) ![384, 384] S128x128.size inb_S768x512_S128x128_384_384, k1_pay2 (k1_pay10 (gsOf x5)) (k1_pay37 (F := F) (wordsOf x4))⟩,
   ⟨Rect.unit (s := S768x512) ![256, 384] S128x128.size inb_S768x512_S128x128_256_384, k1_pay1 (k1_pay40 (wordsOf x4) (k1_pay10 (gsOf x5)))⟩,
   ⟨Rect.unit (s := S768x512) ![128, 384] S128x128.size inb_S768x512_S128x128_128_384, k1_pay39 (wordsOf x4) (k1_pay10 (gsOf x5))⟩,
   ⟨Rect.unit (s := S768x512) ![0, 384] S128x128.size inb_S768x512_S128x128_0_384, k1_pay38 (wordsOf x4) (k1_pay10 (gsOf x5))⟩,
   ⟨Rect.unit (s := S768x512) ![640, 256] S128x128.size inb_S768x512_S128x128_640_256, k1_pay36 (k1_pay28 (F := F) (wordsOf x4)) (k1_pay35 (k1_pay10 (gsOf x5)))⟩,
   ⟨Rect.unit (s := S768x512) ![512, 256] S128x128.size inb_S768x512_S128x128_512_256, k1_pay34 (k1_pay10 (gsOf x5)) (k1_pay28 (F := F) (wordsOf x4))⟩,
   ⟨Rect.unit (s := S768x512) ![384, 256] S128x128.size inb_S768x512_S128x128_384_256, k1_pay33 (k1_pay10 (gsOf x5)) (k1_pay28 (F := F) (wordsOf x4))⟩,
   ⟨Rect.unit (s := S768x512) ![256, 256] S128x128.size inb_S768x512_S128x128_256_256, k1_pay32 (k1_pay10 (gsOf x5)) (k1_pay28 (F := F) (wordsOf x4))⟩,
   ⟨Rect.unit (s := S768x512) ![128, 256] S128x128.size inb_S768x512_S128x128_128_256, k1_pay31 (k1_pay10 (gsOf x5)) (k1_pay28 (F := F) (wordsOf x4))⟩,
   ⟨Rect.unit (s := S768x512) ![0, 256] S128x128.size inb_S768x512_S128x128_0_256, k1_pay30 (k1_pay28 (F := F) (wordsOf x4)) (k1_pay29 (k1_pay10 (gsOf x5)))⟩,
   ⟨Rect.unit (s := S768x512) ![640, 128] S128x128.size inb_S768x512_S128x128_640_128, k1_pay27 (k1_pay10 (gsOf x5)) (k1_pay20 (F := F) (wordsOf x4))⟩,
   ⟨Rect.unit (s := S768x512) ![512, 128] S128x128.size inb_S768x512_S128x128_512_128, k1_pay26 (k1_pay10 (gsOf x5)) (k1_pay20 (F := F) (wordsOf x4))⟩,
   ⟨Rect.unit (s := S768x512) ![384, 128] S128x128.size inb_S768x512_S128x128_384_128, k1_pay25 (k1_pay10 (gsOf x5)) (k1_pay20 (F := F) (wordsOf x4))⟩,
   ⟨Rect.unit (s := S768x512) ![256, 128] S128x128.size inb_S768x512_S128x128_256_128, k1_pay24 (k1_pay23 (wordsOf x4) (k1_pay10 (gsOf x5)))⟩,
   ⟨Rect.unit (s := S768x512) ![128, 128] S128x128.size inb_S768x512_S128x128_128_128, k1_pay22 (wordsOf x4) (k1_pay10 (gsOf x5))⟩,
   ⟨Rect.unit (s := S768x512) ![0, 128] S128x128.size inb_S768x512_S128x128_0_128, k1_pay21 (wordsOf x4) (k1_pay10 (gsOf x5))⟩,
   ⟨Rect.unit (s := S768x512) ![640, 0] S128x128.size inb_S768x512_S128x128_640_0, k1_pay19 (k1_pay18 (k1_pay10 (gsOf x5)) (k1_pay11 (packed0 x4) (packed1 x4) (packed2 x4) (packed3 x4)))⟩,
   ⟨Rect.unit (s := S768x512) ![512, 0] S128x128.size inb_S768x512_S128x128_512_0, k1_pay17 (k1_pay10 (gsOf x5)) (k1_pay11 (packed0 x4) (packed1 x4) (packed2 x4) (packed3 x4))⟩,
   ⟨Rect.unit (s := S768x512) ![384, 0] S128x128.size inb_S768x512_S128x128_384_0, k1_pay16 (k1_pay10 (gsOf x5)) (k1_pay11 (packed0 x4) (packed1 x4) (packed2 x4) (packed3 x4))⟩,
   ⟨Rect.unit (s := S768x512) ![256, 0] S128x128.size inb_S768x512_S128x128_256_0, k1_pay15 (k1_pay10 (gsOf x5)) (k1_pay11 (packed0 x4) (packed1 x4) (packed2 x4) (packed3 x4))⟩,
   ⟨Rect.unit (s := S768x512) ![128, 0] S128x128.size inb_S768x512_S128x128_128_0, k1_pay14 (k1_pay10 (gsOf x5)) (k1_pay11 (packed0 x4) (packed1 x4) (packed2 x4) (packed3 x4))⟩,
   ⟨Rect.unit (s := S768x512) ![0, 0] S128x128.size inb_S768x512_S128x128_0_0, k1_pay13 (k1_pay12 (packed0 x4) (packed1 x4) (packed2 x4) (packed3 x4) (gsOf x5))⟩]

/-- The scratch buffer's weights, from the packed block and the group scales. -/
def scr (x4 : Vec F S512x384 .i8) (x5 : Vec F S512x6 .f32) : Vec F S768x512 .bf16 := View.canon (scrPieces x4 x5)

set_option maxHeartbeats 4000000 in
/-- The stores tile the scratch buffer. -/
theorem scr_cover (x4 : Vec F S512x384 .i8) (x5 : Vec F S512x6 .f32) (y : S768x512.Idx) : ∃ pc ∈ scrPieces x4 x5, y ∈ pc.1.set :=
  View.cover_of_tiled (scrPieces x4 x5) S128x128.size (by rfl) y

/-! ## The output tile -/

/-- The output tile: row `k` is document `k`'s. -/
def tile (x1 : Vec F S32 .i32) (hl : LensOK x1) (x2 : Vec F S32x512x768 .fp8e4m3) (x3 : Vec F S32x512x128 .f32)
    (x4 : Vec F S512x384 .i8) (x5 : Vec F S512x6 .f32) (x6 : Vec F S1x512 .f32) : Vec F S32x512 .f32 :=
  View.canon (docRows x1 hl x2 x3 (scr x4 x5) x6 32)

/-- Every document's row has been stored. -/
theorem docRows_mem (x : Vec F S32 .i32) (hl : LensOK x) (z : Vec F S32x512x768 .fp8e4m3)
    (s : Vec F S32x512x128 .f32) (w : Vec F S768x512 .bf16) (b : Vec F S1x512 .f32) (k : ℕ) (t : Fin k1_t1_loop.trips) (h : t.val < k) :
    (⟨Rect.unit (s := S32x512) (k1_off6 t) S1x512.size (k1_off6_inb t), docRow t (lenAt x t) (hl t) z s w b⟩ : View.Piece (Elt F) S32x512 .f32)
      ∈ docRows x hl z s w b k := by
  induction k with
  | zero => exact absurd h (Nat.not_lt_zero _)
  | succ k ih =>
    rw [docRows]
    by_cases hk : k < k1_t1_loop.trips
    · rw [dif_pos hk]
      rcases Nat.lt_succ_iff_lt_or_eq.mp h with h | h
      · exact List.mem_cons_of_mem _ (ih h)
      · have : t = ⟨k, hk⟩ := Fin.ext h
        subst this; exact List.mem_cons_self
    · rw [dif_neg hk]
      exact ih (lt_of_lt_of_le t.isLt (Nat.not_lt.mp hk))

/-- Row `t` of the output is where document `t`'s store goes. -/
theorem off6_eq (t : Fin k1_t1_loop.trips) : k1_off6 t = ![t.val, 0] :=
  (by decide +kernel : ∀ t : Fin k1_t1_loop.trips, k1_off6 t = ![t.val, 0]) t

theorem trips1 : k1_t1_loop.trips = 32 := by decide +kernel

theorem docRows_cover (x : Vec F S32 .i32) (hl : LensOK x) (z : Vec F S32x512x768 .fp8e4m3)
    (s : Vec F S32x512x128 .f32) (w : Vec F S768x512 .bf16) (b : Vec F S1x512 .f32) (y : S32x512.Idx) :
    ∃ pc ∈ docRows x hl z s w b 32, y ∈ pc.1.set := by
  have hy : (y 0).val < 32 := (y 0).isLt
  refine ⟨_, docRows_mem x hl z s w b 32 ⟨(y 0).val, by rw [trips1]; exact hy⟩ hy, ?_⟩
  rw [Rect.mem_set_unit]
  intro a
  rw [off6_eq]
  have h1 : (y 1).val < 512 := (y 1).isLt
  match a with
  | ⟨0, _⟩ => exact ⟨Nat.le_refl _, Nat.lt_succ_self _⟩
  | ⟨1, _⟩ => exact ⟨Nat.zero_le _, by simpa using h1⟩

/-! ## The body's triple -/

set_option maxHeartbeats 8000000 in
theorem sound_kernel1 (c : Dev nD) (E : Set ℕ) (i : grid1.Coords) (arg1 : Memref sig .tc .smem S32 .i32) (harg1 : arg1.IsWhole) (arg2 : Memref sig .tc .vmem S32x512x768 .fp8e4m3) (harg2 : arg2.IsWhole) (arg3 : Memref sig .tc .vmem S32x512x128 .f32) (harg3 : arg3.IsWhole) (arg4 : Memref sig .tc .vmem S512x384 .i8) (harg4 : arg4.IsWhole) (arg5 : Memref sig .tc .vmem S512x6 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S768x512 .bf16) (harg8 : arg8.IsWhole)
    (x1 : Vec F S32 .i32) (hl : LensOK x1) (x2 : Vec F S32x512x768 .fp8e4m3) (x3 : Vec F S32x512x128 .f32)
    (x4 : Vec F S512x384 .i8) (x5 : Vec F S512x6 .f32) (x6 : Vec F S1x512 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (tile x1 hl x2 x3 x4 x5 x6) ∗ (∃ d, owns (c : Thread nD τ) arg8 fullShare d)) -∗ K ⟨⟩))
      ⊢ wp frame (wpE (defs₀ (F := F)) Variants.none c none) E (cc1_logits i arg1 harg1 arg2 harg2 arg3 harg3 arg4 harg4 arg5 harg5 arg6 harg6 arg7 harg7 arg8 harg8) K := by
  simp only [cc1_logits_eq_skeleton]; unfold cc1_logits_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec

  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [show Scf.trips k1_t1_loop.lb k1_t1_loop.ub k1_t1_loop.st = 32 from trips1,
      View.read_writes_eq_canon _ _ _ (docRows_cover _ hl _ _ _ _)]
    unfold tile
    rw [show arg8.view.read (Elt F) (arg8.view.writes (Elt F) arg8.view.junk (sound_kernel1.sl.H8_24 c arg4 arg5 f4 f5))
      = scr (arg4.view.read (Elt F) f4) (arg5.view.read (Elt F) f5) from View.read_writes_eq_canon _ _ _ (scr_cover _ _)]
  iexists _; iexists _; isplitr
  swap; · iexact H8
  ipureintro; rfl

end Cert.Kernel.Gen

end
-- ==== Proof.Kernel.Region1.lean ====
/- Call 1 of @main (`cc1_logits`) as a pipeline region: its windows' blocks, the relation its output tile meets, its proof
   data and its body obligation, at any contents `V` of the buffers when the call is entered and any table `a`.

   The vocabulary's 50368 rows do not fill the last of the 99 blocks of 512, so there the body computes on rows that no
   transfer has written. Hence the output tile is described by a RELATION: it is the body's tile of the fetched rows and
   of some contents of the rest. -/
module

public import proofs.«01_k».proof.Proof.Kernel.Body1
public import Idealize.ShloMosaic.Lib.Pipeline.FrameBody
public import Idealize.ShloMosaic.Lib.Pipeline.DatRel
public import Idealize.ShloMosaic.Lib.Pipeline.RegionsLoop
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (UR sig nD τ × UR sig nD τ) ℕ

section Regions

variable (V : (c : Dev nD) → (b : Ref sig .tc) → Buf (Elt F) ((c : Thread nD τ).loc b)) (a : (pcfg1 (F := F)).Adm)

/-- The table of lengths. -/
abbrev lens1 : Vec F S32 .i32 := a.1 0

/-! ## The windows' blocks -/

/-- Window `w`'s block at point `t` (its part inside the array), read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The packed rows the body works on at point `t`: those fetched, and `d` where the block runs past the array. -/
def x4At (c : Dev nD) (t : Fin (cfg1 a).N) (d : Vec F S512x384 .i8) : Vec F S512x384 .i8 :=
  ((cfg1 a).win 2).fill ((cfg1 a).grid.coords t) d (iblk1 V a c 2 t)
/-- The group scales, likewise, -/
def x5At (c : Dev nD) (t : Fin (cfg1 a).N) (d : Vec F S512x6 .f32) : Vec F S512x6 .f32 :=
  ((cfg1 a).win 3).fill ((cfg1 a).grid.coords t) d (iblk1 V a c 3 t)
/-- and the biases. -/
def x6At (c : Dev nD) (t : Fin (cfg1 a).N) (d : Vec F S1x512 .f32) : Vec F S1x512 .f32 :=
  ((cfg1 a).win 4).fill ((cfg1 a).grid.coords t) d (iblk1 V a c 4 t)

/-! ## The proof data -/

/-- The windows held to a relation: the output's. -/
def fgt1 : Fin 6 → Bool := fun | 0 => false | 1 => false | 2 => false | 3 => false | 4 => false | 5 => true | ⟨_ + 6, h⟩ => absurd h (Nat.not_lt.2 (Nat.le_add_left _ _))

/-- What an output tile at point `t` is. -/
def OutRel (c : Dev nD) (t : Fin (cfg1 a).N) (X : Vec F S32x512 .f32) : Prop :=
  ∃ (hl : LensOK (lens1 a)) (d2 : Vec F S512x384 .i8) (d3 : Vec F S512x6 .f32) (d4 : Vec F S1x512 .f32),
    X = tile (lens1 a) hl (iblk1 V a c 0 t) (iblk1 V a c 1 t) (x4At V a c t d2) (x5At V a c t d3) (x6At V a c t d4)

/-- The relation, window by window. -/
def Rl1 (c : Dev nD) : (w : Fin (cfg1 a).W) → Fin (cfg1 a).N → (((cfg1 a).win w).block.Idx → Elt F ((cfg1 a).win w).elt) → Prop
  | ⟨5, _⟩, t, X => OutRel V a c t X
  | _, _, _ => True

/-- Contents nobody looks at. -/
def junkVec (s : Shape) (e : EltTy) : Vec F s e := fun _ => Classical.arbitrary _

/-- The region's invariant: the scoped buffers that stage nothing, the generator register and the table. -/
def Φ1 (c : Dev nD) : sProp 𝕄 :=
  iprop((Pipeline.scopedRest (Ix := Unit) (Name := ℕ) (U := UR sig nD τ × UR sig nD τ) (Lvl := ℕ) (Val := Elt F) spec1 c ∗ ∃ r, prngReg c r)
    ∗ Pipeline.prefHeld (Ix := Unit) (Name := ℕ) (U := UR sig nD τ × UR sig nD τ) (Lvl := ℕ) pre1 c (fun _ => fullShare) a.1)

/-- The proof data of call 1 on core `c`. -/
def dat1 (c : Dev nD) : Dat τ (Elt F) Unit ℕ (UR sig nD τ × UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => x4At V a c t (junkVec _ _)
    | ⟨3, _⟩ => x5At V a c t (junkVec _ _)
    | ⟨4, _⟩ => x6At V a c t (junkVec _ _)
    | ⟨5, _⟩ => junkVec S32x512 .f32
  Φ _ := Φ1 a c
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := rfl
theorem after1_1 (c : Dev nD) (t : Fin (cfg1 a).N) : (dat1 V a c).after 1 t = iblk1 V a c 1 t := rfl
theorem after1_2 (c : Dev nD) (t : Fin (cfg1 a).N) : (dat1 V a c).after 2 t = x4At V a c t (junkVec _ _) := rfl
theorem after1_3 (c : Dev nD) (t : Fin (cfg1 a).N) : (dat1 V a c).after 3 t = x5At V a c t (junkVec _ _) := rfl
theorem after1_4 (c : Dev nD) (t : Fin (cfg1 a).N) : (dat1 V a c).after 4 t = x6At V a c t (junkVec _ _) := rfl

/-- Windows 2, 3 and 4 are fetched at every point. -/
theorem fetch1_2 (t : Fin (cfg1 a).N) : ((cfg1 a).win 2).fetch t = true :=
  (Pipeline.Window.fetch_reads ((cfg1 a).win 2) rfl 0 (by decide : 1 < grid1.bound 0) (by decide : grid1.fixedAfter spec1_2.reads 0 = true) (Pipeline.Window.sep_of_coord cc1_transform_2 0 0 (fun _ => rfl) (by decide)) (P := 1) (by decide : grid1.stride 0 = 1) t).mpr (Nat.mod_one _)
theorem fetch1_3 (t : Fin (cfg1 a).N) : ((cfg1 a).win 3).fetch t = true :=
  (Pipeline.Window.fetch_reads ((cfg1 a).win 3) rfl 0 (by decide : 1 < grid1.bound 0) (by decide : grid1.fixedAfter spec1_3.reads 0 = true) (Pipeline.Window.sep_of_coord cc1_transform_3 0 0 (fun _ => rfl) (by decide)) (P := 1) (by decide : grid1.stride 0 = 1) t).mpr (Nat.mod_one _)
theorem fetch1_4 (t : Fin (cfg1 a).N) : ((cfg1 a).win 4).fetch t = true :=
  (Pipeline.Window.fetch_reads ((cfg1 a).win 4) rfl 0 (by decide : 1 < grid1.bound 0) (by decide : grid1.fixedAfter spec1_4.reads 0 = true) (Pipeline.Window.sep_of_coord cc1_transform_4 0 1 (fun _ => rfl) (by decide)) (P := 1) (by decide : grid1.stride 0 = 1) t).mpr (Nat.mod_one _)

theorem before1_0 (c : Dev nD) (t : Fin (cfg1 a).N) (d) : (dat1 V a c).before 0 t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = x4At V a c t d := by
  unfold Dat.before; rw [if_pos (fetch1_2 a t)]; unfold Dat.fetched Dat.blockOf x4At iblk1; rw [A_eq1]; try rfl
theorem before1_3 (c : Dev nD) (t : Fin (cfg1 a).N) (d) : (dat1 V a c).before 3 t d = x5At V a c t d := by
  unfold Dat.before; rw [if_pos (fetch1_3 a t)]; unfold Dat.fetched Dat.blockOf x5At iblk1; rw [A_eq1]; try rfl
theorem before1_4 (c : Dev nD) (t : Fin (cfg1 a).N) (d) : (dat1 V a c).before 4 t d = x6At V a c t d := by
  unfold Dat.before; rw [if_pos (fetch1_4 a t)]; unfold Dat.fetched Dat.blockOf x6At iblk1; rw [A_eq1]; try rfl

theorem keep1_2 (c : Dev nD) (t : Fin (cfg1 a).N) (d) : ((cfg1 a).win 2).fill ((cfg1 a).grid.coords t) d (((cfg1 a).win 2).cut ((cfg1 a).grid.coords t) ((dat1 V a c).after 2 t)) = x4At V a c t d := by
  rw [after1_2]; unfold x4At; exact congrArg (((cfg1 a).win 2).fill ((cfg1 a).grid.coords t) d) (Pipeline.Window.cut_fill ((cfg1 a).win 2) ((cfg1 a).grid.coords t) _ _)
theorem keep1_3 (c : Dev nD) (t : Fin (cfg1 a).N) (d) : ((cfg1 a).win 3).fill ((cfg1 a).grid.coords t) d (((cfg1 a).win 3).cut ((cfg1 a).grid.coords t) ((dat1 V a c).after 3 t)) = x5At V a c t d := by
  rw [after1_3]; unfold x5At; exact congrArg (((cfg1 a).win 3).fill ((cfg1 a).grid.coords t) d) (Pipeline.Window.cut_fill ((cfg1 a).win 3) ((cfg1 a).grid.coords t) _ _)
theorem keep1_4 (c : Dev nD) (t : Fin (cfg1 a).N) (d) : ((cfg1 a).win 4).fill ((cfg1 a).grid.coords t) d (((cfg1 a).win 4).cut ((cfg1 a).grid.coords t) ((dat1 V a c).after 4 t)) = x6At V a c t d := by
  rw [after1_4]; unfold x6At; exact congrArg (((cfg1 a).win 4).fill ((cfg1 a).grid.coords t) d) (Pipeline.Window.cut_fill ((cfg1 a).win 4) ((cfg1 a).grid.coords t) _ _)

/-! ## The body obligation -/

abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)
abbrev st1_4 (t : Fin (cfg1 a).N) := ((cfg1 a).win 4).stage ((cfg1 a).slots t 4)
abbrev st1_5 (t : Fin (cfg1 a).N) := ((cfg1 a).win 5).stage ((cfg1 a).slots t 5)

/-- The body at point `t`. -/
abbrev bodyAt1 (t : Fin (cfg1 a).N) : Prog (TpuEff nD τ sig (Elt F) Λ₀ .tc) PUnit :=
  cc1_logits (grid1.coords t) (Memref.whole main_arg2) (Memref.isWhole_whole _) (st1_0 a t) (hstage1_0 (((cfg1 a).slots t 0).cast nbuf1_0)) (st1_1 a t) (hstage1_1 (((cfg1 a).slots t 1).cast nbuf1_1)) (st1_2 a t) (hstage1_2 (((cfg1 a).slots t 2).cast nbuf1_2)) (st1_3 a t) (hstage1_3 (((cfg1 a).slots t 3).cast nbuf1_3)) (st1_4 a t) (hstage1_4 (((cfg1 a).slots t 4).cast nbuf1_4)) (st1_5 a t) (hstage1_5 (((cfg1 a).slots t 5).cast nbuf1_5)) (Memref.whole cc1_scratch0) (Memref.isWhole_whole _)

def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d))
    ∗ (∃ d, owns (c : Thread nD τ) (st1_4 a t) fullShare ((dat1 V a c).before 4 t d))
    ∗ (∃ Y, ⌜((dat1 V a c).toRRel fgt1 (Rl1 V a c)).Finds 5 t Y⌝ ∗ owns (c : Thread nD τ) (st1_5 a t) fullShare Y))

def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ (∃ d, owns (c : Thread nD τ) (st1_2 a t) fullShare (((cfg1 a).win 2).fill ((cfg1 a).grid.coords t) d (((cfg1 a).win 2).cut ((cfg1 a).grid.coords t) ((dat1 V a c).after 2 t))))
    ∗ (∃ d, owns (c : Thread nD τ) (st1_3 a t) fullShare (((cfg1 a).win 3).fill ((cfg1 a).grid.coords t) d (((cfg1 a).win 3).cut ((cfg1 a).grid.coords t) ((dat1 V a c).after 3 t))))
    ∗ (∃ d, owns (c : Thread nD τ) (st1_4 a t) fullShare (((cfg1 a).win 4).fill ((cfg1 a).grid.coords t) d (((cfg1 a).win 4).cut ((cfg1 a).grid.coords t) ((dat1 V a c).after 4 t))))
    ∗ (∃ X, ⌜Rl1 V a c 5 t X⌝ ∗ owns (c : Thread nD τ) (st1_5 a t) fullShare X))

/-- The table's buffer, as the invariant has it and as the body takes it. -/
theorem e_tab (c : Dev nD) : (((c : Thread nD τ).loc (pre1.ref (0 : Fin 1)) ↦{fullShare} a.1 (0 : Fin 1)) : sProp 𝕄)
    = owns (c : Thread nD τ) (Memref.whole main_arg2) fullShare (lens1 a) := by
  rw [owns_whole]; rfl

set_option backward.isDefEq.respectTransparency false in
set_option backward.isDefEq.respectTransparency.types false in
set_option maxHeartbeats 1000000 in
/-- The body at any point: the fetched inputs, the table and the scratch buffer out of the invariant, `sound_kernel1`. -/
theorem sound_body1 (hl : LensOK (lens1 a)) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3, before1_4, keep1_2, keep1_3, keep1_4]
  rw [show (dat1 V a c).Φ t.succ = Φ1 a c from rfl, show (dat1 V a c).Φ t.castSucc = Φ1 a c from rfl,
    show (dat1 V a c).owesAt () t.succ = (dat1 V a c).owesAt () t.castSucc from rfl,
    after1_0, after1_1]
  unfold Φ1 Pipeline.prefHeld
  rw [show (Finset.univ : Finset (Fin pre1.K)) = {(0 : Fin 1)} from rfl, BI.bigSep_singleton, scopedRest1_eq]
  iintro ⟨⟨⟨⟨S0, S1, S2, S3, S4, S5, S6, S7, S8, S9, S10, S11, S12, S13, S14, S15, S16, S17, S18, S19, S20, S21⟩, Hp⟩, HT⟩, Ho, ⟨%d0, H0⟩, ⟨%d1, H1⟩, ⟨%d2, H2⟩, ⟨%d3, H3⟩, ⟨%d4, H4⟩, ⟨%d5, -, H5⟩⟩
  iapply (sound_kernel1 c Set.univ (grid1.coords t) _ _ _ _ _ _ _ _ _ _ _ _ _ _ _ _ (lens1 a) hl (iblk1 V a c 0 t) (iblk1 V a c 1 t) (x4At V a c t d2) (x5At V a c t d3) (x6At V a c t d4) _)
  isplitl [HT]; · iapply (Entails.of_eq (e_tab a c)) $$ HT
  isplitl [H0]; · iexact H0
  isplitl [H1]; · iexact H1
  isplitl [H2]; · iexact H2
  isplitl [H3]; · iexact H3
  isplitl [H4]; · iexact H4
  isplitl [H5]; · iexists _; iexact H5
  isplitl [S15]; · simp only [owns_whole]; iexact S15
  iintro ⟨HT, H0, H1, H2, H3, H4, H5, S15⟩
  isplitl [S0 S1 S2 S3 S4 S5 S6 S7 S8 S9 S10 S11 S12 S13 S14 S15 S16 S17 S18 S19 S20 S21 Hp HT]
  · isplitl [S0 S1 S2 S3 S4 S5 S6 S7 S8 S9 S10 S11 S12 S13 S14 S15 S16 S17 S18 S19 S20 S21 Hp]
    · isplitl [S0 S1 S2 S3 S4 S5 S6 S7 S8 S9 S10 S11 S12 S13 S14 S15 S16 S17 S18 S19 S20 S21]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · simp only [owns_whole]; iexact S15
        isplitl [S16]; · iexact S16
        isplitl [S17]; · iexact S17
        isplitl [S18]; · iexact S18
        isplitl [S19]; · iexact S19
        isplitl [S20]; · iexact S20
        iexact S21
      iexact Hp
    iapply (Entails.of_eq (e_tab a c).symm) $$ HT
  isplitl [Ho]; · iexact Ho
  isplitl [H0]; · iexact H0
  isplitl [H1]; · iexact H1
  isplitl [H2]; · iexists d2; iapply (Entails.of_eq (congrArg (owns (c : Thread nD τ) (st1_2 a t) fullShare) (keep1_2 V a c t d2).symm)) $$ H2
  isplitl [H3]; · iexists d3; iapply (Entails.of_eq (congrArg (owns (c : Thread nD τ) (st1_3 a t) fullShare) (keep1_3 V a c t d3).symm)) $$ H3
  isplitl [H4]; · iexists d4; iapply (Entails.of_eq (congrArg (owns (c : Thread nD τ) (st1_4 a t) fullShare) (keep1_4 V a c t d4).symm)) $$ H4
  iexists _; isplitr
  swap; · iexact H5
  ipureintro
  exact ⟨hl, d2, d3, d4, rfl⟩

/-- The body table's row at point `t`'s slots is the body as `bodyAt1` spells it. -/
theorem defs₀_row1 (t : Fin (cfg1 a).N) :
    defs₀ (F := F) .tc (cfg1 a).body ((cfg1 a).bodyArgs t ((cfg1 a).slots t)) = bodyAt1 a t := by
  unfold defs₀; rw [Defs.onTc_tc]; rfl

/-- The library's body obligation. -/
theorem body_obligation1 (hl : LensOK (lens1 a)) (c : Dev nD) :
    Pipeline.BodyObligationRel (dat1 V a c) (defs₀ (F := F)) Variants.none () Set.univ fgt1 (Rl1 V a c) := fun t => by
  rw [bigSep_W1, bigSep_W1, defs₀_row1]
  exact triple_restated (sound_body1 V a hl c t) rfl .rfl fun _ => .rfl

end Regions

end Cert.Kernel.Gen

end
-- ==== Proof.Kernel.Region2.lean ====
/- The body of @main's call 2 (`cc2_stats`) run on its windows' blocks: what it leaves in every output window, the
   pipeline's proof data and its body obligation, at any contents `V` of the buffers when the call is entered. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_stats` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ × UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S32x50368 := Rect.unit (s := S32x50368) ![0, 0] S32x50368.size inb_S32x50368_S32x50368_0_0
abbrev r2_1 : Rect S32x1 := Rect.unit (s := S32x1) ![0, 0] S32x1.size inb_S32x1_S32x1_0_0
abbrev r2_2 : Rect S1x50368 := Rect.unit (s := S1x50368) ![0, 0] S1x50368.size inb_S1x50368_S1x50368_0_0
abbrev r2_3 : Rect S1x1 := Rect.unit (s := S1x1) ![0, 0] S1x1.size inb_S1x1_S1x1_0_0

/-! ## What the body leaves in each output window's buffer -/

/-- Window 1's staging buffer after the body, from the input windows' blocks: its 1 store as pieces, LAST
    FIRST (Lib/Pipeline/FrameBody.lean `View.canon`; the payloads are the skeleton's). -/
def out2_1 (x0 : Vec F S32x50368 .f32) : Vec F S32x1 .f32 :=
  View.canon [⟨r2_1, k2_pay2 (View.ld x0 r2_0)⟩]

/-- Its stores tile the buffer (checked by evaluation), so they cover it. -/
theorem cover2_1 (p0 : Vec F S32x1 .f32) (y : S32x1.Idx) :
    ∃ pc ∈ ([⟨r2_1, p0⟩] : List (View.Piece (Elt F) S32x1 .f32)), y ∈ pc.1.set :=
  View.cover_of_tiled [⟨r2_1, p0⟩] S32x1.size (by rfl) y

/-- Window 2's staging buffer after the body, from the input windows' blocks: its 1 store as pieces, LAST
    FIRST (Lib/Pipeline/FrameBody.lean `View.canon`; the payloads are the skeleton's). -/
def out2_2 (x0 : Vec F S32x50368 .f32) : Vec F S1x50368 .f32 :=
  View.canon [⟨r2_2, k2_pay3 (View.ld x0 r2_0)⟩]

/-- Its stores tile the buffer (checked by evaluation), so they cover it. -/
theorem cover2_2 (p0 : Vec F S1x50368 .f32) (y : S1x50368.Idx) :
    ∃ pc ∈ ([⟨r2_2, p0⟩] : List (View.Piece (Elt F) S1x50368 .f32)), y ∈ pc.1.set :=
  View.cover_of_tiled [⟨r2_2, p0⟩] S1x50368.size (by rfl) y

/-- Window 3's staging buffer after the body, from the input windows' blocks: its 1 store as pieces, LAST
    FIRST (Lib/Pipeline/FrameBody.lean `View.canon`; the payloads are the skeleton's). -/
def out2_3 (x0 : Vec F S32x50368 .f32) : Vec F S1x1 .f32 :=
  View.canon [⟨r2_3, k2_pay4 (View.ld x0 r2_0)⟩]

/-- Its stores tile the buffer (checked by evaluation), so they cover it. -/
theorem cover2_3 (p0 : Vec F S1x1 .f32) (y : S1x1.Idx) :
    ∃ pc ∈ ([⟨r2_3, p0⟩] : List (View.Piece (Elt F) S1x1 .f32)), y ∈ pc.1.set :=
  View.cover_of_tiled [⟨r2_3, p0⟩] S1x1.size (by rfl) y

/-- Window 4's staging buffer after the body, from the input windows' blocks: its 1 store as pieces, LAST
    FIRST (Lib/Pipeline/FrameBody.lean `View.canon`; the payloads are the skeleton's). -/
def out2_4 (x0 : Vec F S32x50368 .f32) : Vec F S32x50368 .i8 :=
  View.canon [⟨r2_0, k2_pay6 (View.ld x0 r2_0)⟩]

/-- Its stores tile the buffer (checked by evaluation), so they cover it. -/
theorem cover2_4 (p0 : Vec F S32x50368 .i8) (y : S32x50368.Idx) :
    ∃ pc ∈ ([⟨r2_0, p0⟩] : List (View.Piece (Elt F) S32x50368 .i8)), y ∈ pc.1.set :=
  View.cover_of_tiled [⟨r2_0, p0⟩] S32x50368.size (by rfl) y

/-- Window 5's staging buffer after the body, from the input windows' blocks: its 1 store as pieces, LAST
    FIRST (Lib/Pipeline/FrameBody.lean `View.canon`; the payloads are the skeleton's). -/
def out2_5 (x0 : Vec F S32x50368 .f32) : Vec F S32x1 .f32 :=
  View.canon [⟨r2_1, k2_pay5 (View.ld x0 r2_0)⟩]

/-- Its stores tile the buffer (checked by evaluation), so they cover it. -/
theorem cover2_5 (p0 : Vec F S32x1 .f32) (y : S32x1.Idx) :
    ∃ pc ∈ ([⟨r2_1, p0⟩] : List (View.Piece (Elt F) S32x1 .f32)), y ∈ pc.1.set :=
  View.cover_of_tiled [⟨r2_1, p0⟩] S32x1.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (arg0 : Memref sig .tc .vmem S32x50368 .f32) (harg0 : arg0.IsWhole) (arg1 : Memref sig .tc .vmem S32x1 .f32) (harg1 : arg1.IsWhole) (arg2 : Memref sig .tc .vmem S1x50368 .f32) (harg2 : arg2.IsWhole) (arg3 : Memref sig .tc .vmem S1x1 .f32) (harg3 : arg3.IsWhole) (arg4 : Memref sig .tc .vmem S32x50368 .i8) (harg4 : arg4.IsWhole) (arg5 : Memref sig .tc .vmem S32x1 .f32) (harg5 : arg5.IsWhole)
    (x0 : Vec F S32x50368 .f32) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare (out2_1 x0) ∗ owns (c : Thread nD τ) arg2 fullShare (out2_2 x0) ∗ owns (c : Thread nD τ) arg3 fullShare (out2_3 x0) ∗ owns (c : Thread nD τ) arg4 fullShare (out2_4 x0) ∗ owns (c : Thread nD τ) arg5 fullShare (out2_5 x0)) -∗ K ⟨⟩))
      ⊢ wp frame (wpE (defs₀ (F := F)) Variants.none c none) E (cc2_stats arg0 harg0 arg1 harg1 arg2 harg2 arg3 harg3 arg4 harg4 arg5 harg5) K := by
  simp only [cc2_stats_eq_skeleton]; unfold cc2_stats_skel
  simp only [k2_part1_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover2_1 _)
  isplitl [H2]
  · iexists _; isplitr
    swap; · iexact H2
    ipureintro
    exact View.read_writes_eq_canon _ _ _ (cover2_2 _)
  isplitl [H3]
  · iexists _; isplitr
    swap; · iexact H3
    ipureintro
    exact View.read_writes_eq_canon _ _ _ (cover2_3 _)
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ × UR sig nD τ) ℕ cfg2 c where
  A w := V c (Pipeline.arrRef spec2 w)
  after w t := match w with
    | ⟨0, _⟩ => iblk2 V c 0 t
    | ⟨1, _⟩ => out2_1 (iblk2 V c 0 t)
    | ⟨2, _⟩ => out2_2 (iblk2 V c 0 t)
    | ⟨3, _⟩ => out2_3 (iblk2 V c 0 t)
    | ⟨4, _⟩ => out2_4 (iblk2 V c 0 t)
    | ⟨5, _⟩ => out2_5 (iblk2 V c 0 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem after2_2 (c : Dev nD) (t : Fin cfg2.N) : (dat2 V c).after 2 t = out2_2 (iblk2 V c 0 t) := by dsimp only [dat2]
theorem after2_3 (c : Dev nD) (t : Fin cfg2.N) : (dat2 V c).after 3 t = out2_3 (iblk2 V c 0 t) := by dsimp only [dat2]
theorem after2_4 (c : Dev nD) (t : Fin cfg2.N) : (dat2 V c).after 4 t = out2_4 (iblk2 V c 0 t) := by dsimp only [dat2]
theorem after2_5 (c : Dev nD) (t : Fin cfg2.N) : (dat2 V c).after 5 t = out2_5 (iblk2 V c 0 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ (iblk2 V c 0 t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Gen

end
-- ==== Proof.Kernel.Run.lean ====
/- The run of @main: its host stretches and its three calls as segments, what every buffer holds at each boundary, and the
   launch. What call 1 writes is known up to the relation its proof data state, so every boundary after it is a family over
   the contents `γ` its arrays may hold; call 2's proof data are a family over `γ` too, hence that call is run as a host
   segment with its own copy of the pipeline library's ghost state. -/
module

public import proofs.«01_k».proof.Proof.Kernel.Region0
public import proofs.«01_k».proof.Proof.Kernel.Region1
public import proofs.«01_k».proof.Proof.Kernel.Region2
public import Idealize.ShloMosaic.Lib.Pipeline.RegionsLoop
public import Idealize.ShloMosaic.Lib.Pipeline.RegionsOwned
public import Idealize.ShloMosaic.Lib.Pipeline.RegionArraysF
public import Idealize.ShloMosaic.Lib.Pipeline.RegionArraysT
public import Idealize.ShloMosaic.Lib.Pipeline.FrameSuffix
public import Idealize.ShloMosaic.Lib.Pipeline.Kit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ × UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
/-- The references `hostOps0` writes. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The references `hostOps1` writes. -/
abbrev hostOps1_W : List (Ref sig .tc) := [main_v6]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor
/-- The references `hostOps3` writes. -/
abbrev hostOps3_W : List (Ref sig .tc) := [main_v9, main_v10, main_v11, main_v12, main_v13]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-! ## The tables and the buffers' contents at each boundary -/

/-- The one device. -/
abbrev dev0 : Dev nD := ⟨0, by decide⟩
theorem dev_eq (c : Dev nD) : c = dev0 := Subsingleton.elim _ _

/-- The prefetched tables' contents: call 1 has the lengths as launched, the others have none. -/
def adm : (p : Fin 3) → (pcfgs (F := F) p).Adm
  | ⟨0, _⟩ => cfg0.toPCfg_adm
  | ⟨1, _⟩ => ⟨fun k => m ((dev0 : Thread nD τ).loc (pre1.ref k)), trivial⟩
  | ⟨2, _⟩ => cfg2.toPCfg_adm

/-- Call 1's table. -/
abbrev adm1 : (pcfg1 (F := F)).Adm := adm m 1

/-- Core `c`'s buffers at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
/-- After `hostOps0`. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
abbrev V1 : (c : Dev nD) → (b : Ref sig .tc) → Buf (Elt F) ((c : Thread nD τ).loc b) := fun c b => W1 m c b
/-- At call 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1`. -/
abbrev W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ hostOps1_writes h
theorem W3_args (c : Dev nD) : ∀ a ∈ argRefs, W3 m c (Proc.devRef .tc a) = m ((c : Thread nD τ).loc a) :=
  fun a ha => (W3_of m c a (hostOps1_args a ha)).trans (W2_args m c a ha)
abbrev V3 : (c : Dev nD) → (b : Ref sig .tc) → Buf (Elt F) ((c : Thread nD τ).loc b) := fun c b => W3 m c b

/-- Call 1's proof data, the output window held to its relation. -/
abbrev rdat1 (c : Dev nD) : RDat τ (Elt F) Unit ℕ (UR sig nD τ × UR sig nD τ) ℕ (cfg1 (adm1 m)) c :=
  (dat1 (V3 m) (adm1 m) c).toRRel fgt1 (Rl1 (V3 m) (adm1 m) c)

/-- Contents that call 1's arrays may hold when it returns. -/
def Gam : Type :=
  { G : (c : Dev nD) → (w : Fin (cfg1 (adm1 m)).W) → Buf (Elt F) (((cfg1 (adm1 m)).win w).arr.view.loc (c : Thread nD τ)) //
    ∀ c w, (rdat1 m c).ArrAt w (cfg1 (adm1 m)).N (G c w) }

variable (γ : Gam m)

/-- The table at call 1's entry is the lengths as launched. -/
theorem tab_eq (c : Dev nD) (k : Fin pre1.K) : (adm1 m).1 k = V3 m c (pre1.ref k) := by
  obtain rfl := dev_eq c
  have hk : pre1.ref k = main_arg2 := by
    have : ∀ k : Fin pre1.K, pre1.ref k = main_arg2 := by decide
    exact this k
  have h : ∀ r, r = main_arg2 → m ((dev0 : Thread nD τ).loc r) = V3 m dev0 r := by
    rintro r rfl; exact (W3_args m dev0 main_arg2 (by decide)).symm
  exact h _ hk

/-- At call 1's exit. -/
def W4 (c : Dev nD) : Valuation τ sig (Elt F) := Pipeline.withArrays spec1 c (W3 m c) (γ.1 c)
theorem W4_arr (c : Dev nD) (w : Fin (cfg1 (adm1 m)).W) :
    W4 m γ c (Proc.devRef .tc (Pipeline.arrRef spec1 w)) = γ.1 c w := by
  unfold W4; exact Pipeline.withArrays_arr spec1 (launch1 (F := F)).win.arr_inj c _ _ w
theorem W4_of_ne (c : Dev nD) (b : Ref sig .tc) (hb : ∀ w, Pipeline.arrRef spec1 w ≠ b) :
    W4 m γ c (Proc.devRef .tc b) = W3 m c (Proc.devRef .tc b) := by
  unfold W4; exact Pipeline.withArrays_of_ne spec1 c _ _ b hb
theorem arr1_in (c : Dev nD) (w : Fin (cfg1 (adm1 m)).W) (hf : fgt1 w = false) :
    γ.1 c w = (dat1 (V3 m) (adm1 m) c).arrAt w (cfg1 (adm1 m)).N :=
  (((dat1 (V3 m) (adm1 m) c).toR.override_arrAt (by simp only [hf]) _ _).trans ((dat1 (V3 m) (adm1 m) c).toR_arrAt_iff w _ _)).mp (γ.2 c w)
theorem fgt_out : ∀ w : Fin 6, (spec1 w).isOut = false → fgt1 w = false := by decide
theorem W4_of (c : Dev nD) (r : Ref sig .tc) (h : ∀ w : Fin 6, Pipeline.arrRef spec1 w = r → (spec1 w).isOut = false) :
    W4 m γ c (Proc.devRef .tc r) = W3 m c (Proc.devRef .tc r) := by
  by_cases hw : ∃ w : Fin 6, Pipeline.arrRef spec1 w = r
  · obtain ⟨w, rfl⟩ := hw
    exact (W4_arr m γ c w).trans ((arr1_in m γ c w (fgt_out w (h w rfl))).trans
      (((dat1 (V3 m) (adm1 m) c).arrAt_in w (h w rfl) _).trans (A_eq1 (V3 m) (adm1 m) c w)))
  · exact W4_of_ne m γ c r fun w e => hw ⟨w, e⟩
theorem argsIn1 : ∀ a ∈ argRefs, ∀ w : Fin 6, Pipeline.arrRef spec1 w = a → (spec1 w).isOut = false :=
  ListAll.forall_mem_of_all_decide (by decide +kernel)
theorem W4_args (c : Dev nD) : ∀ a ∈ argRefs, W4 m γ c (Proc.devRef .tc a) = m ((c : Thread nD τ).loc a) :=
  fun a ha => (W4_of m γ c a (argsIn1 a ha)).trans (W3_args m c a ha)
abbrev V4 : (c : Dev nD) → (b : Ref sig .tc) → Buf (Elt F) ((c : Thread nD τ).loc b) := fun c b => W4 m γ c b
theorem hF1 (c : Dev nD) (w : Fin (cfg1 (adm1 m)).W) : γ.1 c w = V4 m γ c (Pipeline.arrRef spec1 w) := (W4_arr m γ c w).symm
theorem hrest1 (c : Dev nD) : ∀ b, b ∉ Finset.univ.image (Pipeline.arrRef spec1) → V4 m γ c b = V3 m c b :=
  fun b hb => W4_of_ne m γ c b fun w e => hb (Finset.mem_image.mpr ⟨w, Finset.mem_univ _, e⟩)

/-- At call 2's exit. -/
def W5 (c : Dev nD) : Valuation τ sig (Elt F) :=
  Pipeline.withArrays spec2 c (W4 m γ c) fun w => (dat2 (V4 m γ) c).arrAt w cfg2.N
theorem W5_arr (c : Dev nD) (w : Fin cfg2.W) :
    W5 m γ c (Proc.devRef .tc (Pipeline.arrRef spec2 w)) = (dat2 (V4 m γ) c).arrAt w cfg2.N := by
  unfold W5; exact Pipeline.withArrays_arr spec2 (launch2 (F := F)).win.arr_inj c _ _ w
theorem W5_of_ne (c : Dev nD) (b : Ref sig .tc) (hb : ∀ w, Pipeline.arrRef spec2 w ≠ b) :
    W5 m γ c (Proc.devRef .tc b) = W4 m γ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m γ c (Proc.devRef .tc r) = W4 m γ c (Proc.devRef .tc r) := by
  by_cases hw : ∃ w : Fin cfg2.W, Pipeline.arrRef spec2 w = r
  · obtain ⟨w, rfl⟩ := hw
    exact (W5_arr m γ c w).trans (((dat2 (V4 m γ) c).arrAt_in w (h w rfl) _).trans (A_eq2 (V4 m γ) c w))
  · exact W5_of_ne m γ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m γ c (Proc.devRef .tc a) = m ((c : Thread nD τ).loc a) :=
  fun a ha => (W5_of m γ c a (argsIn2 a ha)).trans (W4_args m γ c a ha)
abbrev V5 : (c : Dev nD) → (b : Ref sig .tc) → Buf (Elt F) ((c : Thread nD τ).loc b) := fun c b => W5 m γ c b
theorem hF2 (c : Dev nD) (w : Fin cfg2.W) : (dat2 (V4 m γ) c).arrAt w cfg2.N = V5 m γ c (Pipeline.arrRef spec2 w) :=
  (W5_arr m γ c w).symm
theorem hrest2 (c : Dev nD) : ∀ b, b ∉ Finset.univ.image (Pipeline.arrRef spec2) → V5 m γ c b = V4 m γ c b :=
  fun b hb => W5_of_ne m γ c b fun w e => hb (Finset.mem_image.mpr ⟨w, Finset.mem_univ _, e⟩)

/-- After `hostOps3`. -/
abbrev W6 : Dev nD → Valuation τ sig (Elt F) := fun c => StableHlo.after hostOps3 (W5 m γ c)
theorem W6_of (c : Dev nD) (r : Ref sig .tc) (h : r ∉ hostOps3_W) : W6 m γ c (Proc.devRef .tc r) = W5 m γ c (Proc.devRef .tc r) :=
  StableHlo.after_of_writes_sub hostOps3 _ hostOps3_writes h
theorem W6_args (c : Dev nD) : ∀ a ∈ argRefs, W6 m γ c (Proc.devRef .tc a) = m ((c : Thread nD τ).loc a) :=
  fun a ha => (W6_of m γ c a (hostOps3_args a ha)).trans (W5_args m γ c a ha)

/-! ## The proof data families and the thread state -/

/-- The pipelines' exact data, call 2's at the contents `VV`. -/
def pdats (VV : (c : Dev nD) → (b : Ref sig .tc) → Buf (Elt F) ((c : Thread nD τ).loc b)) :
    (p : Fin 3) → (c : Dev nD) → Dat τ (Elt F) Unit ℕ (UR sig nD τ × UR sig nD τ) ℕ (Pipeline.pin (pcfgs (F := F)) (adm m) p) c
  | ⟨0, _⟩ => fun c => dat0 (V1 m) c
  | ⟨1, _⟩ => fun c => dat1 (V3 m) (adm1 m) c
  | ⟨2, _⟩ => fun c => dat2 VV c
/-- The data of the launch: call 1's relational. -/
def rdats : (p : Fin 3) → (c : Dev nD) → RDat τ (Elt F) Unit ℕ (UR sig nD τ × UR sig nD τ) ℕ (Pipeline.pin (pcfgs (F := F)) (adm m) p) c
  | ⟨0, _⟩ => fun c => (dat0 (V1 m) c).toR
  | ⟨1, _⟩ => fun c => rdat1 m c
  | ⟨2, _⟩ => fun c => (dat2 (V3 m) c).toR
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register and the core's `owes`, at nothing. -/
abbrev R (c : Dev nD) : sProp 𝕄 := iprop((∃ r, prngReg c r) ∗ ∃ W, owes (c : Thread nD τ) (0 : CellTallies nD τ sig Unit) W)
/-- Call 2's ghost state, in the second copy. -/
abbrev G2 (c : Dev nD) : sProp 𝕄 :=
  iprop(Pipeline.cellsGhost (Pipeline.pin (pcfgs (F := F)) (adm m)) embR 2 c ∗ Pipeline.toksInit (Pipeline.pin (pcfgs (F := F)) (adm m)) embR 2 c)
abbrev RG (c : Dev nD) : sProp 𝕄 := iprop(R c ∗ G2 m c)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ × UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RG m)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- Call 0, of exact data. -/
def reg0 : Pipeline.RegionSeg (pcfgs (F := F)) (adm m) (pdats m (V3 m)) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ RG m c)
  post c := iprop(StableHlo.held (c : Thread nD τ) (Pipeline.ucRefs τ sig) (W2 m c) ∗ RG m c)
  X c := iprop(∃ r, prngReg c r)
  Y c := iprop(∃ r, prngReg c r)
  Z c := iprop(Pipeline.unscopedRest (Ix := Unit) (Name := ℕ) (U := UR sig nD τ × UR sig nD τ) (Lvl := ℕ) spec0 c (V1 m c) ∗ G2 m c)
  hentry c := by
    rw [Pipeline.ownSems0_none]
    have hsplit := Pipeline.arrays_of_unscopedBufs (p := 0) (pcfgs (F := F)) (adm m) (pdats m (V3 m)) (launch0 (F := F)).win (launch0 (F := F)).arr_whole c
      ((pdats m (V3 m) 0 c).share_full fun _ => rfl) (V1 m c) (A_eq0 (V1 m) c)
    rw [Pipeline.unscopedBufs_held] at hsplit
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pdats m (V3 m) 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m (V3 m) 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ × UR sig nD τ) (Lvl := ℕ)
      (launch0 (F := F)).win (launch0 (F := F)).arr_whole c (pdats m (V3 m)) ((pdats m (V3 m) 0 c).share_full fun _ => rfl)
      (V1 m c) (V2 m c) ((pdats m (V3 m) 0 c).arrAt · cfg0.N) (hF0 m c) (hrest0 m c)
    rw [Pipeline.unscopedBufs_held] at hjoin
    iintro ⟨Ha, HO, HY, Hrest, HG⟩
    imodintro
    isplitl [Ha Hrest]
    · iapply hjoin; isplitl [Ha] <;> iassumption
    isplitr [HG]
    swap; · iexact HG
    isplitl [HY]; · iexact HY
    unfold Pipeline.Dat.owesAt Pipeline.owesWithin
    icases HO with ⟨%W, -, HO⟩; iexists W; iexact HO

set_option backward.isDefEq.respectTransparency.types false in
/-- Call 0, in the launch's family. -/
def reg0R : Pipeline.RDat.RegionSeg (pcfgs (F := F)) (adm m) (rdats m) () defs₀ 𝒱₀ L lv 0 where
  win := (reg0 m).win
  block_pos := (reg0 m).block_pos
  stage_whole := (reg0 m).stage_whole
  K := (reg0 m).K
  osem := (reg0 m).osem
  ho := (reg0 m).ho
  hbody := ((reg0 m).toR _ _ _ _ _ _ _ _).hbody
  hwaits := ((reg0 m).toR _ _ _ _ _ _ _ _).hwaits
  pre := (reg0 m).pre
  post := (reg0 m).post
  X := (reg0 m).X
  Y := (reg0 m).Y
  Z := (reg0 m).Z
  hentry := (reg0 m).hentry
  hin := (reg0 m).hin
  hout := (reg0 m).hout
  hexit := ((reg0 m).toR _ _ _ _ _ _ _ _).hexit

/-- The arrays of relational data after `n` points: at some contents they may hold. -/
theorem arraysAt_some {cfg : Cfg sig Λ₀} {c : Dev nD} (rd : RDat τ (Elt F) Unit ℕ (UR sig nD τ × UR sig nD τ) ℕ cfg c) (n : Nat) :
    (rd.arraysAt n : sProp 𝕄) ⊢ iprop(∃ A : (w : Fin cfg.W) → Buf (Elt F) ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

/-- Contents on the one core as contents on every core. -/
theorem gam_of (c : Dev nD) (A : (w : Fin (cfg1 (adm1 m)).W) → Buf (Elt F) (((cfg1 (adm1 m)).win w).arr.view.loc (c : Thread nD τ)))
    (hA : ∀ w, (rdat1 m c).ArrAt w (cfg1 (adm1 m)).N (A w)) : ∃ γ : Gam m, γ.1 c = A := by
  obtain rfl := dev_eq c
  refine ⟨⟨fun c' => (dev_eq c').symm ▸ A, fun c' w => ?_⟩, rfl⟩
  obtain rfl := dev_eq c'
  exact hA w

set_option backward.isDefEq.respectTransparency.types false in
/-- Call 1: the lengths' table is split out of the buffers that are no window's array, and put back. -/
def reg1 (hl : LensOK (lens1 (adm1 m))) : Pipeline.RDat.RegionSeg (pcfgs (F := F)) (adm m) (rdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m) (adm1 m) hl c).toRRel
  hwaits := Pipeline.RDat.hwaits_of_owed_zero _ _ _ _ L lv 1 fun _ _ => rfl
  pre c := iprop(StableHlo.held (c : Thread nD τ) (Pipeline.ucRefs τ sig) (W3 m c) ∗ RG m c)
  post c := iprop((∃ γ, StableHlo.held (c : Thread nD τ) (Pipeline.ucRefs τ sig) (W4 m γ c)) ∗ RG m c)
  X c := iprop(∃ r, prngReg c r)
  Y c := iprop((∃ r, prngReg c r) ∗ Pipeline.prefHeld (Ix := Unit) (Name := ℕ) (U := UR sig nD τ × UR sig nD τ) (Lvl := ℕ) pre1 c (fun _ => fullShare) (adm1 m).1)
  Z c := iprop(Pipeline.unscopedRestP (Ix := Unit) (Name := ℕ) (U := UR sig nD τ × UR sig nD τ) (Lvl := ℕ) pre1 spec1 c (V3 m c) ∗ G2 m c)
  hentry c := by
    rw [Pipeline.ownSems0_none]
    have hsplit := Pipeline.RDat.arrays_of_unscopedBufs (p := 1) (pcfgs (F := F)) (adm m) (rdats m) (launch1 (F := F)).win (launch1 (F := F)).arr_whole c
      ((pdats m (V3 m) 1 c).share_full fun _ => rfl) (V3 m c) (A_eq1 (V3 m) (adm1 m) c)
    rw [Pipeline.unscopedBufs_held] at hsplit
    have htab : (Pipeline.unscopedRest (Ix := Unit) (Name := ℕ) (U := UR sig nD τ × UR sig nD τ) (Lvl := ℕ) spec1 c (V3 m c) : sProp 𝕄)
        = iprop(Pipeline.prefHeld pre1 c (fun _ => fullShare) (adm1 m).1 ∗ Pipeline.unscopedRestP pre1 spec1 c (V3 m c)) := by
      rw [Pipeline.unscopedRest_split preFacts1 c (V3 m c), show (fun k => V3 m c (pre1.ref k)) = (adm1 m).1 from funext fun k => (tab_eq m c k).symm]
    iintro ⟨⟨Hub, ⟨Hp, HO⟩, HG⟩, -, -⟩
    ihave H := hsplit $$ Hub
    icases H with ⟨Ha, Hrest⟩
    ihave Hrest := (Entails.of_eq htab) $$ Hrest
    icases Hrest with ⟨Ht, Hrest⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (rdats m 1 c).Φ 0 = Φ1 (adm1 m) c from rfl]; unfold Φ1
    iintro ⟨Hp, Ht, Hr⟩
    isplitr [Ht]
    · isplitl [Hr]; · iexact Hr
      iexact Hp
    iexact Ht
  hout c := by
    rw [Pipeline.ownSems0_none, show (rdats m 1 c).Φ (Fin.last _) = Φ1 (adm1 m) c from rfl]; unfold Φ1
    iintro ⟨⟨Hr, Hp⟩, Ht⟩
    isplitl [Hp Ht]
    · isplitl [Hp]; · iexact Hp
      iexact Ht
    isplitr; · iempintro
    iexact Hr
  hexit c := by
    have htab : (Pipeline.unscopedRest (Ix := Unit) (Name := ℕ) (U := UR sig nD τ × UR sig nD τ) (Lvl := ℕ) spec1 c (V3 m c) : sProp 𝕄)
        = iprop(Pipeline.prefHeld pre1 c (fun _ => fullShare) (adm1 m).1 ∗ Pipeline.unscopedRestP pre1 spec1 c (V3 m c)) := by
      rw [Pipeline.unscopedRest_split preFacts1 c (V3 m c), show (fun k => V3 m c (pre1.ref k)) = (adm1 m).1 from funext fun k => (tab_eq m c k).symm]
    have hjoin : ∀ γ : Gam m, _ := fun γ => Pipeline.unscopedBufs_of_arrays (p := 1) (pcfgs (F := F)) (adm m) (Ix := Unit) (Name := ℕ) (U := UR sig nD τ × UR sig nD τ) (Lvl := ℕ)
      (launch1 (F := F)).win (launch1 (F := F)).arr_whole c (pdats m (V3 m)) ((pdats m (V3 m) 1 c).share_full fun _ => rfl)
      (V3 m c) (V4 m γ c) (γ.1 c) (hF1 m γ c) (hrest1 m γ c)
    have harr : ∀ A, (rdats m 1 c).arrays A = (pdats m (V3 m) 1 c).arrays A := fun _ => rfl
    have hsome := arraysAt_some (rdats m 1 c) (Pipeline.pin (pcfgs (F := F)) (adm m) 1).N
    iintro ⟨Ha, HO, ⟨HY, Ht⟩, Hrest, HG⟩
    ihave Ha := hsome $$ Ha
    icases Ha with ⟨%A, %hA, Ha⟩
    obtain ⟨γ, rfl⟩ := gam_of m c A hA
    ihave Hrest := (Entails.of_eq htab.symm) $$ [Ht Hrest]
    · isplitl [Ht] <;> iassumption
    imodintro
    isplitl [Ha Hrest]
    · iexists γ
      iapply (Entails.of_eq (Pipeline.unscopedBufs_held c (W4 m γ c)))
      iapply (hjoin γ); isplitl [Ha]; · iapply (Entails.of_eq (harr _)); iexact Ha
      iexact Hrest
    isplitr [HG]
    swap; · iexact HG
    isplitl [HY]; · iexact HY
    unfold Pipeline.RDat.owesAt Pipeline.owesWithin
    icases HO with ⟨%W, -, HO⟩; iexists W; iexact HO

set_option backward.isDefEq.respectTransparency.types false in
/-- Call 2, at each `γ`. -/
def reg2 (γ : Gam m) : Pipeline.RegionSeg (pcfgs (F := F)) (adm m) (pdats m (V4 m γ)) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V4 m γ) c).loose
  hwaits := Pipeline.hwaits_of_owed_zero _ _ _ _ L lv 2 fun _ _ => rfl
  pre c := iprop(StableHlo.held (c : Thread nD τ) (Pipeline.ucRefs τ sig) (W4 m γ c) ∗ R c)
  post c := iprop(StableHlo.held (c : Thread nD τ) (Pipeline.ucRefs τ sig) (W5 m γ c) ∗ R c)
  X c := iprop(∃ r, prngReg c r)
  Y c := iprop(∃ r, prngReg c r)
  Z c := Pipeline.unscopedRest (Ix := Unit) (Name := ℕ) (U := UR sig nD τ × UR sig nD τ) (Lvl := ℕ) spec2 c (V4 m γ c)
  hentry c := by
    rw [Pipeline.ownSems0_none]
    have hsplit := Pipeline.arrays_of_unscopedBufs (p := 2) (pcfgs (F := F)) (adm m) (pdats m (V4 m γ)) (launch2 (F := F)).win (launch2 (F := F)).arr_whole c
      ((pdats m (V4 m γ) 2 c).share_full fun _ => rfl) (V4 m γ c) (A_eq2 (V4 m γ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (V4 m γ) 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m (V4 m γ) 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UR sig nD τ × UR sig nD τ) (Lvl := ℕ)
      (launch2 (F := F)).win (launch2 (F := F)).arr_whole c (pdats m (V4 m γ)) ((pdats m (V4 m γ) 2 c).share_full fun _ => rfl)
      (V4 m γ c) (V5 m γ c) ((pdats m (V4 m γ) 2 c).arrAt · cfg2.N) (hF2 m γ c) (hrest2 m γ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Call 2 as a host segment: whatever `γ` is, from the second copy of its ghost state. -/
def seg2 : Pipeline.HostSeg (Name := ℕ) (U := UR sig nD τ × UR sig nD τ) (pcfgs (F := F)) defs₀ 𝒱₀ L lv where
  prog := Prog.lift (.customCall (Pipeline.entry 2) ())
  pre c := iprop((∃ γ, StableHlo.held (c : Thread nD τ) (Pipeline.ucRefs τ sig) (W4 m γ c)) ∗ RG m c)
  post c := iprop((∃ γ, StableHlo.held (c : Thread nD τ) (Pipeline.ucRefs τ sig) (W5 m γ c)) ∗ R c)
  run c {β} k K := by
    have hwp := fun γ => Pipeline.RegionSeg.wp (pcfgs (F := F)) (adm m) (pdats m (V4 m γ)) () (cellOf_inj (adm m)) embR defs₀ 𝒱₀ L lv (reg2 m γ) c none
      (fun u h => nomatch h) k K
    have hpre : ∀ γ, (reg2 m γ).pre c = iprop(StableHlo.held (c : Thread nD τ) (Pipeline.ucRefs τ sig) (W4 m γ c) ∗ R c) := fun _ => rfl
    have hpost : ∀ γ, (reg2 m γ).post c = iprop(StableHlo.held (c : Thread nD τ) (Pipeline.ucRefs τ sig) (W5 m γ c) ∗ R c) := fun _ => rfl
    simp only [hpre, hpost] at hwp
    iintro ⟨Hk, Hbd, ⟨⟨%γ, Hh⟩, HR, HG, HT⟩, HL⟩
    iapply (hwp γ)
    isplitl [Hk]
    · iintro ⟨Hbd, Hh, HR⟩
      iapply Hk
      isplitl [Hbd]; · iexact Hbd
      isplitl [Hh]; · iexists γ; iexact Hh
      iexact HR
    isplitl [Hbd]; · iexact Hbd
    isplitl [Hh HR]; · isplitl [Hh] <;> iassumption
    isplitl [HL]; · iexact HL
    isplitl [HG] <;> iassumption

/-- The last host stretch, whatever `γ` is. -/
abbrev hseg3 : Pipeline.HostSeg (Name := ℕ) (U := UR sig nD τ × UR sig nD τ) (pcfgs (F := F)) defs₀ 𝒱₀ L lv :=
  Pipeline.HostSeg.ofOpsEx _ _ _ _ _ (Γ := fun _ => Gam m) (Pipeline.ucRefs τ sig) hostOps3
    (fun op h => Pipeline.sub_ucRefs op ((List.forall_iff_forall_mem.mp hostOps3_sub) op h))
    (fun op h => (List.forall_iff_forall_mem.mp hostOps3_fresh) op h) (fun c γ => W5 m γ c) R

/-! ## @main as segments, and the launch -/

abbrev segs (hl : LensOK (lens1 (adm1 m))) : List (Pipeline.RDat.Seg (pcfgs (F := F)) (adm m) (rdats m) () defs₀ 𝒱₀ L lv) :=
  [ .host (hseg m hostOps0 hostOps0_sub hostOps0_fresh (W0 m)),
    .region (reg0R m),
    .host (hseg m hostOps1 hostOps1_sub hostOps1_fresh (W2 m)),
    .region (reg1 m hl),
    .host (seg2 m),
    .host (hseg3 m) ]
theorem main_run (hl : LensOK (lens1 (adm1 m))) (c : Dev nD) : main (F := F) c = Pipeline.RDat.Seg.run (segs m hl) :=
  (main_chain c).trans (by chain_rfl)

theorem no_unscoped : ∀ sm : SemLoc sig, sm.isScoped .tc = true := by decide

/-- The last thread state without the `owes`. -/
abbrev Tₙ (c : Dev nD) : sProp 𝕄 :=
  iprop((∃ γ, StableHlo.held (c : Thread nD τ) (Pipeline.ucRefs τ sig) (W6 m γ c)) ∗ ∃ r, prngReg c r)

/-- The launch element of one copy of the pipeline library's ghost state. -/
abbrev u1 : UR sig nD τ := initOf (Pipeline.cells (Pipeline.pin (pcfgs (F := F)) (adm m)) (cellOf_inj (adm m))) (Pipeline.launchToks (Pipeline.pin (pcfgs (F := F)) (adm m)) (cellOf_inj (adm m)))

theorem one (Φ : Dev nD → sProp 𝕄) : bigSep Finset.univ Φ ⊢ Φ dev0 := Entails.of_eq (BI.bigSep_singleton (i := dev0) (Φ := Φ))
theorem one' (Φ : Dev nD → sProp 𝕄) : Φ dev0 ⊢ bigSep Finset.univ Φ := Entails.of_eq (BI.bigSep_singleton (i := dev0) (Φ := Φ)).symm
theorem pick (Φ : Fin 3 → sProp 𝕄) : bigSep Finset.univ Φ ⊢ Φ 2 := by
  have h : bigSep Finset.univ Φ ⊢ iprop(Φ 2 ∗ bigSep (Finset.univ.erase 2) Φ) := Entails.of_eq (BI.bigSep_erase (Finset.mem_univ (2 : Fin 3)))
  iintro H
  ihave H := h $$ H
  icases H with ⟨H, -⟩
  iexact H
/-- The second copy yields call 2's ghost state. -/
theorem ghost2 : (BI.own (embR (u1 m)) : sProp 𝕄) ⊢ |={Set.univ}=> bigSep Finset.univ (G2 m) := by
  iintro H
  imod (Pipeline.fund_ghost (Pipeline.pin (pcfgs (F := F)) (adm m)) embR (cellOf_inj (adm m))) $$ H with ⟨Hg, Ht⟩
  imodintro
  ihave Hg := (one _) $$ Hg
  ihave Ht := (one _) $$ Ht
  iapply (one' _)
  isplitl [Hg]
  · iapply (pick fun p => Pipeline.cellsGhost (Pipeline.pin (pcfgs (F := F)) (adm m)) embR p dev0); iexact Hg
  · iapply (pick fun p => Pipeline.toksInit (Pipeline.pin (pcfgs (F := F)) (adm m)) embR p dev0); iexact Ht

set_option backward.isDefEq.respectTransparency.types false in
/-- THE RUN: @main terminates without a fault, and the final memory has every unscoped buffer at `W6` of some `γ`, every
    semaphore counter at zero. -/
theorem runs (hl : LensOK (lens1 (adm1 m))) : θ_run defs (onTc (τ := τ) (main (F := F))) ⟨m, fun _ => 0, ρ⟩ (fun r =>
      (∀ c : Dev nD, ∃ γ : Gam m, ∀ b ∈ Pipeline.ucRefs τ sig, r.2.mem (((c : Thread nD τ)).1, b) = W6 m γ c b) ∧ r.2.sem = fun _ => 0) :=
  Pipeline.RDat.θ_run_regions_kit_sems (pcfgs (F := F)) (adm m) (rdats m) () (cellOf_inj (adm m)) embL defs₀ 𝒱₀ L lv m ρ main (segs m hl)
    (fun c Q => by rw [main_run m hl c])
    (by simp only [segs, Pipeline.RDat.Seg.pipes_host, Pipeline.RDat.Seg.pipes_region, Pipeline.RDat.Seg.pipes_nil]; decide)
    (O₀ := 0) (hL := fun _ _ => rfl) (G := G2 m)
    (u₀ := (u1 m, u1 m))
    (hu₀ := by
      iintro Hu
      ihave Hu := (ownU_pair (u1 m) (u1 m)) $$ Hu
      icases Hu with ⟨H1, H2⟩
      imod (ghost2 m) $$ H2 with H2
      imodintro
      isplitl [H1] <;> iassumption)
    (T₀ := fun c => iprop(StableHlo.held (c : Thread nD τ) (Pipeline.ucRefs τ sig) (W0 m c) ∗ RG m c)) (Tₙ := Tₙ m)
    (hch := ⟨fun _ => .rfl, fun _ => .rfl, fun _ => .rfl, fun _ => .rfl, fun _ => .rfl, fun _ => .rfl, fun c => by
      dsimp only [Pipeline.RDat.Seg.post, hseg3, Pipeline.HostSeg.ofOpsEx]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, HG⟩, -⟩
      imodintro
      isplitl [Hh]; · iexact Hh
      isplitr [HG]
      · isplitl [Hp]; · iexists _; iexact Hp
        iexists ∅; iexact HO
      iexact HG)
    (QY := fun c s => ∃ γ : Gam m, ∀ b ∈ Pipeline.ucRefs τ sig, s.mem (((c : Thread nD τ)).1, b) = W6 m γ c b)
    (hfin := fun c s' => by
      iintro ⟨⟨⟨%γ, Hh⟩, -⟩, HSI⟩
      have hread := pointsTo_read_all (Pipeline.ucRefs τ sig) (fun b => (((c : Thread nD τ)).1, b)) (W6 m γ c) s' (Ix := Unit) (Name := ℕ) (U := UR sig nD τ × UR sig nD τ) (Lvl := ℕ)
      unfold StableHlo.held
      ihave H := hread $$ [Hh HSI]
      · isplitl [Hh] <;> iassumption
      icases H with ⟨%h, HSI⟩
      imodintro
      isplitr
      · ipureintro; exact ⟨γ, h⟩
      iexact HSI)
    (hQ := fun s h hz => ⟨h, funext fun g => hz g (.inr (no_unscoped g.2))⟩)

/-- THE FRAME, of lengths that fit. -/
theorem frame (hl : LensOK (lens1 (adm1 m))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => by
    obtain ⟨γ, hγ⟩ := h.1 c
    exact ⟨(hγ _ (mem_uc main_arg0 (by decide))).trans (W6_args m γ c main_arg0 (by decide)),
      (hγ _ (mem_uc main_arg1 (by decide))).trans (W6_args m γ c main_arg1 (by decide)),
      (hγ _ (mem_uc main_arg2 (by decide))).trans (W6_args m γ c main_arg2 (by decide)),
      (hγ _ (mem_uc main_arg3 (by decide))).trans (W6_args m γ c main_arg3 (by decide)),
      (hγ _ (mem_uc main_arg4 (by decide))).trans (W6_args m γ c main_arg4 (by decide)),
      (hγ _ (mem_uc main_arg5 (by decide))).trans (W6_args m γ c main_arg5 (by decide)),
      (hγ _ (mem_uc main_arg6 (by decide))).trans (W6_args m γ c main_arg6 (by decide)),
      (hγ _ (mem_uc main_arg7 (by decide))).trans (W6_args m γ c main_arg7 (by decide)),
      (hγ _ (mem_uc main_arg8 (by decide))).trans (W6_args m γ c main_arg8 (by decide)),
      (hγ _ (mem_uc main_arg9 (by decide))).trans (W6_args m γ c main_arg9 (by decide)),
      (hγ _ (mem_uc main_arg10 (by decide))).trans (W6_args m γ c main_arg10 (by decide))⟩, h.2⟩) (runs m ρ hl)

end Cert.Kernel.Gen

end
-- ==== Proof.Kernel.Lens.lean ====
/- Lengths that fit: a document of at most 512 tokens makes the checks the kernel states of it, so the precondition gives
   every check of every document. -/
module

public import proofs.«01_k».proof.Proof.Kernel.Region1
public import proofs.«01_k».proof.Proof.Gen.Pre_lens_fit
public import Idealize.ShloMosaic.Lib.WordArith
public import Idealize.ShloMosaic.Lib.ReduceAll

@[expose] public section

set_option maxRecDepth 16384

noncomputable section

namespace Cert.Kernel.Gen

open Idealize.ShloMosaic Idealize.ShloMosaic.TcCoe

/-- The number of 128-token chunks of a document of `w` tokens, as the kernel computes it. -/
def nChunks (w : BitVec 32) : BitVec 32 := Scalar.divsi (Scalar.addi w 127#32) 128#32

theorem nChunks_eq (w : BitVec 32) : nChunks w = (w + 127#32).sdiv 128#32 := by
  unfold nChunks Scalar.divsi IntOp.divsi
  rw [if_neg (by simp [IntOp.SDivCorner])]; rfl

theorem tdiv_le (a : Int) (h : a ≤ 639) (hl : -2147483648 ≤ a) : a.tdiv 128 ≤ 4 ∧ -2147483648 ≤ a.tdiv 128 := by
  rcases le_total 0 a with h0 | h0
  · rw [Int.tdiv_eq_ediv_of_nonneg h0]; omega
  · obtain ⟨b, rfl⟩ : ∃ b, a = -b := ⟨-a, by omega⟩
    rw [Int.neg_tdiv, Int.tdiv_eq_ediv_of_nonneg (by omega)]; omega

theorem nChunks_toInt (w : BitVec 32) (h : w.toInt ≤ 512) : (nChunks w).toInt = (w.toInt + 127).tdiv 128 := by
  have hl := BitVec.le_toInt w
  have hs : (w + 127#32).toInt = w.toInt + 127 := by
    rw [BitVec.toInt_add, show (127#32 : BitVec 32).toInt = 127 from rfl]
    exact Int.bmod_eq_of_le (by omega) (by omega)
  rw [nChunks_eq, BitVec.toInt_sdiv, hs, show (128#32 : BitVec 32).toInt = 128 from rfl]
  have h1 := tdiv_le (w.toInt + 127) (by omega) (by omega)
  exact Int.bmod_eq_of_le (by omega) (by omega)

theorem t2_loop_eq (w : BitVec 32) : k1_t2_loop w = ⟨0#32, nChunks w, 1#32⟩ := by
  show (⟨0#32, Scalar.addi 0#32 (Scalar.muli (Scalar.divsi (Scalar.subi (nChunks w) 0#32) 1#32) 1#32), 1#32⟩ : Scf.Loop 32) = _
  congr 1
  have h : Scalar.divsi (Scalar.subi (nChunks w) 0#32) 1#32 = nChunks w := by
    show IntOp.divsi .scalar (nChunks w - 0#32) 1#32 = _
    unfold IntOp.divsi
    rw [if_neg (by simp [IntOp.SDivCorner]), BitVec.sub_zero]; exact BitVec.sdiv_one
  rw [h]
  show 0#32 + nChunks w * 1#32 = _
  simp

theorem t3_loop_eq (w : BitVec 32) : k1_t3_loop w = ⟨nChunks w, nChunks w, 1#32⟩ := by
  have e2 : (k1_t3_loop w).lb = (k1_t2_loop w).ub := rfl
  have e3 : (k1_t3_loop w).ub = Scalar.addi 0#32 (Scalar.subi (nChunks w) 0#32) := rfl
  have e4 : (k1_t3_loop w).st = 1#32 := rfl
  have e5 : Scalar.addi 0#32 (Scalar.subi (nChunks w) 0#32) = nChunks w := by
    show 0#32 + (nChunks w - 0#32) = _
    simp
  rw [t2_loop_eq] at e2
  show (⟨(k1_t3_loop w).lb, (k1_t3_loop w).ub, (k1_t3_loop w).st⟩ : Scf.Loop 32) = _
  rw [e2, e3, e4, e5]

theorem t2_trips (w : BitVec 32) (h : w.toInt ≤ 512) : (k1_t2_loop w).trips = ((w.toInt + 127).tdiv 128).toNat := by
  rw [t2_loop_eq]
  show Scf.trips _ _ _ = _
  unfold Scf.trips
  rw [nChunks_toInt w h, show (0#32 : BitVec 32).toInt = 0 from rfl, show (1#32 : BitVec 32).toInt = 1 from rfl]
  congr 1; omega
theorem t2_trips_le (w : BitVec 32) (h : w.toInt ≤ 512) : (k1_t2_loop w).trips ≤ 4 := by
  have hl := BitVec.le_toInt w
  have h1 := tdiv_le (w.toInt + 127) (by omega) (by omega)
  rw [t2_trips w h]; omega
theorem t3_trips (w : BitVec 32) : (k1_t3_loop w).trips = 0 := by
  rw [t3_loop_eq]
  show Scf.trips _ _ _ = _
  unfold Scf.trips
  show (((nChunks w).toInt - (nChunks w).toInt + (1#32 : BitVec 32).toInt - 1) / (1#32 : BitVec 32).toInt).toNat = 0
  rw [show (1#32 : BitVec 32).toInt = 1 from rfl]
  omega

/-- The offsets of a chunk's loads, of a chunk number rather than a trip. -/
def offZ (t : Fin k1_t1_loop.trips) (k : Nat) : Fin 3 → Nat :=
  ![(Scalar.indexCast (Scalar.addi 0#32 (Scalar.muli (Scf.iv 0#32 1#32 t) 1#32)) : Index).toNat,
    (Scalar.indexCast (Scalar.muli (Scf.iv 0#32 1#32 k) 128#32) : Index).toNat, 0]
theorem off2_offZ (t : Fin k1_t1_loop.trips) (w : BitVec 32) (k : Fin (k1_t2_loop w).trips) : k1_off2 t w k = offZ t k.val := rfl
theorem off3_offZ (t : Fin k1_t1_loop.trips) (w : BitVec 32) (k : Fin (k1_t2_loop w).trips) : k1_off3 t w k = offZ t k.val := rfl
theorem offZ_eq : ∀ (t : Fin k1_t1_loop.trips) (k : Fin 4), offZ t k.val = ![t.val, 128 * k.val, 0] := by decide +kernel
theorem off2_eq (t : Fin k1_t1_loop.trips) (w : BitVec 32) (h : w.toInt ≤ 512) (k : Fin (k1_t2_loop w).trips) :
    k1_off2 t w k = ![t.val, 128 * k.val, 0] :=
  (off2_offZ t w k).trans (offZ_eq t ⟨k.val, k.isLt.trans_le (t2_trips_le w h)⟩)
theorem off3_eq (t : Fin k1_t1_loop.trips) (w : BitVec 32) (h : w.toInt ≤ 512) (k : Fin (k1_t2_loop w).trips) :
    k1_off3 t w k = ![t.val, 128 * k.val, 0] :=
  (off3_offZ t w k).trans (offZ_eq t ⟨k.val, k.isLt.trans_le (t2_trips_le w h)⟩)
theorem t1_lt (t : Fin k1_t1_loop.trips) : t.val < 32 := t.isLt

/-- A length of at most 512 makes its document's checks. -/
theorem chk_of_le (t : Fin k1_t1_loop.trips) (w : BitVec 32) (h : w.toInt ≤ 512) : k1_chk1 t w := by
  have h4 := t2_trips_le w h
  refine ⟨?_, fun k => ?_, fun k a => ?_, fun k a => ?_, ?_, fun k => ?_, fun k => ?_, fun k => ?_⟩
  · refine ⟨by rw [t2_loop_eq]; show 0 < (1#32 : BitVec 32).toInt; decide, ?_⟩
    have : ((k1_t2_loop w).trips : Int) ≤ 4 := by exact_mod_cast h4
    have e : (k1_t2_loop w).lb.toInt = 0 := by rw [t2_loop_eq]; rfl
    have e' : (k1_t2_loop w).st.toInt = 1 := by rw [t2_loop_eq]; rfl
    show (k1_t2_loop w).lb.toInt + ((k1_t2_loop w).trips : Int) * (k1_t2_loop w).st.toInt < _
    rw [e, e']; omega
  · have hk : ∀ k : Fin 4, 128 ∣ (Scalar.muli (Scf.iv 0#32 1#32 k.val) 128#32).toNat := by decide +kernel
    exact hk ⟨k.val, k.isLt.trans_le h4⟩
  · rw [off2_eq t w h k]
    have hk := k.isLt
    have ht := t1_lt t
    fin_cases a
    · show t.val + 1 ≤ 32; omega
    · show 128 * k.val + 128 ≤ 512; omega
    · show 0 + 768 ≤ 768; omega
  · rw [off3_eq t w h k]
    have hk := k.isLt
    have ht := t1_lt t
    fin_cases a
    · show t.val + 1 ≤ 32; omega
    · show 128 * k.val + 128 ≤ 512; omega
    · show 0 + 1 ≤ 128; omega
  · refine ⟨by rw [t3_loop_eq]; show 0 < (1#32 : BitVec 32).toInt; decide, ?_⟩
    have e : (k1_t3_loop w).lb.toInt = (w.toInt + 127).tdiv 128 := by rw [t3_loop_eq]; exact nChunks_toInt w h
    show (k1_t3_loop w).lb.toInt + ((k1_t3_loop w).trips : Int) * (k1_t3_loop w).st.toInt < _
    have hl := BitVec.le_toInt w
    have h1 := tdiv_le (w.toInt + 127) (by omega) (by omega)
    rw [e, t3_trips]; push_cast; omega
  all_goals exact absurd (k.isLt.trans_eq (t3_trips w)) (Nat.not_lt_zero _)

variable {F : FTy → Type} [FloatOps F]

/-- Lengths of at most 512 make every document's checks. -/
theorem lensOK_of_le (x : Vec F S32 .i32) (h : ∀ i, (x i : BitVec 32).toInt ≤ 512) : LensOK x := fun t => chk_of_le t _ (h _)

/-- The precondition says each length is at most 512. -/
theorem le_of_pre [Cert.Pre_lens_fit.Facts] (x0 x1 x2 x3 x4 x5 x6 x7 x8 x9 x10)
    (h : Cert.Pre_lens_fit.fn (F := F) x0 x1 x2 x3 x4 x5 x6 x7 x8 x9 x10 = fun _ => 1#1) (i : Cert.Pre_lens_fit.S32.Idx) : (x2 i).toInt ≤ 512 := by
  have h0 := congrFun h (Shape.Idx.first (by decide))
  have := Host.reduce_andi_all _ _ _ _ _ h0 i
  exact IntOp.cmpi_sle.1 this

end Cert.Kernel.Gen

end
-- ==== Proof.KernelIdeal.Region0.lean ====
/- The body of @main's call 0 (`cc0_transform`) run on its windows' blocks: what it leaves in every output window, the
   pipeline's proof data and its body obligation, at any contents `V` of the buffers when the call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_transform` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ × UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ × UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ × UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ × UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ × UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ × UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ × UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x768 := Rect.unit (s := S1x512x768) ![0, 0, 0] S1x128x768.size inb_S1x512x768_S1x128x768_0_0_0
abbrev r0_1 : Rect S768x768 := Rect.unit (s := S768x768) ![0, 0] S768x768.size inb_S768x768_S768x768_0_0
abbrev r0_2 : Rect S1x1x512 := Rect.unit (s := S1x1x512) ![0, 0, 0] S1x1x128.size inb_S1x1x512_S1x1x128_0_0_0
abbrev r0_3 : Rect S1x768 := Rect.unit (s := S1x768) ![0, 0] S1x768.size inb_S1x768_S1x768_0_0
abbrev r0_4 : Rect S1x512x128 := Rect.unit (s := S1x512x128) ![0, 0, 0] S1x128x128.size inb_S1x512x128_S1x128x128_0_0_0
abbrev r0_5 : Rect S1x512x768 := Rect.unit (s := S1x512x768) ![0, 128, 0] S1x128x768.size inb_S1x512x768_S1x128x768_0_128_0
abbrev r0_6 : Rect S1x1x512 := Rect.unit (s := S1x1x512) ![0, 0, 128] S1x1x128.size inb_S1x1x512_S1x1x128_0_0_128
abbrev r0_7 : Rect S1x512x128 := Rect.unit (s := S1x512x128) ![0, 128, 0] S1x128x128.size inb_S1x512x128_S1x128x128_0_128_0
abbrev r0_8 : Rect S1x512x768 := Rect.unit (s := S1x512x768) ![0, 256, 0] S1x128x768.size inb_S1x512x768_S1x128x768_0_256_0
abbrev r0_9 : Rect S1x1x512 := Rect.unit (s := S1x1x512) ![0, 0, 256] S1x1x128.size inb_S1x1x512_S1x1x128_0_0_256
abbrev r0_10 : Rect S1x512x128 := Rect.unit (s := S1x512x128) ![0, 256, 0] S1x128x128.size inb_S1x512x128_S1x128x128_0_256_0
abbrev r0_11 : Rect S1x512x768 := Rect.unit (s := S1x512x768) ![0, 384, 0] S1x128x768.size inb_S1x512x768_S1x128x768_0_384_0
abbrev r0_12 : Rect S1x1x512 := Rect.unit (s := S1x1x512) ![0, 0, 384] S1x1x128.size inb_S1x1x512_S1x1x128_0_0_384
abbrev r0_13 : Rect S1x512x128 := Rect.unit (s := S1x512x128) ![0, 384, 0] S1x128x128.size inb_S1x512x128_S1x128x128_0_384_0

/-! ## What the body leaves in each output window's buffer -/

/-! ### Values of the body that the stores' payloads, spelt out, would write more than once

    Each is a vector the body binds (often a part call's result), stated over the input windows' blocks and
    numbered on from the skeleton's payload functions (`k0_pay35` …, after `k0_pay34`), so that
    `out0_W` and the values after it name it instead of spelling it out (`unfold_out out0_W` opens a canon
    with them, `unfold_payloads` opens them with the payloads); the comment after each is the printed function's
    name for the value (a count appended where that name is bound again). -/

def k0_pay35 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay4 (View.ld x0 r0_0) (View.ld x2 r0_1) (View.ld x1 r0_2) (View.ld x3 r0_3) (View.ld x4 r0_3) -- `v33`
def k0_pay36 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x1 .f32 :=
  k0_pay5 (View.ld x0 r0_0) (View.ld x2 r0_1) (View.ld x1 r0_2) (View.ld x3 r0_3) (View.ld x4 r0_3) -- `v38`
def k0_pay37 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay13 (View.ld x0 r0_5) (View.ld x2 r0_1) (View.ld x1 r0_6) (View.ld x3 r0_3) (View.ld x4 r0_3) -- `v114`
def k0_pay38 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128 .f32 :=
  k0_pay14 (View.ld x0 r0_5) (View.ld x2 r0_1) (View.ld x1 r0_6) (View.ld x3 r0_3) (View.ld x4 r0_3) -- `v116`
def k0_pay39 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay21 (View.ld x0 r0_8) (View.ld x2 r0_1) (View.ld x1 r0_9) (View.ld x3 r0_3) (View.ld x4 r0_3) -- `v189`
def k0_pay40 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay22 (View.ld x0 r0_8) (View.ld x2 r0_1) (View.ld x1 r0_9) (View.ld x3 r0_3) (View.ld x4 r0_3) -- `v194`
def k0_pay41 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x128 .f32 :=
  k0_pay26 (k0_pay39 x0 x1 x2 x3 x4 x5 x6) (k0_pay40 x0 x1 x2 x3 x4 x5 x6) (View.ld x5 r0_3) (View.ld x6 r0_3) -- `v234`
def k0_pay42 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x768 .f32 :=
  k0_pay29 (View.ld x0 r0_11) (View.ld x2 r0_1) (View.ld x1 r0_12) (View.ld x3 r0_3) (View.ld x4 r0_3) -- `v270`
def k0_pay43 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x1 .f32 :=
  k0_pay30 (View.ld x0 r0_11) (View.ld x2 r0_1) (View.ld x1 r0_12) (View.ld x3 r0_3) (View.ld x4 r0_3) -- `v272`
def k0_pay44 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : FVec F S128x1 .f32 :=
  k0_pay34 (k0_pay42 x0 x1 x2 x3 x4 x5 x6) (k0_pay43 x0 x1 x2 x3 x4 x5 x6) (View.ld x5 r0_3) (View.ld x6 r0_3) -- `v314`

/-- Window 7's staging buffer after the body, from the input windows' blocks: its 4 stores as pieces, LAST
    FIRST (Lib/Pipeline/FrameBody.lean `View.canon`; the payloads are the skeleton's and the values stated above). -/
def out0_7 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : Vec F S1x512x768 .fp8e4m3 :=
  View.canon [⟨r0_11, k0_pay33 (k0_pay42 x0 x1 x2 x3 x4 x5 x6) (k0_pay43 x0 x1 x2 x3 x4 x5 x6) (View.ld x5 r0_3) (View.ld x6 r0_3)⟩,
    ⟨r0_8, k0_pay25 (k0_pay39 x0 x1 x2 x3 x4 x5 x6) (k0_pay40 x0 x1 x2 x3 x4 x5 x6) (View.ld x5 r0_3) (View.ld x6 r0_3)⟩,
    ⟨r0_5, k0_pay17 (k0_pay37 x0 x1 x2 x3 x4 x5 x6) (k0_pay38 x0 x1 x2 x3 x4 x5 x6) (View.ld x5 r0_3) (View.ld x6 r0_3)⟩,
    ⟨r0_0, k0_pay8 (k0_pay35 x0 x1 x2 x3 x4 x5 x6) (k0_pay36 x0 x1 x2 x3 x4 x5 x6) (View.ld x5 r0_3) (View.ld x6 r0_3)⟩]

/-- Its stores tile the buffer (checked by evaluation), so they cover it. -/
theorem cover0_7 (p0 : Vec F S1x128x768 .fp8e4m3) (p1 : Vec F S1x128x768 .fp8e4m3) (p2 : Vec F S1x128x768 .fp8e4m3) (p3 : Vec F S1x128x768 .fp8e4m3) (y : S1x512x768.Idx) :
    ∃ pc ∈ ([⟨r0_11, p0⟩, ⟨r0_8, p1⟩, ⟨r0_5, p2⟩, ⟨r0_0, p3⟩] : List (View.Piece (Elt F) S1x512x768 .fp8e4m3)), y ∈ pc.1.set :=
  View.cover_of_tiled [⟨r0_11, p0⟩, ⟨r0_8, p1⟩, ⟨r0_5, p2⟩, ⟨r0_0, p3⟩] S1x128x768.size (by rfl) y

/-- Window 8's staging buffer after the body, from the input windows' blocks: its 4 stores as pieces, LAST
    FIRST (Lib/Pipeline/FrameBody.lean `View.canon`; the payloads are the skeleton's and the values stated above). -/
def out0_8 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : Vec F S1x1x512 .f32 :=
  View.canon [⟨r0_12, k0_pay3 (k0_pay44 x0 x1 x2 x3 x4 x5 x6)⟩,
    ⟨r0_9, k0_pay28 (k0_pay41 x0 x1 x2 x3 x4 x5 x6)⟩,
    ⟨r0_6, k0_pay20 (k0_pay18 (k0_pay37 x0 x1 x2 x3 x4 x5 x6) (k0_pay38 x0 x1 x2 x3 x4 x5 x6) (View.ld x5 r0_3) (View.ld x6 r0_3))⟩,
    ⟨r0_2, k0_pay12 (k0_pay11 (k0_pay35 x0 x1 x2 x3 x4 x5 x6) (k0_pay36 x0 x1 x2 x3 x4 x5 x6) (View.ld x5 r0_3) (View.ld x6 r0_3))⟩]

/-- Its stores tile the buffer (checked by evaluation), so they cover it. -/
theorem cover0_8 (p0 : Vec F S1x1x128 .f32) (p1 : Vec F S1x1x128 .f32) (p2 : Vec F S1x1x128 .f32) (p3 : Vec F S1x1x128 .f32) (y : S1x1x512.Idx) :
    ∃ pc ∈ ([⟨r0_12, p0⟩, ⟨r0_9, p1⟩, ⟨r0_6, p2⟩, ⟨r0_2, p3⟩] : List (View.Piece (Elt F) S1x1x512 .f32)), y ∈ pc.1.set :=
  View.cover_of_tiled [⟨r0_12, p0⟩, ⟨r0_9, p1⟩, ⟨r0_6, p2⟩, ⟨r0_2, p3⟩] S1x1x128.size (by rfl) y

/-- Window 9's staging buffer after the body, from the input windows' blocks: its 4 stores as pieces, LAST
    FIRST (Lib/Pipeline/FrameBody.lean `View.canon`; the payloads are the skeleton's and the values stated above). -/
def out0_9 (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) : Vec F S1x512x128 .f32 :=
  View.canon [⟨r0_13, k0_pay2 (k0_pay44 x0 x1 x2 x3 x4 x5 x6)⟩,
    ⟨r0_10, k0_pay27 (k0_pay41 x0 x1 x2 x3 x4 x5 x6)⟩,
    ⟨r0_7, k0_pay19 (k0_pay37 x0 x1 x2 x3 x4 x5 x6) (k0_pay38 x0 x1 x2 x3 x4 x5 x6) (View.ld x5 r0_3) (View.ld x6 r0_3)⟩,
    ⟨r0_4, k0_pay10 (k0_pay35 x0 x1 x2 x3 x4 x5 x6) (k0_pay36 x0 x1 x2 x3 x4 x5 x6) (View.ld x5 r0_3) (View.ld x6 r0_3)⟩]

/-- Its stores tile the buffer (checked by evaluation), so they cover it. -/
theorem cover0_9 (p0 : Vec F S1x128x128 .f32) (p1 : Vec F S1x128x128 .f32) (p2 : Vec F S1x128x128 .f32) (p3 : Vec F S1x128x128 .f32) (y : S1x512x128.Idx) :
    ∃ pc ∈ ([⟨r0_13, p0⟩, ⟨r0_10, p1⟩, ⟨r0_7, p2⟩, ⟨r0_4, p3⟩] : List (View.Piece (Elt F) S1x512x128 .f32)), y ∈ pc.1.set :=
  View.cover_of_tiled [⟨r0_13, p0⟩, ⟨r0_10, p1⟩, ⟨r0_7, p2⟩, ⟨r0_4, p3⟩] S1x128x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x512x768 .fp8e4m3) (harg1 : arg1.IsWhole) (arg2 : Memref sig .tc .vmem S1x1x512 .f32) (harg2 : arg2.IsWhole) (arg3 : Memref sig .tc .vmem S768x768 .fp8e4m3) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1x512x768 .fp8e4m3) (harg8 : arg8.IsWhole) (arg9 : Memref sig .tc .vmem S1x1x512 .f32) (harg9 : arg9.IsWhole) (arg10 : Memref sig .tc .vmem S1x512x128 .f32) (harg10 : arg10.IsWhole)
    (x0 : Vec F S1x512x768 .fp8e4m3) (x1 : Vec F S1x1x512 .f32) (x2 : Vec F S768x768 .fp8e4m3) (x3 : Vec F S1x768 .f32) (x4 : Vec F S1x768 .f32) (x5 : Vec F S1x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0_transform i arg1 harg1 arg2 harg2 arg3 harg3 arg4 harg4 arg5 harg5 arg6 harg6 arg7 harg7 arg8 harg8 arg9 harg9 arg10 harg10) K := by
  simp only [cc0_transform_eq_skeleton]; unfold cc0_transform_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _ _ _ _)).trans ?_
    rfl
  iexists _; isplitr
  swap; · iexact H9
  ipureintro
  refine (View.read_writes_eq_canon _ _ _ (cover0_9 _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ × UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdeal.DocLoops.lean ====
/- The loops of @main's call 1 (`cc1_logits`): over the documents, and inside each over its 128-token chunks. What every
   loop computes is a plain recursion on the arrays read, and the loops run by these as invariants. -/
module

public import proofs.«01_k».proof.Proof.Gen.KernelIdeal.Loops
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × UR sig nD τ) ℕ

/-- Document `k1_t1`'s running maximum after `k` of its chunks, from `init`. -/
def docChunks (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) : ℕ → FVec F S8x512 .f32
  | 0 => init
  | k + 1 => if h : k < (k1_t2_loop v296).trips then
      k1_pay6 v296 ⟨k, h⟩ (docChunks k1_t1 v296 hw z s w init k)
        (View.ld z (Rect.unit (s := S32x512x768) (k1_off2 k1_t1 v296 ⟨k, h⟩) S1x128x768.size (k1_off2_inb k1_t1 v296 hw ⟨k, h⟩)))
        (View.ld w (Rect.unit (s := S768x512) ![0, 0] S768x512.size inb_S768x512_S768x512_0_0))
        (View.ld s (Rect.unit (s := S32x512x128) (k1_off3 k1_t1 v296 ⟨k, h⟩) S1x128x1.size (k1_off3_inb k1_t1 v296 hw ⟨k, h⟩)))
    else docChunks k1_t1 v296 hw z s w init k

theorem docChunks_zero (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) :
    docChunks k1_t1 v296 hw z s w init 0 = init := rfl

theorem docChunks_succ (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) (k : Fin (k1_t2_loop v296).trips) :
    docChunks k1_t1 v296 hw z s w init (k.val + 1) = k1_pay6 v296 k (docChunks k1_t1 v296 hw z s w init k.val)
        (View.ld z (Rect.unit (s := S32x512x768) (k1_off2 k1_t1 v296 k) S1x128x768.size (k1_off2_inb k1_t1 v296 hw k)))
        (View.ld w (Rect.unit (s := S768x512) ![0, 0] S768x512.size inb_S768x512_S768x512_0_0))
        (View.ld s (Rect.unit (s := S32x512x128) (k1_off3 k1_t1 v296 k) S1x128x1.size (k1_off3_inb k1_t1 v296 hw k))) := by
  rw [docChunks]; exact dif_pos k.isLt

set_option maxHeartbeats 4000000 in
set_option warn.classDefReducibility false in
/-- That loop by its invariant: the arrays it reads stay, and the carried value is the recursion's. -/
@[sl_loop] def loopRun_k1_t2 (𝒱 : Variants) (c : Dev nD) (bd : Option 𝒱.V) (E : Set ℕ) (i : grid1.Coords) (arg1 : Memref sig .tc .smem S32 .i32) (harg1 : arg1.IsWhole) (arg2 : Memref sig .tc .vmem S32x512x768 .fp8e4m3) (harg2 : arg2.IsWhole) (arg3 : Memref sig .tc .vmem S32x512x128 .f32) (harg3 : arg3.IsWhole) (arg4 : Memref sig .tc .vmem S512x384 .i8) (harg4 : arg4.IsWhole) (arg5 : Memref sig .tc .vmem S512x6 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S768x512 .bf16) (harg8 : arg8.IsWhole) (k1_t1 : Fin k1_t1_loop.trips) (v296 : Elt F .i32) (k1_hw1 : k1_chk1 k1_t1 v296) (X2 : BufTy.Contents (Elt F) arg2.view.ty) (X3 : BufTy.Contents (Elt F) arg3.view.ty) (X8 : BufTy.Contents (Elt F) arg8.view.ty) (init : FVec F S8x512 .f32) :
    LoopInvTy_k1_t2 (F := F) Unit ℕ (UR sig nD τ × UR sig nD τ) ℕ 𝒱 c bd E i arg1 harg1 arg2 harg2 arg3 harg3 arg4 harg4 arg5 harg5 arg6 harg6 arg7 harg7 arg8 harg8 k1_t1 v296 k1_hw1 init where
  inv k acc := iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8)
    ∗ ⌜acc = docChunks k1_t1 v296 k1_hw1 (arg2.view.read (Elt F) X2) (arg3.view.read (Elt F) X3) (arg8.view.read (Elt F) X8) init k⌝)
  step k acc := by
    iintro ⟨H2, H3, H8, %h_acc⟩
    subst h_acc
    unfold k1_t2_body
    sl_exec
    sl_step
    isplitl [H2]; · iexact H2
    isplitl [H3]; · iexact H3
    isplitl [H8]; · iexact H8
    ipureintro
    rw [docChunks_succ]; rfl

/-- The same over the chunks the first loop leaves out (there are none). -/
def docRest (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) : ℕ → FVec F S8x512 .f32
  | 0 => init
  | k + 1 => if h : k < (k1_t3_loop v296).trips then
      k1_pay7 v296 ⟨k, h⟩ (docRest k1_t1 v296 hw z s w init k)
        (View.ld z (Rect.unit (s := S32x512x768) (k1_off4 k1_t1 v296 ⟨k, h⟩) S1x128x768.size (k1_off4_inb k1_t1 v296 hw ⟨k, h⟩)))
        (View.ld w (Rect.unit (s := S768x512) ![0, 0] S768x512.size inb_S768x512_S768x512_0_0))
        (View.ld s (Rect.unit (s := S32x512x128) (k1_off5 k1_t1 v296 ⟨k, h⟩) S1x128x1.size (k1_off5_inb k1_t1 v296 hw ⟨k, h⟩)))
    else docRest k1_t1 v296 hw z s w init k

theorem docRest_zero (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) :
    docRest k1_t1 v296 hw z s w init 0 = init := rfl

theorem docRest_succ (k1_t1 : Fin k1_t1_loop.trips) (v296 : BitVec 32) (hw : k1_chk1 k1_t1 v296) (z : Vec F S32x512x768 .fp8e4m3)
    (s : Vec F S32x512x128 .f32) (w : Vec F S768x512 .bf16) (init : FVec F S8x512 .f32) (k : Fin (k1_t3_loop v296).trips) :
    docRest k1_t1 v296 hw z s w init (k.val + 1) = k1_pay7 v296 k (docRest k1_t1 v296 hw z s w init k.val)
        (View.ld z (Rect.unit (s := S32x512x768) (k1_off4 k1_t1 v296 k) S1x128x768.size (k1_off4_inb k1_t1 v296 hw k)))
        (View.ld w (Rect.unit (s := S768x512) ![0, 0] S768x512.size inb_S768x512_S768x512_0_0))
        (View.ld s (Rect.unit (s := S32x512x128) (k1_off5 k1_t1 v296 k) S1x128x1.size (k1_off5_inb k1_t1 v296 hw k))) := by
  rw [docRest]; exact dif_pos k.isLt

set_option maxHeartbeats 4000000 in
set_option warn.classDefReducibility false in
/-- That loop by its invariant: the arrays it reads stay, and the carried value is the recursion's. -/
@[sl_loop] def loopRun_k1_t3 (𝒱 : Variants) (c : Dev nD) (bd : Option 𝒱.V) (E : Set ℕ) (i : grid1.Coords) (arg1 : Memref sig .tc .smem S32 .i32) (harg1 : arg1.IsWhole) (arg2 : Memref sig .tc .vmem S32x512x768 .fp8e4m3) (harg2 : arg2.IsWhole) (arg3 : Memref sig .tc .vmem S32x512x128 .f32) (harg3 : arg3.IsWhole) (arg4 : Memref sig .tc .vmem S512x384 .i8) (harg4 : arg4.IsWhole) (arg5 : Memref sig .tc .vmem S512x6 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S768x512 .bf16) (harg8 : arg8.IsWhole) (k1_t1 : Fin k1_t1_loop.trips) (v296 : Elt F .i32) (k1_hw1 : k1_chk1 k1_t1 v296) (X2 : BufTy.Contents (Elt F) arg2.view.ty) (X3 : BufTy.Contents (Elt F) arg3.view.ty) (X8 : BufTy.Contents (Elt F) arg8.view.ty) (init : FVec F S8x512 .f32) :
    LoopInvTy_k1_t3 (F := F) Unit ℕ (UR sig nD τ × UR sig nD τ) ℕ 𝒱 c bd E i arg1 harg1 arg2 harg2 arg3 harg3 arg4 harg4 arg5 harg5 arg6 harg6 arg7 harg7 arg8 harg8 k1_t1 v296 k1_hw1 init where
  inv k acc := iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8)
    ∗ ⌜acc = docRest k1_t1 v296 k1_hw1 (arg2.view.read (Elt F) X2) (arg3.view.read (Elt F) X3) (arg8.view.read (Elt F) X8) init k⌝)
  step k acc := by
    iintro ⟨H2, H3, H8, %h_acc⟩
    subst h_acc
    unfold k1_t3_body
    sl_exec
    sl_step
    isplitl [H2]; · iexact H2
    isplitl [H3]; · iexact H3
    isplitl [H8]; · iexact H8
    ipureintro
    rw [docRest_succ]; rfl

/-- Document `k1_t1`'s row of the output: its running maximum over all chunks, with the bias and the activation. -/
def docRow (k1_t1 : Fin k1_t1_loop.trips) (v296 : BitVec 32) (hw : k1_chk1 k1_t1 v296) (z : Vec F S32x512x768 .fp8e4m3)
    (s : Vec F S32x512x128 .f32) (w : Vec F S768x512 .bf16) (b : Vec F S1x512 .f32) : FVec F S1x512 .f32 :=
  k1_pay8 (docRest k1_t1 v296 hw z s w (docChunks k1_t1 v296 hw z s w k1_pay5 (k1_t2_loop v296).trips) (k1_t3_loop v296).trips)
    (View.ld b (Rect.unit (s := S1x512) ![0, 0] S1x512.size inb_S1x512_S1x512_0_0))

/-- The length the table holds for document `k1_t1`. -/
def lenAt (x : Vec F S32 .i32) (k1_t1 : Fin k1_t1_loop.trips) : BitVec 32 :=
  View.ld (Val := Elt F) x (Rect.unit (s := S32) (k1_off1 k1_t1) S1.size (k1_off1_inb k1_t1)) (Shape.Idx.first (numel1_S1.symm ▸ Nat.one_pos))

/-- Every document's length satisfies the body's side condition. -/
def LensOK (x : Vec F S32 .i32) : Prop := ∀ t, k1_chk1 t (lenAt x t)

/-- The output's row stores, of the documents before `k`, the last first. -/
def docRows (x : Vec F S32 .i32) (hl : LensOK x) (z : Vec F S32x512x768 .fp8e4m3)
    (s : Vec F S32x512x128 .f32) (w : Vec F S768x512 .bf16) (b : Vec F S1x512 .f32) : ℕ → List (View.Piece (Elt F) S32x512 .f32)
  | 0 => []
  | k + 1 => if h : k < k1_t1_loop.trips then
      ⟨Rect.unit (s := S32x512) (k1_off6 ⟨k, h⟩) S1x512.size (k1_off6_inb ⟨k, h⟩), docRow ⟨k, h⟩ (lenAt x ⟨k, h⟩) (hl ⟨k, h⟩) z s w b⟩ :: docRows x hl z s w b k
    else docRows x hl z s w b k

theorem docRows_succ (x : Vec F S32 .i32) (hl : LensOK x) (z : Vec F S32x512x768 .fp8e4m3)
    (s : Vec F S32x512x128 .f32) (w : Vec F S768x512 .bf16) (b : Vec F S1x512 .f32) (k : Fin k1_t1_loop.trips) :
    docRows x hl z s w b (k.val + 1)
      = ⟨Rect.unit (s := S32x512) (k1_off6 k) S1x512.size (k1_off6_inb k), docRow k (lenAt x k) (hl k) z s w b⟩ :: docRows x hl z s w b k.val := by
  rw [docRows]; exact dif_pos k.isLt

set_option maxHeartbeats 4000000 in
set_option warn.classDefReducibility false in
/-- The loop over the documents by its invariant: what it reads stays, and the output holds the rows stored so far. -/
@[sl_loop] def loopRun_k1_t1 (𝒱 : Variants) (c : Dev nD) (bd : Option 𝒱.V) (E : Set ℕ) (i : grid1.Coords) (arg1 : Memref sig .tc .smem S32 .i32) (harg1 : arg1.IsWhole) (arg2 : Memref sig .tc .vmem S32x512x768 .fp8e4m3) (harg2 : arg2.IsWhole) (arg3 : Memref sig .tc .vmem S32x512x128 .f32) (harg3 : arg3.IsWhole) (arg4 : Memref sig .tc .vmem S512x384 .i8) (harg4 : arg4.IsWhole) (arg5 : Memref sig .tc .vmem S512x6 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S768x512 .bf16) (harg8 : arg8.IsWhole)
    (X1 : BufTy.Contents (Elt F) arg1.view.ty) (hl : LensOK (arg1.view.read (Elt F) X1)) (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) :
    LoopInvTy_k1_t1 (F := F) Unit ℕ (UR sig nD τ × UR sig nD τ) ℕ 𝒱 c bd E i arg1 harg1 arg2 harg2 arg3 harg3 arg4 harg4 arg5 harg5 arg6 harg6 arg7 harg7 arg8 harg8 where
  inv k acc := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg8.view.loc (c : Thread nD τ) ↦[arg8.view.set]{fullShare} X8)
    ∗ (arg7.view.loc (c : Thread nD τ) ↦[arg7.view.set]{fullShare} arg7.view.writes (Elt F) X7 (docRows (arg1.view.read (Elt F) X1) hl (arg2.view.read (Elt F) X2) (arg3.view.read (Elt F) X3) (arg8.view.read (Elt F) X8) (arg6.view.read (Elt F) X6) k)))
  step k acc := by
    iintro ⟨H1, H2, H3, H6, H8, H7⟩
    unfold k1_t1_body
    sl_exec
    have h_chk : k1_chk1 k (loopRun_k1_t1.sl.r arg1 X1 k) := hl k
    have e_r : lenAt (arg1.view.read (Elt F) X1) k = loopRun_k1_t1.sl.r arg1 X1 k := rfl
    rw [docRows_succ]
    revert h_chk e_r
    generalize loopRun_k1_t1.sl.r arg1 X1 k = w
    intro h_chk e_r
    iapply (wp_assume _ _ _ _ h_chk)
    sl_exec
    sl_step
    isplitl [H1]; · iexact H1
    isplitl [H2]; · iexact H2
    isplitl [H3]; · iexact H3
    isplitl [H6]; · iexact H6
    isplitl [H8]; · iexact H8
    subst e_r
    iexact H7

end Cert.KernelIdeal.Gen

end
-- ==== Proof.KernelIdeal.Body1.lean ====
/- The body of @main's call 1 (`cc1_logits`), run on its windows' blocks: the unpacked weights the scratch buffer ends
   with, and the output tile. -/
module

public import proofs.«01_k».proof.Proof.KernelIdeal.DocLoops
public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × UR sig nD τ) ℕ

/-! ## The scratch buffer's weights -/

/-- The packed block's rows 0 to 127, -/
def packed0 (x4 : Vec F S512x384 .i8) : Vec F S128x384 .i8 := View.ld x4 (Rect.unit (s := S512x384) ![0, 0] S128x384.size inb_S512x384_S128x384_0_0)
/-- 128 to 255, -/
def packed1 (x4 : Vec F S512x384 .i8) : Vec F S128x384 .i8 := View.ld x4 (Rect.unit (s := S512x384) ![128, 0] S128x384.size inb_S512x384_S128x384_128_0)
/-- 256 to 383, -/
def packed2 (x4 : Vec F S512x384 .i8) : Vec F S128x384 .i8 := View.ld x4 (Rect.unit (s := S512x384) ![256, 0] S128x384.size inb_S512x384_S128x384_256_0)
/-- and 384 to 511. -/
def packed3 (x4 : Vec F S512x384 .i8) : Vec F S128x384 .i8 := View.ld x4 (Rect.unit (s := S512x384) ![384, 0] S128x384.size inb_S512x384_S128x384_384_0)
/-- The group scales' block. -/
def gsOf (x5 : Vec F S512x6 .f32) : Vec F S512x6 .f32 := View.ld x5 (Rect.unit (s := S512x6) ![0, 0] S512x6.size inb_S512x6_S512x6_0_0)
/-- Four rows' packed bytes in one 32-bit word, transposed. -/
def wordsOf (x4 : Vec F S512x384 .i8) : IVec S384x128 32 := k1_pay9 (F := F) (packed0 x4) (packed1 x4) (packed2 x4) (packed3 x4)

/-- The scratch buffer's stores, the last first. -/
def scrPieces (x4 : Vec F S512x384 .i8) (x5 : Vec F S512x6 .f32) : List (View.Piece (Elt F) S768x512 .bf16) :=
  [⟨Rect.unit (s := S768x512) ![640, 384] S128x128.size inb_S768x512_S128x128_640_384, k1_pay4 (k1_pay10 (gsOf x5)) (k1_pay37 (F := F) (wordsOf x4))⟩,
   ⟨Rect.unit (s := S768x512) ![512, 384] S128x128.size inb_S768x512_S128x128_512_384, k1_pay3 (k1_pay10 (gsOf x5)) (k1_pay37 (F := F) (wordsOf x4))⟩,
   ⟨Rect.unit (s := S768x512) ![384, 384] S128x128.size inb_S768x512_S128x128_384_384, k1_pay2 (k1_pay10 (gsOf x5)) (k1_pay37 (F := F) (wordsOf x4))⟩,
   ⟨Rect.unit (s := S768x512) ![256, 384] S128x128.size inb_S768x512_S128x128_256_384, k1_pay1 (k1_pay40 (wordsOf x4) (k1_pay10 (gsOf x5)))⟩,
   ⟨Rect.unit (s := S768x512) ![128, 384] S128x128.size inb_S768x512_S128x128_128_384, k1_pay39 (wordsOf x4) (k1_pay10 (gsOf x5))⟩,
   ⟨Rect.unit (s := S768x512) ![0, 384] S128x128.size inb_S768x512_S128x128_0_384, k1_pay38 (wordsOf x4) (k1_pay10 (gsOf x5))⟩,
   ⟨Rect.unit (s := S768x512) ![640, 256] S128x128.size inb_S768x512_S128x128_640_256, k1_pay36 (k1_pay28 (F := F) (wordsOf x4)) (k1_pay35 (k1_pay10 (gsOf x5)))⟩,
   ⟨Rect.unit (s := S768x512) ![512, 256] S128x128.size inb_S768x512_S128x128_512_256, k1_pay34 (k1_pay10 (gsOf x5)) (k1_pay28 (F := F) (wordsOf x4))⟩,
   ⟨Rect.unit (s := S768x512) ![384, 256] S128x128.size inb_S768x512_S128x128_384_256, k1_pay33 (k1_pay10 (gsOf x5)) (k1_pay28 (F := F) (wordsOf x4))⟩,
   ⟨Rect.unit (s := S768x512) ![256, 256] S128x128.size inb_S768x512_S128x128_256_256, k1_pay32 (k1_pay10 (gsOf x5)) (k1_pay28 (F := F) (wordsOf x4))⟩,
   ⟨Rect.unit (s := S768x512) ![128, 256] S128x128.size inb_S768x512_S128x128_128_256, k1_pay31 (k1_pay10 (gsOf x5)) (k1_pay28 (F := F) (wordsOf x4))⟩,
   ⟨Rect.unit (s := S768x512) ![0, 256] S128x128.size inb_S768x512_S128x128_0_256, k1_pay30 (k1_pay28 (F := F) (wordsOf x4)) (k1_pay29 (k1_pay10 (gsOf x5)))⟩,
   ⟨Rect.unit (s := S768x512) ![640, 128] S128x128.size inb_S768x512_S128x128_640_128, k1_pay27 (k1_pay10 (gsOf x5)) (k1_pay20 (F := F) (wordsOf x4))⟩,
   ⟨Rect.unit (s := S768x512) ![512, 128] S128x128.size inb_S768x512_S128x128_512_128, k1_pay26 (k1_pay10 (gsOf x5)) (k1_pay20 (F := F) (wordsOf x4))⟩,
   ⟨Rect.unit (s := S768x512) ![384, 128] S128x128.size inb_S768x512_S128x128_384_128, k1_pay25 (k1_pay10 (gsOf x5)) (k1_pay20 (F := F) (wordsOf x4))⟩,
   ⟨Rect.unit (s := S768x512) ![256, 128] S128x128.size inb_S768x512_S128x128_256_128, k1_pay24 (k1_pay23 (wordsOf x4) (k1_pay10 (gsOf x5)))⟩,
   ⟨Rect.unit (s := S768x512) ![128, 128] S128x128.size inb_S768x512_S128x128_128_128, k1_pay22 (wordsOf x4) (k1_pay10 (gsOf x5))⟩,
   ⟨Rect.unit (s := S768x512) ![0, 128] S128x128.size inb_S768x512_S128x128_0_128, k1_pay21 (wordsOf x4) (k1_pay10 (gsOf x5))⟩,
   ⟨Rect.unit (s := S768x512) ![640, 0] S128x128.size inb_S768x512_S128x128_640_0, k1_pay19 (k1_pay18 (k1_pay10 (gsOf x5)) (k1_pay11 (packed0 x4) (packed1 x4) (packed2 x4) (packed3 x4)))⟩,
   ⟨Rect.unit (s := S768x512) ![512, 0] S128x128.size inb_S768x512_S128x128_512_0, k1_pay17 (k1_pay10 (gsOf x5)) (k1_pay11 (packed0 x4) (packed1 x4) (packed2 x4) (packed3 x4))⟩,
   ⟨Rect.unit (s := S768x512) ![384, 0] S128x128.size inb_S768x512_S128x128_384_0, k1_pay16 (k1_pay10 (gsOf x5)) (k1_pay11 (packed0 x4) (packed1 x4) (packed2 x4) (packed3 x4))⟩,
   ⟨Rect.unit (s := S768x512) ![256, 0] S128x128.size inb_S768x512_S128x128_256_0, k1_pay15 (k1_pay10 (gsOf x5)) (k1_pay11 (packed0 x4) (packed1 x4) (packed2 x4) (packed3 x4))⟩,
   ⟨Rect.unit (s := S768x512) ![128, 0] S128x128.size inb_S768x512_S128x128_128_0, k1_pay14 (k1_pay10 (gsOf x5)) (k1_pay11 (packed0 x4) (packed1 x4) (packed2 x4) (packed3 x4))⟩,
   ⟨Rect.unit (s := S768x512) ![0, 0] S128x128.size inb_S768x512_S128x128_0_0, k1_pay13 (k1_pay12 (packed0 x4) (packed1 x4) (packed2 x4) (packed3 x4) (gsOf x5))⟩]

/-- The scratch buffer's weights, from the packed block and the group scales. -/
def scr (x4 : Vec F S512x384 .i8) (x5 : Vec F S512x6 .f32) : Vec F S768x512 .bf16 := View.canon (scrPieces x4 x5)

set_option maxHeartbeats 4000000 in
/-- The stores tile the scratch buffer. -/
theorem scr_cover (x4 : Vec F S512x384 .i8) (x5 : Vec F S512x6 .f32) (y : S768x512.Idx) : ∃ pc ∈ scrPieces x4 x5, y ∈ pc.1.set :=
  View.cover_of_tiled (scrPieces x4 x5) S128x128.size (by rfl) y

/-! ## The output tile -/

/-- The output tile: row `k` is document `k`'s. -/
def tile (x1 : Vec F S32 .i32) (hl : LensOK x1) (x2 : Vec F S32x512x768 .fp8e4m3) (x3 : Vec F S32x512x128 .f32)
    (x4 : Vec F S512x384 .i8) (x5 : Vec F S512x6 .f32) (x6 : Vec F S1x512 .f32) : Vec F S32x512 .f32 :=
  View.canon (docRows x1 hl x2 x3 (scr x4 x5) x6 32)

/-- Every document's row has been stored. -/
theorem docRows_mem (x : Vec F S32 .i32) (hl : LensOK x) (z : Vec F S32x512x768 .fp8e4m3)
    (s : Vec F S32x512x128 .f32) (w : Vec F S768x512 .bf16) (b : Vec F S1x512 .f32) (k : ℕ) (t : Fin k1_t1_loop.trips) (h : t.val < k) :
    (⟨Rect.unit (s := S32x512) (k1_off6 t) S1x512.size (k1_off6_inb t), docRow t (lenAt x t) (hl t) z s w b⟩ : View.Piece (Elt F) S32x512 .f32)
      ∈ docRows x hl z s w b k := by
  induction k with
  | zero => exact absurd h (Nat.not_lt_zero _)
  | succ k ih =>
    rw [docRows]
    by_cases hk : k < k1_t1_loop.trips
    · rw [dif_pos hk]
      rcases Nat.lt_succ_iff_lt_or_eq.mp h with h | h
      · exact List.mem_cons_of_mem _ (ih h)
      · have : t = ⟨k, hk⟩ := Fin.ext h
        subst this; exact List.mem_cons_self
    · rw [dif_neg hk]
      exact ih (lt_of_lt_of_le t.isLt (Nat.not_lt.mp hk))

/-- Row `t` of the output is where document `t`'s store goes. -/
theorem off6_eq (t : Fin k1_t1_loop.trips) : k1_off6 t = ![t.val, 0] :=
  (by decide +kernel : ∀ t : Fin k1_t1_loop.trips, k1_off6 t = ![t.val, 0]) t

theorem trips1 : k1_t1_loop.trips = 32 := by decide +kernel

theorem docRows_cover (x : Vec F S32 .i32) (hl : LensOK x) (z : Vec F S32x512x768 .fp8e4m3)
    (s : Vec F S32x512x128 .f32) (w : Vec F S768x512 .bf16) (b : Vec F S1x512 .f32) (y : S32x512.Idx) :
    ∃ pc ∈ docRows x hl z s w b 32, y ∈ pc.1.set := by
  have hy : (y 0).val < 32 := (y 0).isLt
  refine ⟨_, docRows_mem x hl z s w b 32 ⟨(y 0).val, by rw [trips1]; exact hy⟩ hy, ?_⟩
  rw [Rect.mem_set_unit]
  intro a
  rw [off6_eq]
  have h1 : (y 1).val < 512 := (y 1).isLt
  match a with
  | ⟨0, _⟩ => exact ⟨Nat.le_refl _, Nat.lt_succ_self _⟩
  | ⟨1, _⟩ => exact ⟨Nat.zero_le _, by simpa using h1⟩

/-! ## The body's triple -/

set_option maxHeartbeats 8000000 in
theorem sound_kernel1 (c : Dev nD) (E : Set ℕ) (i : grid1.Coords) (arg1 : Memref sig .tc .smem S32 .i32) (harg1 : arg1.IsWhole) (arg2 : Memref sig .tc .vmem S32x512x768 .fp8e4m3) (harg2 : arg2.IsWhole) (arg3 : Memref sig .tc .vmem S32x512x128 .f32) (harg3 : arg3.IsWhole) (arg4 : Memref sig .tc .vmem S512x384 .i8) (harg4 : arg4.IsWhole) (arg5 : Memref sig .tc .vmem S512x6 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S768x512 .bf16) (harg8 : arg8.IsWhole)
    (x1 : Vec F S32 .i32) (hl : LensOK x1) (x2 : Vec F S32x512x768 .fp8e4m3) (x3 : Vec F S32x512x128 .f32)
    (x4 : Vec F S512x384 .i8) (x5 : Vec F S512x6 .f32) (x6 : Vec F S1x512 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (tile x1 hl x2 x3 x4 x5 x6) ∗ (∃ d, owns (c : Thread nD τ) arg8 fullShare d)) -∗ K ⟨⟩))
      ⊢ wp frame (wpE (defs₀ (F := F)) Variants.none c none) E (cc1_logits i arg1 harg1 arg2 harg2 arg3 harg3 arg4 harg4 arg5 harg5 arg6 harg6 arg7 harg7 arg8 harg8) K := by
  simp only [cc1_logits_eq_skeleton]; unfold cc1_logits_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec

  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [show Scf.trips k1_t1_loop.lb k1_t1_loop.ub k1_t1_loop.st = 32 from trips1,
      View.read_writes_eq_canon _ _ _ (docRows_cover _ hl _ _ _ _)]
    unfold tile
    rw [show arg8.view.read (Elt F) (arg8.view.writes (Elt F) arg8.view.junk (sound_kernel1.sl.H8_24 c arg4 arg5 f4 f5))
      = scr (arg4.view.read (Elt F) f4) (arg5.view.read (Elt F) f5) from View.read_writes_eq_canon _ _ _ (scr_cover _ _)]
  iexists _; iexists _; isplitr
  swap; · iexact H8
  ipureintro; rfl

end Cert.KernelIdeal.Gen

end
-- ==== Proof.KernelIdeal.Region1.lean ====
/- Call 1 of @main (`cc1_logits`) as a pipeline region: its windows' blocks, the relation its output tile meets, its proof
   data and its body obligation, at any contents `V` of the buffers when the call is entered and any table `a`.

   The vocabulary's 50368 rows do not fill the last of the 99 blocks of 512, so there the body computes on rows that no
   transfer has written. Hence the output tile is described by a RELATION: it is the body's tile of the fetched rows and
   of some contents of the rest. -/
module

public import proofs.«01_k».proof.Proof.KernelIdeal.Body1
public import Idealize.ShloMosaic.Lib.Pipeline.FrameBody
public import Idealize.ShloMosaic.Lib.Pipeline.DatRel
public import Idealize.ShloMosaic.Lib.Pipeline.RegionsLoop
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (UR sig nD τ × UR sig nD τ) ℕ

section Regions

variable (V : (c : Dev nD) → (b : Ref sig .tc) → Buf (Elt F) ((c : Thread nD τ).loc b)) (a : (pcfg1 (F := F)).Adm)

/-- The table of lengths. -/
abbrev lens1 : Vec F S32 .i32 := a.1 0

/-! ## The windows' blocks -/

/-- Window `w`'s block at point `t` (its part inside the array), read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The packed rows the body works on at point `t`: those fetched, and `d` where the block runs past the array. -/
def x4At (c : Dev nD) (t : Fin (cfg1 a).N) (d : Vec F S512x384 .i8) : Vec F S512x384 .i8 :=
  ((cfg1 a).win 2).fill ((cfg1 a).grid.coords t) d (iblk1 V a c 2 t)
/-- The group scales, likewise, -/
def x5At (c : Dev nD) (t : Fin (cfg1 a).N) (d : Vec F S512x6 .f32) : Vec F S512x6 .f32 :=
  ((cfg1 a).win 3).fill ((cfg1 a).grid.coords t) d (iblk1 V a c 3 t)
/-- and the biases. -/
def x6At (c : Dev nD) (t : Fin (cfg1 a).N) (d : Vec F S1x512 .f32) : Vec F S1x512 .f32 :=
  ((cfg1 a).win 4).fill ((cfg1 a).grid.coords t) d (iblk1 V a c 4 t)

/-! ## The proof data -/

/-- The windows held to a relation: the output's. -/
def fgt1 : Fin 6 → Bool := fun | 0 => false | 1 => false | 2 => false | 3 => false | 4 => false | 5 => true | ⟨_ + 6, h⟩ => absurd h (Nat.not_lt.2 (Nat.le_add_left _ _))

/-- What an output tile at point `t` is. -/
def OutRel (c : Dev nD) (t : Fin (cfg1 a).N) (X : Vec F S32x512 .f32) : Prop :=
  ∃ (hl : LensOK (lens1 a)) (d2 : Vec F S512x384 .i8) (d3 : Vec F S512x6 .f32) (d4 : Vec F S1x512 .f32),
    X = tile (lens1 a) hl (iblk1 V a c 0 t) (iblk1 V a c 1 t) (x4At V a c t d2) (x5At V a c t d3) (x6At V a c t d4)

/-- The relation, window by window. -/
def Rl1 (c : Dev nD) : (w : Fin (cfg1 a).W) → Fin (cfg1 a).N → (((cfg1 a).win w).block.Idx → Elt F ((cfg1 a).win w).elt) → Prop
  | ⟨5, _⟩, t, X => OutRel V a c t X
  | _, _, _ => True

/-- Contents nobody looks at. -/
def junkVec (s : Shape) (e : EltTy) : Vec F s e := fun _ => Classical.arbitrary _

/-- The region's invariant: the scoped buffers that stage nothing, the generator register and the table. -/
def Φ1 (c : Dev nD) : sProp 𝕄 :=
  iprop((Pipeline.scopedRest (Ix := Unit) (Name := ℕ) (U := UR sig nD τ × UR sig nD τ) (Lvl := ℕ) (Val := Elt F) spec1 c ∗ ∃ r, prngReg c r)
    ∗ Pipeline.prefHeld (Ix := Unit) (Name := ℕ) (U := UR sig nD τ × UR sig nD τ) (Lvl := ℕ) pre1 c (fun _ => fullShare) a.1)

/-- The proof data of call 1 on core `c`. -/
def dat1 (c : Dev nD) : Dat τ (Elt F) Unit ℕ (UR sig nD τ × UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => x4At V a c t (junkVec _ _)
    | ⟨3, _⟩ => x5At V a c t (junkVec _ _)
    | ⟨4, _⟩ => x6At V a c t (junkVec _ _)
    | ⟨5, _⟩ => junkVec S32x512 .f32
  Φ _ := Φ1 a c
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := rfl
theorem after1_1 (c : Dev nD) (t : Fin (cfg1 a).N) : (dat1 V a c).after 1 t = iblk1 V a c 1 t := rfl
theorem after1_2 (c : Dev nD) (t : Fin (cfg1 a).N) : (dat1 V a c).after 2 t = x4At V a c t (junkVec _ _) := rfl
theorem after1_3 (c : Dev nD) (t : Fin (cfg1 a).N) : (dat1 V a c).after 3 t = x5At V a c t (junkVec _ _) := rfl
theorem after1_4 (c : Dev nD) (t : Fin (cfg1 a).N) : (dat1 V a c).after 4 t = x6At V a c t (junkVec _ _) := rfl

/-- Windows 2, 3 and 4 are fetched at every point. -/
theorem fetch1_2 (t : Fin (cfg1 a).N) : ((cfg1 a).win 2).fetch t = true :=
  (Pipeline.Window.fetch_reads ((cfg1 a).win 2) rfl 0 (by decide : 1 < grid1.bound 0) (by decide : grid1.fixedAfter spec1_2.reads 0 = true) (Pipeline.Window.sep_of_coord cc1_transform_2 0 0 (fun _ => rfl) (by decide)) (P := 1) (by decide : grid1.stride 0 = 1) t).mpr (Nat.mod_one _)
theorem fetch1_3 (t : Fin (cfg1 a).N) : ((cfg1 a).win 3).fetch t = true :=
  (Pipeline.Window.fetch_reads ((cfg1 a).win 3) rfl 0 (by decide : 1 < grid1.bound 0) (by decide : grid1.fixedAfter spec1_3.reads 0 = true) (Pipeline.Window.sep_of_coord cc1_transform_3 0 0 (fun _ => rfl) (by decide)) (P := 1) (by decide : grid1.stride 0 = 1) t).mpr (Nat.mod_one _)
theorem fetch1_4 (t : Fin (cfg1 a).N) : ((cfg1 a).win 4).fetch t = true :=
  (Pipeline.Window.fetch_reads ((cfg1 a).win 4) rfl 0 (by decide : 1 < grid1.bound 0) (by decide : grid1.fixedAfter spec1_4.reads 0 = true) (Pipeline.Window.sep_of_coord cc1_transform_4 0 1 (fun _ => rfl) (by decide)) (P := 1) (by decide : grid1.stride 0 = 1) t).mpr (Nat.mod_one _)

theorem before1_0 (c : Dev nD) (t : Fin (cfg1 a).N) (d) : (dat1 V a c).before 0 t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = x4At V a c t d := by
  unfold Dat.before; rw [if_pos (fetch1_2 a t)]; unfold Dat.fetched Dat.blockOf x4At iblk1; rw [A_eq1]; try rfl
theorem before1_3 (c : Dev nD) (t : Fin (cfg1 a).N) (d) : (dat1 V a c).before 3 t d = x5At V a c t d := by
  unfold Dat.before; rw [if_pos (fetch1_3 a t)]; unfold Dat.fetched Dat.blockOf x5At iblk1; rw [A_eq1]; try rfl
theorem before1_4 (c : Dev nD) (t : Fin (cfg1 a).N) (d) : (dat1 V a c).before 4 t d = x6At V a c t d := by
  unfold Dat.before; rw [if_pos (fetch1_4 a t)]; unfold Dat.fetched Dat.blockOf x6At iblk1; rw [A_eq1]; try rfl

theorem keep1_2 (c : Dev nD) (t : Fin (cfg1 a).N) (d) : ((cfg1 a).win 2).fill ((cfg1 a).grid.coords t) d (((cfg1 a).win 2).cut ((cfg1 a).grid.coords t) ((dat1 V a c).after 2 t)) = x4At V a c t d := by
  rw [after1_2]; unfold x4At; exact congrArg (((cfg1 a).win 2).fill ((cfg1 a).grid.coords t) d) (Pipeline.Window.cut_fill ((cfg1 a).win 2) ((cfg1 a).grid.coords t) _ _)
theorem keep1_3 (c : Dev nD) (t : Fin (cfg1 a).N) (d) : ((cfg1 a).win 3).fill ((cfg1 a).grid.coords t) d (((cfg1 a).win 3).cut ((cfg1 a).grid.coords t) ((dat1 V a c).after 3 t)) = x5At V a c t d := by
  rw [after1_3]; unfold x5At; exact congrArg (((cfg1 a).win 3).fill ((cfg1 a).grid.coords t) d) (Pipeline.Window.cut_fill ((cfg1 a).win 3) ((cfg1 a).grid.coords t) _ _)
theorem keep1_4 (c : Dev nD) (t : Fin (cfg1 a).N) (d) : ((cfg1 a).win 4).fill ((cfg1 a).grid.coords t) d (((cfg1 a).win 4).cut ((cfg1 a).grid.coords t) ((dat1 V a c).after 4 t)) = x6At V a c t d := by
  rw [after1_4]; unfold x6At; exact congrArg (((cfg1 a).win 4).fill ((cfg1 a).grid.coords t) d) (Pipeline.Window.cut_fill ((cfg1 a).win 4) ((cfg1 a).grid.coords t) _ _)

/-! ## The body obligation -/

abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)
abbrev st1_4 (t : Fin (cfg1 a).N) := ((cfg1 a).win 4).stage ((cfg1 a).slots t 4)
abbrev st1_5 (t : Fin (cfg1 a).N) := ((cfg1 a).win 5).stage ((cfg1 a).slots t 5)

/-- The body at point `t`. -/
abbrev bodyAt1 (t : Fin (cfg1 a).N) : Prog (TpuEff nD τ sig (Elt F) Λ₀ .tc) PUnit :=
  cc1_logits (grid1.coords t) (Memref.whole main_arg2) (Memref.isWhole_whole _) (st1_0 a t) (hstage1_0 (((cfg1 a).slots t 0).cast nbuf1_0)) (st1_1 a t) (hstage1_1 (((cfg1 a).slots t 1).cast nbuf1_1)) (st1_2 a t) (hstage1_2 (((cfg1 a).slots t 2).cast nbuf1_2)) (st1_3 a t) (hstage1_3 (((cfg1 a).slots t 3).cast nbuf1_3)) (st1_4 a t) (hstage1_4 (((cfg1 a).slots t 4).cast nbuf1_4)) (st1_5 a t) (hstage1_5 (((cfg1 a).slots t 5).cast nbuf1_5)) (Memref.whole cc1_scratch0) (Memref.isWhole_whole _)

def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d))
    ∗ (∃ d, owns (c : Thread nD τ) (st1_4 a t) fullShare ((dat1 V a c).before 4 t d))
    ∗ (∃ Y, ⌜((dat1 V a c).toRRel fgt1 (Rl1 V a c)).Finds 5 t Y⌝ ∗ owns (c : Thread nD τ) (st1_5 a t) fullShare Y))

def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ (∃ d, owns (c : Thread nD τ) (st1_2 a t) fullShare (((cfg1 a).win 2).fill ((cfg1 a).grid.coords t) d (((cfg1 a).win 2).cut ((cfg1 a).grid.coords t) ((dat1 V a c).after 2 t))))
    ∗ (∃ d, owns (c : Thread nD τ) (st1_3 a t) fullShare (((cfg1 a).win 3).fill ((cfg1 a).grid.coords t) d (((cfg1 a).win 3).cut ((cfg1 a).grid.coords t) ((dat1 V a c).after 3 t))))
    ∗ (∃ d, owns (c : Thread nD τ) (st1_4 a t) fullShare (((cfg1 a).win 4).fill ((cfg1 a).grid.coords t) d (((cfg1 a).win 4).cut ((cfg1 a).grid.coords t) ((dat1 V a c).after 4 t))))
    ∗ (∃ X, ⌜Rl1 V a c 5 t X⌝ ∗ owns (c : Thread nD τ) (st1_5 a t) fullShare X))

/-- The table's buffer, as the invariant has it and as the body takes it. -/
theorem e_tab (c : Dev nD) : (((c : Thread nD τ).loc (pre1.ref (0 : Fin 1)) ↦{fullShare} a.1 (0 : Fin 1)) : sProp 𝕄)
    = owns (c : Thread nD τ) (Memref.whole main_arg2) fullShare (lens1 a) := by
  rw [owns_whole]; rfl

set_option backward.isDefEq.respectTransparency false in
set_option backward.isDefEq.respectTransparency.types false in
set_option maxHeartbeats 1000000 in
/-- The body at any point: the fetched inputs, the table and the scratch buffer out of the invariant, `sound_kernel1`. -/
theorem sound_body1 (hl : LensOK (lens1 a)) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3, before1_4, keep1_2, keep1_3, keep1_4]
  rw [show (dat1 V a c).Φ t.succ = Φ1 a c from rfl, show (dat1 V a c).Φ t.castSucc = Φ1 a c from rfl,
    show (dat1 V a c).owesAt () t.succ = (dat1 V a c).owesAt () t.castSucc from rfl,
    after1_0, after1_1]
  unfold Φ1 Pipeline.prefHeld
  rw [show (Finset.univ : Finset (Fin pre1.K)) = {(0 : Fin 1)} from rfl, BI.bigSep_singleton, scopedRest1_eq]
  iintro ⟨⟨⟨⟨S0, S1, S2, S3, S4, S5, S6, S7, S8, S9, S10, S11, S12, S13, S14, S15, S16, S17, S18, S19, S20, S21⟩, Hp⟩, HT⟩, Ho, ⟨%d0, H0⟩, ⟨%d1, H1⟩, ⟨%d2, H2⟩, ⟨%d3, H3⟩, ⟨%d4, H4⟩, ⟨%d5, -, H5⟩⟩
  iapply (sound_kernel1 c Set.univ (grid1.coords t) _ _ _ _ _ _ _ _ _ _ _ _ _ _ _ _ (lens1 a) hl (iblk1 V a c 0 t) (iblk1 V a c 1 t) (x4At V a c t d2) (x5At V a c t d3) (x6At V a c t d4) _)
  isplitl [HT]; · iapply (Entails.of_eq (e_tab a c)) $$ HT
  isplitl [H0]; · iexact H0
  isplitl [H1]; · iexact H1
  isplitl [H2]; · iexact H2
  isplitl [H3]; · iexact H3
  isplitl [H4]; · iexact H4
  isplitl [H5]; · iexists _; iexact H5
  isplitl [S15]; · simp only [owns_whole]; iexact S15
  iintro ⟨HT, H0, H1, H2, H3, H4, H5, S15⟩
  isplitl [S0 S1 S2 S3 S4 S5 S6 S7 S8 S9 S10 S11 S12 S13 S14 S15 S16 S17 S18 S19 S20 S21 Hp HT]
  · isplitl [S0 S1 S2 S3 S4 S5 S6 S7 S8 S9 S10 S11 S12 S13 S14 S15 S16 S17 S18 S19 S20 S21 Hp]
    · isplitl [S0 S1 S2 S3 S4 S5 S6 S7 S8 S9 S10 S11 S12 S13 S14 S15 S16 S17 S18 S19 S20 S21]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · simp only [owns_whole]; iexact S15
        isplitl [S16]; · iexact S16
        isplitl [S17]; · iexact S17
        isplitl [S18]; · iexact S18
        isplitl [S19]; · iexact S19
        isplitl [S20]; · iexact S20
        iexact S21
      iexact Hp
    iapply (Entails.of_eq (e_tab a c).symm) $$ HT
  isplitl [Ho]; · iexact Ho
  isplitl [H0]; · iexact H0
  isplitl [H1]; · iexact H1
  isplitl [H2]; · iexists d2; iapply (Entails.of_eq (congrArg (owns (c : Thread nD τ) (st1_2 a t) fullShare) (keep1_2 V a c t d2).symm)) $$ H2
  isplitl [H3]; · iexists d3; iapply (Entails.of_eq (congrArg (owns (c : Thread nD τ) (st1_3 a t) fullShare) (keep1_3 V a c t d3).symm)) $$ H3
  isplitl [H4]; · iexists d4; iapply (Entails.of_eq (congrArg (owns (c : Thread nD τ) (st1_4 a t) fullShare) (keep1_4 V a c t d4).symm)) $$ H4
  iexists _; isplitr
  swap; · iexact H5
  ipureintro
  exact ⟨hl, d2, d3, d4, rfl⟩

/-- The body table's row at point `t`'s slots is the body as `bodyAt1` spells it. -/
theorem defs₀_row1 (t : Fin (cfg1 a).N) :
    defs₀ (F := F) .tc (cfg1 a).body ((cfg1 a).bodyArgs t ((cfg1 a).slots t)) = bodyAt1 a t := by
  unfold defs₀; rw [Defs.onTc_tc]; rfl

/-- The library's body obligation. -/
theorem body_obligation1 (hl : LensOK (lens1 a)) (c : Dev nD) :
    Pipeline.BodyObligationRel (dat1 V a c) (defs₀ (F := F)) Variants.none () Set.univ fgt1 (Rl1 V a c) := fun t => by
  rw [bigSep_W1, bigSep_W1, defs₀_row1]
  exact triple_restated (sound_body1 V a hl c t) rfl .rfl fun _ => .rfl

end Regions

end Cert.KernelIdeal.Gen

end
-- ==== Proof.KernelIdeal.Region2.lean ====
/- The body of @main's call 2 (`cc2_stats`) run on its windows' blocks: what it leaves in every output window, the
   pipeline's proof data and its body obligation, at any contents `V` of the buffers when the call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_stats` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ × UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S32x50368 := Rect.unit (s := S32x50368) ![0, 0] S32x50368.size inb_S32x50368_S32x50368_0_0
abbrev r2_1 : Rect S32x1 := Rect.unit (s := S32x1) ![0, 0] S32x1.size inb_S32x1_S32x1_0_0
abbrev r2_2 : Rect S1x50368 := Rect.unit (s := S1x50368) ![0, 0] S1x50368.size inb_S1x50368_S1x50368_0_0
abbrev r2_3 : Rect S1x1 := Rect.unit (s := S1x1) ![0, 0] S1x1.size inb_S1x1_S1x1_0_0

/-! ## What the body leaves in each output window's buffer -/

/-- Window 1's staging buffer after the body, from the input windows' blocks: its 1 store as pieces, LAST
    FIRST (Lib/Pipeline/FrameBody.lean `View.canon`; the payloads are the skeleton's). -/
def out2_1 (x0 : Vec F S32x50368 .f32) : Vec F S32x1 .f32 :=
  View.canon [⟨r2_1, k2_pay2 (View.ld x0 r2_0)⟩]

/-- Its stores tile the buffer (checked by evaluation), so they cover it. -/
theorem cover2_1 (p0 : Vec F S32x1 .f32) (y : S32x1.Idx) :
    ∃ pc ∈ ([⟨r2_1, p0⟩] : List (View.Piece (Elt F) S32x1 .f32)), y ∈ pc.1.set :=
  View.cover_of_tiled [⟨r2_1, p0⟩] S32x1.size (by rfl) y

/-- Window 2's staging buffer after the body, from the input windows' blocks: its 1 store as pieces, LAST
    FIRST (Lib/Pipeline/FrameBody.lean `View.canon`; the payloads are the skeleton's). -/
def out2_2 (x0 : Vec F S32x50368 .f32) : Vec F S1x50368 .f32 :=
  View.canon [⟨r2_2, k2_pay3 (View.ld x0 r2_0)⟩]

/-- Its stores tile the buffer (checked by evaluation), so they cover it. -/
theorem cover2_2 (p0 : Vec F S1x50368 .f32) (y : S1x50368.Idx) :
    ∃ pc ∈ ([⟨r2_2, p0⟩] : List (View.Piece (Elt F) S1x50368 .f32)), y ∈ pc.1.set :=
  View.cover_of_tiled [⟨r2_2, p0⟩] S1x50368.size (by rfl) y

/-- Window 3's staging buffer after the body, from the input windows' blocks: its 1 store as pieces, LAST
    FIRST (Lib/Pipeline/FrameBody.lean `View.canon`; the payloads are the skeleton's). -/
def out2_3 (x0 : Vec F S32x50368 .f32) : Vec F S1x1 .f32 :=
  View.canon [⟨r2_3, k2_pay4 (View.ld x0 r2_0)⟩]

/-- Its stores tile the buffer (checked by evaluation), so they cover it. -/
theorem cover2_3 (p0 : Vec F S1x1 .f32) (y : S1x1.Idx) :
    ∃ pc ∈ ([⟨r2_3, p0⟩] : List (View.Piece (Elt F) S1x1 .f32)), y ∈ pc.1.set :=
  View.cover_of_tiled [⟨r2_3, p0⟩] S1x1.size (by rfl) y

/-- Window 4's staging buffer after the body, from the input windows' blocks: its 1 store as pieces, LAST
    FIRST (Lib/Pipeline/FrameBody.lean `View.canon`; the payloads are the skeleton's). -/
def out2_4 (x0 : Vec F S32x50368 .f32) : Vec F S32x50368 .i8 :=
  View.canon [⟨r2_0, k2_pay6 (View.ld x0 r2_0)⟩]

/-- Its stores tile the buffer (checked by evaluation), so they cover it. -/
theorem cover2_4 (p0 : Vec F S32x50368 .i8) (y : S32x50368.Idx) :
    ∃ pc ∈ ([⟨r2_0, p0⟩] : List (View.Piece (Elt F) S32x50368 .i8)), y ∈ pc.1.set :=
  View.cover_of_tiled [⟨r2_0, p0⟩] S32x50368.size (by rfl) y

/-- Window 5's staging buffer after the body, from the input windows' blocks: its 1 store as pieces, LAST
    FIRST (Lib/Pipeline/FrameBody.lean `View.canon`; the payloads are the skeleton's). -/
def out2_5 (x0 : Vec F S32x50368 .f32) : Vec F S32x1 .f32 :=
  View.canon [⟨r2_1, k2_pay5 (View.ld x0 r2_0)⟩]

/-- Its stores tile the buffer (checked by evaluation), so they cover it. -/
theorem cover2_5 (p0 : Vec F S32x1 .f32) (y : S32x1.Idx) :
    ∃ pc ∈ ([⟨r2_1, p0⟩] : List (View.Piece (Elt F) S32x1 .f32)), y ∈ pc.1.set :=
  View.cover_of_tiled [⟨r2_1, p0⟩] S32x1.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (arg0 : Memref sig .tc .vmem S32x50368 .f32) (harg0 : arg0.IsWhole) (arg1 : Memref sig .tc .vmem S32x1 .f32) (harg1 : arg1.IsWhole) (arg2 : Memref sig .tc .vmem S1x50368 .f32) (harg2 : arg2.IsWhole) (arg3 : Memref sig .tc .vmem S1x1 .f32) (harg3 : arg3.IsWhole) (arg4 : Memref sig .tc .vmem S32x50368 .i8) (harg4 : arg4.IsWhole) (arg5 : Memref sig .tc .vmem S32x1 .f32) (harg5 : arg5.IsWhole)
    (x0 : Vec F S32x50368 .f32) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare (out2_1 x0) ∗ owns (c : Thread nD τ) arg2 fullShare (out2_2 x0) ∗ owns (c : Thread nD τ) arg3 fullShare (out2_3 x0) ∗ owns (c : Thread nD τ) arg4 fullShare (out2_4 x0) ∗ owns (c : Thread nD τ) arg5 fullShare (out2_5 x0)) -∗ K ⟨⟩))
      ⊢ wp frame (wpE (defs₀ (F := F)) Variants.none c none) E (cc2_stats arg0 harg0 arg1 harg1 arg2 harg2 arg3 harg3 arg4 harg4 arg5 harg5) K := by
  simp only [cc2_stats_eq_skeleton]; unfold cc2_stats_skel
  simp only [k2_part1_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover2_1 _)
  isplitl [H2]
  · iexists _; isplitr
    swap; · iexact H2
    ipureintro
    exact View.read_writes_eq_canon _ _ _ (cover2_2 _)
  isplitl [H3]
  · iexists _; isplitr
    swap; · iexact H3
    ipureintro
    exact View.read_writes_eq_canon _ _ _ (cover2_3 _)
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ × UR sig nD τ) ℕ cfg2 c where
  A w := V c (Pipeline.arrRef spec2 w)
  after w t := match w with
    | ⟨0, _⟩ => iblk2 V c 0 t
    | ⟨1, _⟩ => out2_1 (iblk2 V c 0 t)
    | ⟨2, _⟩ => out2_2 (iblk2 V c 0 t)
    | ⟨3, _⟩ => out2_3 (iblk2 V c 0 t)
    | ⟨4, _⟩ => out2_4 (iblk2 V c 0 t)
    | ⟨5, _⟩ => out2_5 (iblk2 V c 0 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem after2_2 (c : Dev nD) (t : Fin cfg2.N) : (dat2 V c).after 2 t = out2_2 (iblk2 V c 0 t) := by dsimp only [dat2]
theorem after2_3 (c : Dev nD) (t : Fin cfg2.N) : (dat2 V c).after 3 t = out2_3 (iblk2 V c 0 t) := by dsimp only [dat2]
theorem after2_4 (c : Dev nD) (t : Fin cfg2.N) : (dat2 V c).after 4 t = out2_4 (iblk2 V c 0 t) := by dsimp only [dat2]
theorem after2_5 (c : Dev nD) (t : Fin cfg2.N) : (dat2 V c).after 5 t = out2_5 (iblk2 V c 0 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ (iblk2 V c 0 t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdeal.Run.lean ====
/- The run of @main: its host stretches and its three calls as segments, what every buffer holds at each boundary, and the
   launch. What call 1 writes is known up to the relation its proof data state, so every boundary after it is a family over
   the contents `γ` its arrays may hold; call 2's proof data are a family over `γ` too, hence that call is run as a host
   segment with its own copy of the pipeline library's ghost state. -/
module

public import proofs.«01_k».proof.Proof.KernelIdeal.Region0
public import proofs.«01_k».proof.Proof.KernelIdeal.Region1
public import proofs.«01_k».proof.Proof.KernelIdeal.Region2
public import Idealize.ShloMosaic.Lib.Pipeline.RegionsLoop
public import Idealize.ShloMosaic.Lib.Pipeline.RegionsOwned
public import Idealize.ShloMosaic.Lib.Pipeline.RegionArraysF
public import Idealize.ShloMosaic.Lib.Pipeline.RegionArraysT
public import Idealize.ShloMosaic.Lib.Pipeline.FrameSuffix
public import Idealize.ShloMosaic.Lib.Pipeline.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ × UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
/-- The references `hostOps0` writes. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The references `hostOps1` writes. -/
abbrev hostOps1_W : List (Ref sig .tc) := [main_v6]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor
/-- The references `hostOps3` writes. -/
abbrev hostOps3_W : List (Ref sig .tc) := [main_v9, main_v10, main_v11, main_v12, main_v13]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-! ## The tables and the buffers' contents at each boundary -/

/-- The one device. -/
abbrev dev0 : Dev nD := ⟨0, by decide⟩
theorem dev_eq (c : Dev nD) : c = dev0 := Subsingleton.elim _ _

/-- The prefetched tables' contents: call 1 has the lengths as launched, the others have none. -/
def adm : (p : Fin 3) → (pcfgs (F := F) p).Adm
  | ⟨0, _⟩ => cfg0.toPCfg_adm
  | ⟨1, _⟩ => ⟨fun k => m ((dev0 : Thread nD τ).loc (pre1.ref k)), trivial⟩
  | ⟨2, _⟩ => cfg2.toPCfg_adm

/-- Call 1's table. -/
abbrev adm1 : (pcfg1 (F := F)).Adm := adm m 1

/-- Core `c`'s buffers at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
/-- After `hostOps0`. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
abbrev V1 : (c : Dev nD) → (b : Ref sig .tc) → Buf (Elt F) ((c : Thread nD τ).loc b) := fun c b => W1 m c b
/-- At call 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1`. -/
abbrev W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ hostOps1_writes h
theorem W3_args (c : Dev nD) : ∀ a ∈ argRefs, W3 m c (Proc.devRef .tc a) = m ((c : Thread nD τ).loc a) :=
  fun a ha => (W3_of m c a (hostOps1_args a ha)).trans (W2_args m c a ha)
abbrev V3 : (c : Dev nD) → (b : Ref sig .tc) → Buf (Elt F) ((c : Thread nD τ).loc b) := fun c b => W3 m c b

/-- Call 1's proof data, the output window held to its relation. -/
abbrev rdat1 (c : Dev nD) : RDat τ (Elt F) Unit ℕ (UR sig nD τ × UR sig nD τ) ℕ (cfg1 (adm1 m)) c :=
  (dat1 (V3 m) (adm1 m) c).toRRel fgt1 (Rl1 (V3 m) (adm1 m) c)

/-- Contents that call 1's arrays may hold when it returns. -/
def Gam : Type :=
  { G : (c : Dev nD) → (w : Fin (cfg1 (adm1 m)).W) → Buf (Elt F) (((cfg1 (adm1 m)).win w).arr.view.loc (c : Thread nD τ)) //
    ∀ c w, (rdat1 m c).ArrAt w (cfg1 (adm1 m)).N (G c w) }

variable (γ : Gam m)

/-- The table at call 1's entry is the lengths as launched. -/
theorem tab_eq (c : Dev nD) (k : Fin pre1.K) : (adm1 m).1 k = V3 m c (pre1.ref k) := by
  obtain rfl := dev_eq c
  have hk : pre1.ref k = main_arg2 := by
    have : ∀ k : Fin pre1.K, pre1.ref k = main_arg2 := by decide
    exact this k
  have h : ∀ r, r = main_arg2 → m ((dev0 : Thread nD τ).loc r) = V3 m dev0 r := by
    rintro r rfl; exact (W3_args m dev0 main_arg2 (by decide)).symm
  exact h _ hk

/-- At call 1's exit. -/
def W4 (c : Dev nD) : Valuation τ sig (Elt F) := Pipeline.withArrays spec1 c (W3 m c) (γ.1 c)
theorem W4_arr (c : Dev nD) (w : Fin (cfg1 (adm1 m)).W) :
    W4 m γ c (Proc.devRef .tc (Pipeline.arrRef spec1 w)) = γ.1 c w := by
  unfold W4; exact Pipeline.withArrays_arr spec1 (launch1 (F := F)).win.arr_inj c _ _ w
theorem W4_of_ne (c : Dev nD) (b : Ref sig .tc) (hb : ∀ w, Pipeline.arrRef spec1 w ≠ b) :
    W4 m γ c (Proc.devRef .tc b) = W3 m c (Proc.devRef .tc b) := by
  unfold W4; exact Pipeline.withArrays_of_ne spec1 c _ _ b hb
theorem arr1_in (c : Dev nD) (w : Fin (cfg1 (adm1 m)).W) (hf : fgt1 w = false) :
    γ.1 c w = (dat1 (V3 m) (adm1 m) c).arrAt w (cfg1 (adm1 m)).N :=
  (((dat1 (V3 m) (adm1 m) c).toR.override_arrAt (by simp only [hf]) _ _).trans ((dat1 (V3 m) (adm1 m) c).toR_arrAt_iff w _ _)).mp (γ.2 c w)
theorem fgt_out : ∀ w : Fin 6, (spec1 w).isOut = false → fgt1 w = false := by decide
theorem W4_of (c : Dev nD) (r : Ref sig .tc) (h : ∀ w : Fin 6, Pipeline.arrRef spec1 w = r → (spec1 w).isOut = false) :
    W4 m γ c (Proc.devRef .tc r) = W3 m c (Proc.devRef .tc r) := by
  by_cases hw : ∃ w : Fin 6, Pipeline.arrRef spec1 w = r
  · obtain ⟨w, rfl⟩ := hw
    exact (W4_arr m γ c w).trans ((arr1_in m γ c w (fgt_out w (h w rfl))).trans
      (((dat1 (V3 m) (adm1 m) c).arrAt_in w (h w rfl) _).trans (A_eq1 (V3 m) (adm1 m) c w)))
  · exact W4_of_ne m γ c r fun w e => hw ⟨w, e⟩
theorem argsIn1 : ∀ a ∈ argRefs, ∀ w : Fin 6, Pipeline.arrRef spec1 w = a → (spec1 w).isOut = false :=
  ListAll.forall_mem_of_all_decide (by decide +kernel)
theorem W4_args (c : Dev nD) : ∀ a ∈ argRefs, W4 m γ c (Proc.devRef .tc a) = m ((c : Thread nD τ).loc a) :=
  fun a ha => (W4_of m γ c a (argsIn1 a ha)).trans (W3_args m c a ha)
abbrev V4 : (c : Dev nD) → (b : Ref sig .tc) → Buf (Elt F) ((c : Thread nD τ).loc b) := fun c b => W4 m γ c b
theorem hF1 (c : Dev nD) (w : Fin (cfg1 (adm1 m)).W) : γ.1 c w = V4 m γ c (Pipeline.arrRef spec1 w) := (W4_arr m γ c w).symm
theorem hrest1 (c : Dev nD) : ∀ b, b ∉ Finset.univ.image (Pipeline.arrRef spec1) → V4 m γ c b = V3 m c b :=
  fun b hb => W4_of_ne m γ c b fun w e => hb (Finset.mem_image.mpr ⟨w, Finset.mem_univ _, e⟩)

/-- At call 2's exit. -/
def W5 (c : Dev nD) : Valuation τ sig (Elt F) :=
  Pipeline.withArrays spec2 c (W4 m γ c) fun w => (dat2 (V4 m γ) c).arrAt w cfg2.N
theorem W5_arr (c : Dev nD) (w : Fin cfg2.W) :
    W5 m γ c (Proc.devRef .tc (Pipeline.arrRef spec2 w)) = (dat2 (V4 m γ) c).arrAt w cfg2.N := by
  unfold W5; exact Pipeline.withArrays_arr spec2 (launch2 (F := F)).win.arr_inj c _ _ w
theorem W5_of_ne (c : Dev nD) (b : Ref sig .tc) (hb : ∀ w, Pipeline.arrRef spec2 w ≠ b) :
    W5 m γ c (Proc.devRef .tc b) = W4 m γ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m γ c (Proc.devRef .tc r) = W4 m γ c (Proc.devRef .tc r) := by
  by_cases hw : ∃ w : Fin cfg2.W, Pipeline.arrRef spec2 w = r
  · obtain ⟨w, rfl⟩ := hw
    exact (W5_arr m γ c w).trans (((dat2 (V4 m γ) c).arrAt_in w (h w rfl) _).trans (A_eq2 (V4 m γ) c w))
  · exact W5_of_ne m γ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m γ c (Proc.devRef .tc a) = m ((c : Thread nD τ).loc a) :=
  fun a ha => (W5_of m γ c a (argsIn2 a ha)).trans (W4_args m γ c a ha)
abbrev V5 : (c : Dev nD) → (b : Ref sig .tc) → Buf (Elt F) ((c : Thread nD τ).loc b) := fun c b => W5 m γ c b
theorem hF2 (c : Dev nD) (w : Fin cfg2.W) : (dat2 (V4 m γ) c).arrAt w cfg2.N = V5 m γ c (Pipeline.arrRef spec2 w) :=
  (W5_arr m γ c w).symm
theorem hrest2 (c : Dev nD) : ∀ b, b ∉ Finset.univ.image (Pipeline.arrRef spec2) → V5 m γ c b = V4 m γ c b :=
  fun b hb => W5_of_ne m γ c b fun w e => hb (Finset.mem_image.mpr ⟨w, Finset.mem_univ _, e⟩)

/-- After `hostOps3`. -/
abbrev W6 : Dev nD → Valuation τ sig (Elt F) := fun c => StableHlo.after hostOps3 (W5 m γ c)
theorem W6_of (c : Dev nD) (r : Ref sig .tc) (h : r ∉ hostOps3_W) : W6 m γ c (Proc.devRef .tc r) = W5 m γ c (Proc.devRef .tc r) :=
  StableHlo.after_of_writes_sub hostOps3 _ hostOps3_writes h
theorem W6_args (c : Dev nD) : ∀ a ∈ argRefs, W6 m γ c (Proc.devRef .tc a) = m ((c : Thread nD τ).loc a) :=
  fun a ha => (W6_of m γ c a (hostOps3_args a ha)).trans (W5_args m γ c a ha)

/-! ## The proof data families and the thread state -/

/-- The pipelines' exact data, call 2's at the contents `VV`. -/
def pdats (VV : (c : Dev nD) → (b : Ref sig .tc) → Buf (Elt F) ((c : Thread nD τ).loc b)) :
    (p : Fin 3) → (c : Dev nD) → Dat τ (Elt F) Unit ℕ (UR sig nD τ × UR sig nD τ) ℕ (Pipeline.pin (pcfgs (F := F)) (adm m) p) c
  | ⟨0, _⟩ => fun c => dat0 (V1 m) c
  | ⟨1, _⟩ => fun c => dat1 (V3 m) (adm1 m) c
  | ⟨2, _⟩ => fun c => dat2 VV c
/-- The data of the launch: call 1's relational. -/
def rdats : (p : Fin 3) → (c : Dev nD) → RDat τ (Elt F) Unit ℕ (UR sig nD τ × UR sig nD τ) ℕ (Pipeline.pin (pcfgs (F := F)) (adm m) p) c
  | ⟨0, _⟩ => fun c => (dat0 (V1 m) c).toR
  | ⟨1, _⟩ => fun c => rdat1 m c
  | ⟨2, _⟩ => fun c => (dat2 (V3 m) c).toR
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register and the core's `owes`, at nothing. -/
abbrev R (c : Dev nD) : sProp 𝕄 := iprop((∃ r, prngReg c r) ∗ ∃ W, owes (c : Thread nD τ) (0 : CellTallies nD τ sig Unit) W)
/-- Call 2's ghost state, in the second copy. -/
abbrev G2 (c : Dev nD) : sProp 𝕄 :=
  iprop(Pipeline.cellsGhost (Pipeline.pin (pcfgs (F := F)) (adm m)) embR 2 c ∗ Pipeline.toksInit (Pipeline.pin (pcfgs (F := F)) (adm m)) embR 2 c)
abbrev RG (c : Dev nD) : sProp 𝕄 := iprop(R c ∗ G2 m c)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ × UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RG m)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- Call 0, of exact data. -/
def reg0 : Pipeline.RegionSeg (pcfgs (F := F)) (adm m) (pdats m (V3 m)) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ RG m c)
  post c := iprop(StableHlo.held (c : Thread nD τ) (Pipeline.ucRefs τ sig) (W2 m c) ∗ RG m c)
  X c := iprop(∃ r, prngReg c r)
  Y c := iprop(∃ r, prngReg c r)
  Z c := iprop(Pipeline.unscopedRest (Ix := Unit) (Name := ℕ) (U := UR sig nD τ × UR sig nD τ) (Lvl := ℕ) spec0 c (V1 m c) ∗ G2 m c)
  hentry c := by
    rw [Pipeline.ownSems0_none]
    have hsplit := Pipeline.arrays_of_unscopedBufs (p := 0) (pcfgs (F := F)) (adm m) (pdats m (V3 m)) (launch0 (F := F)).win (launch0 (F := F)).arr_whole c
      ((pdats m (V3 m) 0 c).share_full fun _ => rfl) (V1 m c) (A_eq0 (V1 m) c)
    rw [Pipeline.unscopedBufs_held] at hsplit
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pdats m (V3 m) 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m (V3 m) 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ × UR sig nD τ) (Lvl := ℕ)
      (launch0 (F := F)).win (launch0 (F := F)).arr_whole c (pdats m (V3 m)) ((pdats m (V3 m) 0 c).share_full fun _ => rfl)
      (V1 m c) (V2 m c) ((pdats m (V3 m) 0 c).arrAt · cfg0.N) (hF0 m c) (hrest0 m c)
    rw [Pipeline.unscopedBufs_held] at hjoin
    iintro ⟨Ha, HO, HY, Hrest, HG⟩
    imodintro
    isplitl [Ha Hrest]
    · iapply hjoin; isplitl [Ha] <;> iassumption
    isplitr [HG]
    swap; · iexact HG
    isplitl [HY]; · iexact HY
    unfold Pipeline.Dat.owesAt Pipeline.owesWithin
    icases HO with ⟨%W, -, HO⟩; iexists W; iexact HO

set_option backward.isDefEq.respectTransparency.types false in
/-- Call 0, in the launch's family. -/
def reg0R : Pipeline.RDat.RegionSeg (pcfgs (F := F)) (adm m) (rdats m) () defs₀ 𝒱₀ L lv 0 where
  win := (reg0 m).win
  block_pos := (reg0 m).block_pos
  stage_whole := (reg0 m).stage_whole
  K := (reg0 m).K
  osem := (reg0 m).osem
  ho := (reg0 m).ho
  hbody := ((reg0 m).toR _ _ _ _ _ _ _ _).hbody
  hwaits := ((reg0 m).toR _ _ _ _ _ _ _ _).hwaits
  pre := (reg0 m).pre
  post := (reg0 m).post
  X := (reg0 m).X
  Y := (reg0 m).Y
  Z := (reg0 m).Z
  hentry := (reg0 m).hentry
  hin := (reg0 m).hin
  hout := (reg0 m).hout
  hexit := ((reg0 m).toR _ _ _ _ _ _ _ _).hexit

/-- The arrays of relational data after `n` points: at some contents they may hold. -/
theorem arraysAt_some {cfg : Cfg sig Λ₀} {c : Dev nD} (rd : RDat τ (Elt F) Unit ℕ (UR sig nD τ × UR sig nD τ) ℕ cfg c) (n : Nat) :
    (rd.arraysAt n : sProp 𝕄) ⊢ iprop(∃ A : (w : Fin cfg.W) → Buf (Elt F) ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

/-- Contents on the one core as contents on every core. -/
theorem gam_of (c : Dev nD) (A : (w : Fin (cfg1 (adm1 m)).W) → Buf (Elt F) (((cfg1 (adm1 m)).win w).arr.view.loc (c : Thread nD τ)))
    (hA : ∀ w, (rdat1 m c).ArrAt w (cfg1 (adm1 m)).N (A w)) : ∃ γ : Gam m, γ.1 c = A := by
  obtain rfl := dev_eq c
  refine ⟨⟨fun c' => (dev_eq c').symm ▸ A, fun c' w => ?_⟩, rfl⟩
  obtain rfl := dev_eq c'
  exact hA w

set_option backward.isDefEq.respectTransparency.types false in
/-- Call 1: the lengths' table is split out of the buffers that are no window's array, and put back. -/
def reg1 (hl : LensOK (lens1 (adm1 m))) : Pipeline.RDat.RegionSeg (pcfgs (F := F)) (adm m) (rdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m) (adm1 m) hl c).toRRel
  hwaits := Pipeline.RDat.hwaits_of_owed_zero _ _ _ _ L lv 1 fun _ _ => rfl
  pre c := iprop(StableHlo.held (c : Thread nD τ) (Pipeline.ucRefs τ sig) (W3 m c) ∗ RG m c)
  post c := iprop((∃ γ, StableHlo.held (c : Thread nD τ) (Pipeline.ucRefs τ sig) (W4 m γ c)) ∗ RG m c)
  X c := iprop(∃ r, prngReg c r)
  Y c := iprop((∃ r, prngReg c r) ∗ Pipeline.prefHeld (Ix := Unit) (Name := ℕ) (U := UR sig nD τ × UR sig nD τ) (Lvl := ℕ) pre1 c (fun _ => fullShare) (adm1 m).1)
  Z c := iprop(Pipeline.unscopedRestP (Ix := Unit) (Name := ℕ) (U := UR sig nD τ × UR sig nD τ) (Lvl := ℕ) pre1 spec1 c (V3 m c) ∗ G2 m c)
  hentry c := by
    rw [Pipeline.ownSems0_none]
    have hsplit := Pipeline.RDat.arrays_of_unscopedBufs (p := 1) (pcfgs (F := F)) (adm m) (rdats m) (launch1 (F := F)).win (launch1 (F := F)).arr_whole c
      ((pdats m (V3 m) 1 c).share_full fun _ => rfl) (V3 m c) (A_eq1 (V3 m) (adm1 m) c)
    rw [Pipeline.unscopedBufs_held] at hsplit
    have htab : (Pipeline.unscopedRest (Ix := Unit) (Name := ℕ) (U := UR sig nD τ × UR sig nD τ) (Lvl := ℕ) spec1 c (V3 m c) : sProp 𝕄)
        = iprop(Pipeline.prefHeld pre1 c (fun _ => fullShare) (adm1 m).1 ∗ Pipeline.unscopedRestP pre1 spec1 c (V3 m c)) := by
      rw [Pipeline.unscopedRest_split preFacts1 c (V3 m c), show (fun k => V3 m c (pre1.ref k)) = (adm1 m).1 from funext fun k => (tab_eq m c k).symm]
    iintro ⟨⟨Hub, ⟨Hp, HO⟩, HG⟩, -, -⟩
    ihave H := hsplit $$ Hub
    icases H with ⟨Ha, Hrest⟩
    ihave Hrest := (Entails.of_eq htab) $$ Hrest
    icases Hrest with ⟨Ht, Hrest⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (rdats m 1 c).Φ 0 = Φ1 (adm1 m) c from rfl]; unfold Φ1
    iintro ⟨Hp, Ht, Hr⟩
    isplitr [Ht]
    · isplitl [Hr]; · iexact Hr
      iexact Hp
    iexact Ht
  hout c := by
    rw [Pipeline.ownSems0_none, show (rdats m 1 c).Φ (Fin.last _) = Φ1 (adm1 m) c from rfl]; unfold Φ1
    iintro ⟨⟨Hr, Hp⟩, Ht⟩
    isplitl [Hp Ht]
    · isplitl [Hp]; · iexact Hp
      iexact Ht
    isplitr; · iempintro
    iexact Hr
  hexit c := by
    have htab : (Pipeline.unscopedRest (Ix := Unit) (Name := ℕ) (U := UR sig nD τ × UR sig nD τ) (Lvl := ℕ) spec1 c (V3 m c) : sProp 𝕄)
        = iprop(Pipeline.prefHeld pre1 c (fun _ => fullShare) (adm1 m).1 ∗ Pipeline.unscopedRestP pre1 spec1 c (V3 m c)) := by
      rw [Pipeline.unscopedRest_split preFacts1 c (V3 m c), show (fun k => V3 m c (pre1.ref k)) = (adm1 m).1 from funext fun k => (tab_eq m c k).symm]
    have hjoin : ∀ γ : Gam m, _ := fun γ => Pipeline.unscopedBufs_of_arrays (p := 1) (pcfgs (F := F)) (adm m) (Ix := Unit) (Name := ℕ) (U := UR sig nD τ × UR sig nD τ) (Lvl := ℕ)
      (launch1 (F := F)).win (launch1 (F := F)).arr_whole c (pdats m (V3 m)) ((pdats m (V3 m) 1 c).share_full fun _ => rfl)
      (V3 m c) (V4 m γ c) (γ.1 c) (hF1 m γ c) (hrest1 m γ c)
    have harr : ∀ A, (rdats m 1 c).arrays A = (pdats m (V3 m) 1 c).arrays A := fun _ => rfl
    have hsome := arraysAt_some (rdats m 1 c) (Pipeline.pin (pcfgs (F := F)) (adm m) 1).N
    iintro ⟨Ha, HO, ⟨HY, Ht⟩, Hrest, HG⟩
    ihave Ha := hsome $$ Ha
    icases Ha with ⟨%A, %hA, Ha⟩
    obtain ⟨γ, rfl⟩ := gam_of m c A hA
    ihave Hrest := (Entails.of_eq htab.symm) $$ [Ht Hrest]
    · isplitl [Ht] <;> iassumption
    imodintro
    isplitl [Ha Hrest]
    · iexists γ
      iapply (Entails.of_eq (Pipeline.unscopedBufs_held c (W4 m γ c)))
      iapply (hjoin γ); isplitl [Ha]; · iapply (Entails.of_eq (harr _)); iexact Ha
      iexact Hrest
    isplitr [HG]
    swap; · iexact HG
    isplitl [HY]; · iexact HY
    unfold Pipeline.RDat.owesAt Pipeline.owesWithin
    icases HO with ⟨%W, -, HO⟩; iexists W; iexact HO

set_option backward.isDefEq.respectTransparency.types false in
/-- Call 2, at each `γ`. -/
def reg2 (γ : Gam m) : Pipeline.RegionSeg (pcfgs (F := F)) (adm m) (pdats m (V4 m γ)) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V4 m γ) c).loose
  hwaits := Pipeline.hwaits_of_owed_zero _ _ _ _ L lv 2 fun _ _ => rfl
  pre c := iprop(StableHlo.held (c : Thread nD τ) (Pipeline.ucRefs τ sig) (W4 m γ c) ∗ R c)
  post c := iprop(StableHlo.held (c : Thread nD τ) (Pipeline.ucRefs τ sig) (W5 m γ c) ∗ R c)
  X c := iprop(∃ r, prngReg c r)
  Y c := iprop(∃ r, prngReg c r)
  Z c := Pipeline.unscopedRest (Ix := Unit) (Name := ℕ) (U := UR sig nD τ × UR sig nD τ) (Lvl := ℕ) spec2 c (V4 m γ c)
  hentry c := by
    rw [Pipeline.ownSems0_none]
    have hsplit := Pipeline.arrays_of_unscopedBufs (p := 2) (pcfgs (F := F)) (adm m) (pdats m (V4 m γ)) (launch2 (F := F)).win (launch2 (F := F)).arr_whole c
      ((pdats m (V4 m γ) 2 c).share_full fun _ => rfl) (V4 m γ c) (A_eq2 (V4 m γ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (V4 m γ) 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m (V4 m γ) 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UR sig nD τ × UR sig nD τ) (Lvl := ℕ)
      (launch2 (F := F)).win (launch2 (F := F)).arr_whole c (pdats m (V4 m γ)) ((pdats m (V4 m γ) 2 c).share_full fun _ => rfl)
      (V4 m γ c) (V5 m γ c) ((pdats m (V4 m γ) 2 c).arrAt · cfg2.N) (hF2 m γ c) (hrest2 m γ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Call 2 as a host segment: whatever `γ` is, from the second copy of its ghost state. -/
def seg2 : Pipeline.HostSeg (Name := ℕ) (U := UR sig nD τ × UR sig nD τ) (pcfgs (F := F)) defs₀ 𝒱₀ L lv where
  prog := Prog.lift (.customCall (Pipeline.entry 2) ())
  pre c := iprop((∃ γ, StableHlo.held (c : Thread nD τ) (Pipeline.ucRefs τ sig) (W4 m γ c)) ∗ RG m c)
  post c := iprop((∃ γ, StableHlo.held (c : Thread nD τ) (Pipeline.ucRefs τ sig) (W5 m γ c)) ∗ R c)
  run c {β} k K := by
    have hwp := fun γ => Pipeline.RegionSeg.wp (pcfgs (F := F)) (adm m) (pdats m (V4 m γ)) () (cellOf_inj (adm m)) embR defs₀ 𝒱₀ L lv (reg2 m γ) c none
      (fun u h => nomatch h) k K
    have hpre : ∀ γ, (reg2 m γ).pre c = iprop(StableHlo.held (c : Thread nD τ) (Pipeline.ucRefs τ sig) (W4 m γ c) ∗ R c) := fun _ => rfl
    have hpost : ∀ γ, (reg2 m γ).post c = iprop(StableHlo.held (c : Thread nD τ) (Pipeline.ucRefs τ sig) (W5 m γ c) ∗ R c) := fun _ => rfl
    simp only [hpre, hpost] at hwp
    iintro ⟨Hk, Hbd, ⟨⟨%γ, Hh⟩, HR, HG, HT⟩, HL⟩
    iapply (hwp γ)
    isplitl [Hk]
    · iintro ⟨Hbd, Hh, HR⟩
      iapply Hk
      isplitl [Hbd]; · iexact Hbd
      isplitl [Hh]; · iexists γ; iexact Hh
      iexact HR
    isplitl [Hbd]; · iexact Hbd
    isplitl [Hh HR]; · isplitl [Hh] <;> iassumption
    isplitl [HL]; · iexact HL
    isplitl [HG] <;> iassumption

/-- The last host stretch, whatever `γ` is. -/
abbrev hseg3 : Pipeline.HostSeg (Name := ℕ) (U := UR sig nD τ × UR sig nD τ) (pcfgs (F := F)) defs₀ 𝒱₀ L lv :=
  Pipeline.HostSeg.ofOpsEx _ _ _ _ _ (Γ := fun _ => Gam m) (Pipeline.ucRefs τ sig) hostOps3
    (fun op h => Pipeline.sub_ucRefs op ((List.forall_iff_forall_mem.mp hostOps3_sub) op h))
    (fun op h => (List.forall_iff_forall_mem.mp hostOps3_fresh) op h) (fun c γ => W5 m γ c) R

/-! ## @main as segments, and the launch -/

abbrev segs (hl : LensOK (lens1 (adm1 m))) : List (Pipeline.RDat.Seg (pcfgs (F := F)) (adm m) (rdats m) () defs₀ 𝒱₀ L lv) :=
  [ .host (hseg m hostOps0 hostOps0_sub hostOps0_fresh (W0 m)),
    .region (reg0R m),
    .host (hseg m hostOps1 hostOps1_sub hostOps1_fresh (W2 m)),
    .region (reg1 m hl),
    .host (seg2 m),
    .host (hseg3 m) ]
theorem main_run (hl : LensOK (lens1 (adm1 m))) (c : Dev nD) : main (F := F) c = Pipeline.RDat.Seg.run (segs m hl) :=
  (main_chain c).trans (by chain_rfl)

theorem no_unscoped : ∀ sm : SemLoc sig, sm.isScoped .tc = true := by decide

/-- The last thread state without the `owes`. -/
abbrev Tₙ (c : Dev nD) : sProp 𝕄 :=
  iprop((∃ γ, StableHlo.held (c : Thread nD τ) (Pipeline.ucRefs τ sig) (W6 m γ c)) ∗ ∃ r, prngReg c r)

/-- The launch element of one copy of the pipeline library's ghost state. -/
abbrev u1 : UR sig nD τ := initOf (Pipeline.cells (Pipeline.pin (pcfgs (F := F)) (adm m)) (cellOf_inj (adm m))) (Pipeline.launchToks (Pipeline.pin (pcfgs (F := F)) (adm m)) (cellOf_inj (adm m)))

theorem one (Φ : Dev nD → sProp 𝕄) : bigSep Finset.univ Φ ⊢ Φ dev0 := Entails.of_eq (BI.bigSep_singleton (i := dev0) (Φ := Φ))
theorem one' (Φ : Dev nD → sProp 𝕄) : Φ dev0 ⊢ bigSep Finset.univ Φ := Entails.of_eq (BI.bigSep_singleton (i := dev0) (Φ := Φ)).symm
theorem pick (Φ : Fin 3 → sProp 𝕄) : bigSep Finset.univ Φ ⊢ Φ 2 := by
  have h : bigSep Finset.univ Φ ⊢ iprop(Φ 2 ∗ bigSep (Finset.univ.erase 2) Φ) := Entails.of_eq (BI.bigSep_erase (Finset.mem_univ (2 : Fin 3)))
  iintro H
  ihave H := h $$ H
  icases H with ⟨H, -⟩
  iexact H
/-- The second copy yields call 2's ghost state. -/
theorem ghost2 : (BI.own (embR (u1 m)) : sProp 𝕄) ⊢ |={Set.univ}=> bigSep Finset.univ (G2 m) := by
  iintro H
  imod (Pipeline.fund_ghost (Pipeline.pin (pcfgs (F := F)) (adm m)) embR (cellOf_inj (adm m))) $$ H with ⟨Hg, Ht⟩
  imodintro
  ihave Hg := (one _) $$ Hg
  ihave Ht := (one _) $$ Ht
  iapply (one' _)
  isplitl [Hg]
  · iapply (pick fun p => Pipeline.cellsGhost (Pipeline.pin (pcfgs (F := F)) (adm m)) embR p dev0); iexact Hg
  · iapply (pick fun p => Pipeline.toksInit (Pipeline.pin (pcfgs (F := F)) (adm m)) embR p dev0); iexact Ht

set_option backward.isDefEq.respectTransparency.types false in
/-- THE RUN: @main terminates without a fault, and the final memory has every unscoped buffer at `W6` of some `γ`, every
    semaphore counter at zero. -/
theorem runs (hl : LensOK (lens1 (adm1 m))) : θ_run defs (onTc (τ := τ) (main (F := F))) ⟨m, fun _ => 0, ρ⟩ (fun r =>
      (∀ c : Dev nD, ∃ γ : Gam m, ∀ b ∈ Pipeline.ucRefs τ sig, r.2.mem (((c : Thread nD τ)).1, b) = W6 m γ c b) ∧ r.2.sem = fun _ => 0) :=
  Pipeline.RDat.θ_run_regions_kit_sems (pcfgs (F := F)) (adm m) (rdats m) () (cellOf_inj (adm m)) embL defs₀ 𝒱₀ L lv m ρ main (segs m hl)
    (fun c Q => by rw [main_run m hl c])
    (by simp only [segs, Pipeline.RDat.Seg.pipes_host, Pipeline.RDat.Seg.pipes_region, Pipeline.RDat.Seg.pipes_nil]; decide)
    (O₀ := 0) (hL := fun _ _ => rfl) (G := G2 m)
    (u₀ := (u1 m, u1 m))
    (hu₀ := by
      iintro Hu
      ihave Hu := (ownU_pair (u1 m) (u1 m)) $$ Hu
      icases Hu with ⟨H1, H2⟩
      imod (ghost2 m) $$ H2 with H2
      imodintro
      isplitl [H1] <;> iassumption)
    (T₀ := fun c => iprop(StableHlo.held (c : Thread nD τ) (Pipeline.ucRefs τ sig) (W0 m c) ∗ RG m c)) (Tₙ := Tₙ m)
    (hch := ⟨fun _ => .rfl, fun _ => .rfl, fun _ => .rfl, fun _ => .rfl, fun _ => .rfl, fun _ => .rfl, fun c => by
      dsimp only [Pipeline.RDat.Seg.post, hseg3, Pipeline.HostSeg.ofOpsEx]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, HG⟩, -⟩
      imodintro
      isplitl [Hh]; · iexact Hh
      isplitr [HG]
      · isplitl [Hp]; · iexists _; iexact Hp
        iexists ∅; iexact HO
      iexact HG)
    (QY := fun c s => ∃ γ : Gam m, ∀ b ∈ Pipeline.ucRefs τ sig, s.mem (((c : Thread nD τ)).1, b) = W6 m γ c b)
    (hfin := fun c s' => by
      iintro ⟨⟨⟨%γ, Hh⟩, -⟩, HSI⟩
      have hread := pointsTo_read_all (Pipeline.ucRefs τ sig) (fun b => (((c : Thread nD τ)).1, b)) (W6 m γ c) s' (Ix := Unit) (Name := ℕ) (U := UR sig nD τ × UR sig nD τ) (Lvl := ℕ)
      unfold StableHlo.held
      ihave H := hread $$ [Hh HSI]
      · isplitl [Hh] <;> iassumption
      icases H with ⟨%h, HSI⟩
      imodintro
      isplitr
      · ipureintro; exact ⟨γ, h⟩
      iexact HSI)
    (hQ := fun s h hz => ⟨h, funext fun g => hz g (.inr (no_unscoped g.2))⟩)

/-- THE FRAME, of lengths that fit. -/
theorem frame (hl : LensOK (lens1 (adm1 m))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => by
    obtain ⟨γ, hγ⟩ := h.1 c
    exact ⟨(hγ _ (mem_uc main_arg0 (by decide))).trans (W6_args m γ c main_arg0 (by decide)),
      (hγ _ (mem_uc main_arg1 (by decide))).trans (W6_args m γ c main_arg1 (by decide)),
      (hγ _ (mem_uc main_arg2 (by decide))).trans (W6_args m γ c main_arg2 (by decide)),
      (hγ _ (mem_uc main_arg3 (by decide))).trans (W6_args m γ c main_arg3 (by decide)),
      (hγ _ (mem_uc main_arg4 (by decide))).trans (W6_args m γ c main_arg4 (by decide)),
      (hγ _ (mem_uc main_arg5 (by decide))).trans (W6_args m γ c main_arg5 (by decide)),
      (hγ _ (mem_uc main_arg6 (by decide))).trans (W6_args m γ c main_arg6 (by decide)),
      (hγ _ (mem_uc main_arg7 (by decide))).trans (W6_args m γ c main_arg7 (by decide)),
      (hγ _ (mem_uc main_arg8 (by decide))).trans (W6_args m γ c main_arg8 (by decide)),
      (hγ _ (mem_uc main_arg9 (by decide))).trans (W6_args m γ c main_arg9 (by decide)),
      (hγ _ (mem_uc main_arg10 (by decide))).trans (W6_args m γ c main_arg10 (by decide))⟩, h.2⟩) (runs m ρ hl)

end Cert.KernelIdeal.Gen

end
-- ==== Proof.KernelIdeal.Lens.lean ====
/- Lengths that fit: a document of at most 512 tokens makes the checks the kernel states of it, so the precondition gives
   every check of every document. -/
module

public import proofs.«01_k».proof.Proof.KernelIdeal.Region1
public import proofs.«01_k».proof.Proof.Gen.Pre_lens_fit
public import Idealize.ShloMosaic.Lib.WordArith
public import Idealize.ShloMosaic.Lib.ReduceAll

@[expose] public section

set_option maxRecDepth 16384

noncomputable section

namespace Cert.KernelIdeal.Gen

open Idealize.ShloMosaic Idealize.ShloMosaic.TcCoe

/-- The number of 128-token chunks of a document of `w` tokens, as the kernel computes it. -/
def nChunks (w : BitVec 32) : BitVec 32 := Scalar.divsi (Scalar.addi w 127#32) 128#32

theorem nChunks_eq (w : BitVec 32) : nChunks w = (w + 127#32).sdiv 128#32 := by
  unfold nChunks Scalar.divsi IntOp.divsi
  rw [if_neg (by simp [IntOp.SDivCorner])]; rfl

theorem tdiv_le (a : Int) (h : a ≤ 639) (hl : -2147483648 ≤ a) : a.tdiv 128 ≤ 4 ∧ -2147483648 ≤ a.tdiv 128 := by
  rcases le_total 0 a with h0 | h0
  · rw [Int.tdiv_eq_ediv_of_nonneg h0]; omega
  · obtain ⟨b, rfl⟩ : ∃ b, a = -b := ⟨-a, by omega⟩
    rw [Int.neg_tdiv, Int.tdiv_eq_ediv_of_nonneg (by omega)]; omega

theorem nChunks_toInt (w : BitVec 32) (h : w.toInt ≤ 512) : (nChunks w).toInt = (w.toInt + 127).tdiv 128 := by
  have hl := BitVec.le_toInt w
  have hs : (w + 127#32).toInt = w.toInt + 127 := by
    rw [BitVec.toInt_add, show (127#32 : BitVec 32).toInt = 127 from rfl]
    exact Int.bmod_eq_of_le (by omega) (by omega)
  rw [nChunks_eq, BitVec.toInt_sdiv, hs, show (128#32 : BitVec 32).toInt = 128 from rfl]
  have h1 := tdiv_le (w.toInt + 127) (by omega) (by omega)
  exact Int.bmod_eq_of_le (by omega) (by omega)

theorem t2_loop_eq (w : BitVec 32) : k1_t2_loop w = ⟨0#32, nChunks w, 1#32⟩ := by
  show (⟨0#32, Scalar.addi 0#32 (Scalar.muli (Scalar.divsi (Scalar.subi (nChunks w) 0#32) 1#32) 1#32), 1#32⟩ : Scf.Loop 32) = _
  congr 1
  have h : Scalar.divsi (Scalar.subi (nChunks w) 0#32) 1#32 = nChunks w := by
    show IntOp.divsi .scalar (nChunks w - 0#32) 1#32 = _
    unfold IntOp.divsi
    rw [if_neg (by simp [IntOp.SDivCorner]), BitVec.sub_zero]; exact BitVec.sdiv_one
  rw [h]
  show 0#32 + nChunks w * 1#32 = _
  simp

theorem t3_loop_eq (w : BitVec 32) : k1_t3_loop w = ⟨nChunks w, nChunks w, 1#32⟩ := by
  have e2 : (k1_t3_loop w).lb = (k1_t2_loop w).ub := rfl
  have e3 : (k1_t3_loop w).ub = Scalar.addi 0#32 (Scalar.subi (nChunks w) 0#32) := rfl
  have e4 : (k1_t3_loop w).st = 1#32 := rfl
  have e5 : Scalar.addi 0#32 (Scalar.subi (nChunks w) 0#32) = nChunks w := by
    show 0#32 + (nChunks w - 0#32) = _
    simp
  rw [t2_loop_eq] at e2
  show (⟨(k1_t3_loop w).lb, (k1_t3_loop w).ub, (k1_t3_loop w).st⟩ : Scf.Loop 32) = _
  rw [e2, e3, e4, e5]

theorem t2_trips (w : BitVec 32) (h : w.toInt ≤ 512) : (k1_t2_loop w).trips = ((w.toInt + 127).tdiv 128).toNat := by
  rw [t2_loop_eq]
  show Scf.trips _ _ _ = _
  unfold Scf.trips
  rw [nChunks_toInt w h, show (0#32 : BitVec 32).toInt = 0 from rfl, show (1#32 : BitVec 32).toInt = 1 from rfl]
  congr 1; omega
theorem t2_trips_le (w : BitVec 32) (h : w.toInt ≤ 512) : (k1_t2_loop w).trips ≤ 4 := by
  have hl := BitVec.le_toInt w
  have h1 := tdiv_le (w.toInt + 127) (by omega) (by omega)
  rw [t2_trips w h]; omega
theorem t3_trips (w : BitVec 32) : (k1_t3_loop w).trips = 0 := by
  rw [t3_loop_eq]
  show Scf.trips _ _ _ = _
  unfold Scf.trips
  show (((nChunks w).toInt - (nChunks w).toInt + (1#32 : BitVec 32).toInt - 1) / (1#32 : BitVec 32).toInt).toNat = 0
  rw [show (1#32 : BitVec 32).toInt = 1 from rfl]
  omega

/-- The offsets of a chunk's loads, of a chunk number rather than a trip. -/
def offZ (t : Fin k1_t1_loop.trips) (k : Nat) : Fin 3 → Nat :=
  ![(Scalar.indexCast (Scalar.addi 0#32 (Scalar.muli (Scf.iv 0#32 1#32 t) 1#32)) : Index).toNat,
    (Scalar.indexCast (Scalar.muli (Scf.iv 0#32 1#32 k) 128#32) : Index).toNat, 0]
theorem off2_offZ (t : Fin k1_t1_loop.trips) (w : BitVec 32) (k : Fin (k1_t2_loop w).trips) : k1_off2 t w k = offZ t k.val := rfl
theorem off3_offZ (t : Fin k1_t1_loop.trips) (w : BitVec 32) (k : Fin (k1_t2_loop w).trips) : k1_off3 t w k = offZ t k.val := rfl
theorem offZ_eq : ∀ (t : Fin k1_t1_loop.trips) (k : Fin 4), offZ t k.val = ![t.val, 128 * k.val, 0] := by decide +kernel
theorem off2_eq (t : Fin k1_t1_loop.trips) (w : BitVec 32) (h : w.toInt ≤ 512) (k : Fin (k1_t2_loop w).trips) :
    k1_off2 t w k = ![t.val, 128 * k.val, 0] :=
  (off2_offZ t w k).trans (offZ_eq t ⟨k.val, k.isLt.trans_le (t2_trips_le w h)⟩)
theorem off3_eq (t : Fin k1_t1_loop.trips) (w : BitVec 32) (h : w.toInt ≤ 512) (k : Fin (k1_t2_loop w).trips) :
    k1_off3 t w k = ![t.val, 128 * k.val, 0] :=
  (off3_offZ t w k).trans (offZ_eq t ⟨k.val, k.isLt.trans_le (t2_trips_le w h)⟩)
theorem t1_lt (t : Fin k1_t1_loop.trips) : t.val < 32 := t.isLt

/-- A length of at most 512 makes its document's checks. -/
theorem chk_of_le (t : Fin k1_t1_loop.trips) (w : BitVec 32) (h : w.toInt ≤ 512) : k1_chk1 t w := by
  have h4 := t2_trips_le w h
  refine ⟨?_, fun k => ?_, fun k a => ?_, fun k a => ?_, ?_, fun k => ?_, fun k => ?_, fun k => ?_⟩
  · refine ⟨by rw [t2_loop_eq]; show 0 < (1#32 : BitVec 32).toInt; decide, ?_⟩
    have : ((k1_t2_loop w).trips : Int) ≤ 4 := by exact_mod_cast h4
    have e : (k1_t2_loop w).lb.toInt = 0 := by rw [t2_loop_eq]; rfl
    have e' : (k1_t2_loop w).st.toInt = 1 := by rw [t2_loop_eq]; rfl
    show (k1_t2_loop w).lb.toInt + ((k1_t2_loop w).trips : Int) * (k1_t2_loop w).st.toInt < _
    rw [e, e']; omega
  · have hk : ∀ k : Fin 4, 128 ∣ (Scalar.muli (Scf.iv 0#32 1#32 k.val) 128#32).toNat := by decide +kernel
    exact hk ⟨k.val, k.isLt.trans_le h4⟩
  · rw [off2_eq t w h k]
    have hk := k.isLt
    have ht := t1_lt t
    fin_cases a
    · show t.val + 1 ≤ 32; omega
    · show 128 * k.val + 128 ≤ 512; omega
    · show 0 + 768 ≤ 768; omega
  · rw [off3_eq t w h k]
    have hk := k.isLt
    have ht := t1_lt t
    fin_cases a
    · show t.val + 1 ≤ 32; omega
    · show 128 * k.val + 128 ≤ 512; omega
    · show 0 + 1 ≤ 128; omega
  · refine ⟨by rw [t3_loop_eq]; show 0 < (1#32 : BitVec 32).toInt; decide, ?_⟩
    have e : (k1_t3_loop w).lb.toInt = (w.toInt + 127).tdiv 128 := by rw [t3_loop_eq]; exact nChunks_toInt w h
    show (k1_t3_loop w).lb.toInt + ((k1_t3_loop w).trips : Int) * (k1_t3_loop w).st.toInt < _
    have hl := BitVec.le_toInt w
    have h1 := tdiv_le (w.toInt + 127) (by omega) (by omega)
    rw [e, t3_trips]; push_cast; omega
  all_goals exact absurd (k.isLt.trans_eq (t3_trips w)) (Nat.not_lt_zero _)

variable {F : FTy → Type} [FloatOps F]

/-- Lengths of at most 512 make every document's checks. -/
theorem lensOK_of_le (x : Vec F S32 .i32) (h : ∀ i, (x i : BitVec 32).toInt ≤ 512) : LensOK x := fun t => chk_of_le t _ (h _)

/-- The precondition says each length is at most 512. -/
theorem le_of_pre [Cert.Pre_lens_fit.Facts] (x0 x1 x2 x3 x4 x5 x6 x7 x8 x9 x10)
    (h : Cert.Pre_lens_fit.fn (F := F) x0 x1 x2 x3 x4 x5 x6 x7 x8 x9 x10 = fun _ => 1#1) (i : Cert.Pre_lens_fit.S32.Idx) : (x2 i).toInt ≤ 512 := by
  have h0 := congrFun h (Shape.Idx.first (by decide))
  have := Host.reduce_andi_all _ _ _ _ _ h0 i
  exact IntOp.cmpi_sle.1 this

end Cert.KernelIdeal.Gen

end
-- ==== Proof.Value.Spec.lean ====
/- The document head in plain formulas over extended reals: the transform of one token's row, its quantisation, and the
   quantised scales; what kernel and reference are both shown to compute. -/
module

public import Idealize.ShloMosaic.Lib.Pointwise

@[expose] public section

set_option maxRecDepth 16384

noncomputable section

open Idealize.ShloMosaic Idealize.ShloMosaic.TcCoe Idealize.SL.Sem
namespace Cert.Val

/-- The Gaussian error linear unit, by `erf`. -/
def gelu (h : EReal) : EReal :=
  Ideal.ofBits .f32 0x3F000000#32 * h * (1 + FloatOps.erf (F := Ideal) (φ := .f32) (h * Ideal.ofBits .f32 0x3F3504F3#32))

/-- The hidden row of one token: its codes times the weights, rescaled, with the bias, through the unit. -/
def gRow (x : Fin 768 → EReal) (w : Fin 768 → Fin 768 → EReal) (s : EReal) (ws b : Fin 768 → EReal) (n : Fin 768) : EReal :=
  gelu ((∑ k, x k * w k n) * s * ws n + b n)

/-- A row less its mean. -/
def cen (g : Fin 768 → EReal) (n : Fin 768) : EReal := g n - Ideal.div (∑ k, g k) (Ideal.ofBits .f32 0x44400000#32)

/-- A row's variance. -/
def var (g : Fin 768 → EReal) : EReal := Ideal.div (∑ k, cen g k * cen g k) (Ideal.ofBits .f32 0x44400000#32)

/-- A row normalised. -/
def lnorm (g : Fin 768 → EReal) (n : Fin 768) : EReal :=
  Ideal.div (cen g n) (Ideal.sqrt (var g + Ideal.ofBits .f32 0x2B8CBCCC#32))

/-- A normalised row with its gain and shift. -/
def affine (l ga be : Fin 768 → EReal) (n : Fin 768) : EReal := l n * ga n + be n

/-- The transformed row of one token. -/
def yRow (x : Fin 768 → EReal) (w : Fin 768 → Fin 768 → EReal) (s : EReal) (ws b ga be : Fin 768 → EReal) : Fin 768 → EReal :=
  affine (lnorm (gRow x w s ws b)) ga be

/-- The largest magnitude of a row. -/
def amaxRow (y : Fin 768 → EReal) : EReal := Finset.univ.sup fun k => FloatOps.absf (F := Ideal) (φ := .f32) (y k)

/-- The scale for a largest magnitude `a` and a largest code `m`: one for a row of zeros. -/
def scaleOf (a m : EReal) : EReal := if a = 0 then 1 else Ideal.div a m

/-- A row's scale. -/
def zScale (y : Fin 768 → EReal) : EReal := scaleOf (amaxRow y) (Ideal.ofBits .f32 0x43E00000#32)

/-- A row's codes. -/
def zCode (y : Fin 768 → EReal) (n : Fin 768) : EReal :=
  min (Ideal.ofBits .f32 0x43E00000#32) (max (Ideal.ofBits .f32 0xC3E00000#32) (Ideal.div (y n) (zScale y)))

end Cert.Val
-- ==== Proof.Value.Maxes.lean ====
/- Maxima along an axis, and weighted masks, at extended reals: for any extents. -/
module

public import Idealize.ShloMosaic.Lib.Pointwise

@[expose] public section

set_option maxRecDepth 16384

noncomputable section

open Idealize.ShloMosaic Idealize.ShloMosaic.TcCoe Idealize.SL.Sem
namespace Cert.Val

variable {n0 n1 n2 : ℕ}

/-- The pattern of minus infinity. -/
theorem negInf : Ideal.ofBits .f32 0xFF800000#32 = ⊥ := by
  simp [Ideal.ofBits, Ideal.ieee]

/-- A maximum along the last axis of three. -/
theorem max_r3_a2 (src : FVec Ideal ⟨3, ![n0, n1, n2]⟩ .f32) (h hφ hacc) (a : Fin n0) (b : Fin n1) :
    multiReduction .maximumf [2] (⟨2, ![n0, n1]⟩ : Shape) src 0xFF800000#32 h hφ hacc (ix2 a b) = Finset.univ.sup fun k : Fin n2 => (src (ix3 a b k) : EReal) := by
  pointwise []
  rw [negInf]; rfl

/-- A maximum along the middle axis of three. -/
theorem max_r3_a1 (src : FVec Ideal ⟨3, ![n0, n1, n2]⟩ .f32) (h hφ hacc) (a : Fin n0) (b : Fin n2) :
    multiReduction .maximumf [1] (⟨2, ![n0, n2]⟩ : Shape) src 0xFF800000#32 h hφ hacc (ix2 a b) = Finset.univ.sup fun k : Fin n1 => (src (ix3 a k b) : EReal) := by
  pointwise []
  rw [negInf]; rfl

/-- A maximum along the first axis of three. -/
theorem max_r3_a0 (src : FVec Ideal ⟨3, ![n0, n1, n2]⟩ .f32) (h hφ hacc) (a : Fin n1) (b : Fin n2) :
    multiReduction .maximumf [0] (⟨2, ![n1, n2]⟩ : Shape) src 0xFF800000#32 h hφ hacc (ix2 a b) = Finset.univ.sup fun k : Fin n0 => (src (ix3 k a b) : EReal) := by
  pointwise []
  rw [negInf]; rfl

/-- A maximum along the last axis of two. -/
theorem max_r2_a1 (src : FVec Ideal ⟨2, ![n0, n1]⟩ .f32) (h hφ hacc) (a : Fin n0) :
    multiReduction .maximumf [1] (⟨1, ![n0]⟩ : Shape) src 0xFF800000#32 h hφ hacc (ix1 a) = Finset.univ.sup fun k : Fin n1 => (src (ix2 a k) : EReal) := by
  pointwise []
  rw [negInf]; rfl

/-- A maximum along the first axis of two. -/
theorem max_r2_a0 (src : FVec Ideal ⟨2, ![n0, n1]⟩ .f32) (h hφ hacc) (a : Fin n1) :
    multiReduction .maximumf [0] (⟨1, ![n1]⟩ : Shape) src 0xFF800000#32 h hφ hacc (ix1 a) = Finset.univ.sup fun k : Fin n0 => (src (ix2 k a) : EReal) := by
  pointwise []
  rw [negInf]; rfl

end Cert.Val
-- ==== Proof.Value.Chunk.lean ====
/- One 128-row chunk of the kernel's transform, read at an index: the formulas of Spec.lean. -/
module

public import proofs.«01_k».proof.Proof.Gen.KernelIdeal.Skeleton
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

/-- The centred rows of a chunk. -/
theorem pay4_at (v0 : Vec Ideal S1x128x768 .fp8e4m3) (v2 : Vec Ideal S768x768 .fp8e4m3) (v4 : Vec Ideal S1x1x128 .f32) (v12 v16 : Vec Ideal S1x768 .f32) (r : Fin 128) (n : Fin 768) :
    k0_pay4 v0 v2 v4 v12 v16 (ix2 r n) = cen (gRow (fun k => v0 (ix3 0 r k)) (fun k n => v2 (ix2 k n)) (v4 (ix3 0 0 r)) (fun n => v12 (ix2 0 n)) (fun n => v16 (ix2 0 n))) n := by
  pointwise [k0_pay4]
  rfl

/-- A mean of squares. -/
theorem meanSq_at (c : FVec Ideal S128x768 .f32) (r : Fin 128) :
    divf (shapeCast S128x1 (multiReduction .add [1] S128 (mulf c c) 0x00000000#32 reduces_S128x768_S128 (.inl rfl) rfl) shapeCasts_S128_S128x1) (broadcast S128x1 (Scalar.ofBits .f32 0x44400000#32)) (ix2 r 0)
      = Ideal.div (∑ k : Fin 768, c (ix2 r k) * c (ix2 r k)) (Ideal.ofBits .f32 0x44400000#32) := by
  pointwise []

/-- The variances of a chunk's rows. -/
theorem pay5_at (v0 : Vec Ideal S1x128x768 .fp8e4m3) (v2 : Vec Ideal S768x768 .fp8e4m3) (v4 : Vec Ideal S1x1x128 .f32) (v12 v16 : Vec Ideal S1x768 .f32) (r : Fin 128) :
    k0_pay5 v0 v2 v4 v12 v16 (ix2 r 0) = var (gRow (fun k => v0 (ix3 0 r k)) (fun k n => v2 (ix2 k n)) (v4 (ix3 0 0 r)) (fun n => v12 (ix2 0 n)) (fun n => v16 (ix2 0 n))) := by
  unfold k0_pay5
  refine (meanSq_at _ r).trans ?_
  simp only [pay4_at]
  unfold var
  exact Eq.refl _

/-- Normalised rows with gain and shift. -/
theorem pay6_at (v33 : FVec Ideal S128x768 .f32) (v38 : FVec Ideal S128x1 .f32) (v44 v48 : Vec Ideal S1x768 .f32) (r : Fin 128) (n : Fin 768) :
    k0_pay6 v33 v38 v44 v48 (ix2 r n) = Ideal.div (v33 (ix2 r n)) (Ideal.sqrt (v38 (ix2 r 0) + Ideal.ofBits .f32 0x2B8CBCCC#32)) * v44 (ix2 0 n) + v48 (ix2 0 n) := by
  pointwise [k0_pay6]

/-- A scale from a largest magnitude. -/
theorem scale_at (M : FVec Ideal S128 .f32) (r : Fin 128) :
    select (cmpf .oeq (shapeCast S128x1 M shapeCasts_S128_S128x1) (broadcast S128x1 (Scalar.ofBits .f32 0x00000000#32))) (broadcast S128x1 (Scalar.ofBits .f32 0x3F800000#32)) (divf (shapeCast S128x1 M shapeCasts_S128_S128x1) (broadcast S128x1 (Scalar.ofBits .f32 0x43E00000#32))) (ix2 r 0) = scaleOf (M (ix1 r)) (Ideal.ofBits .f32 0x43E00000#32) := by
  pointwise []
  rfl

/-- The scales of rows. -/
theorem pay7_at (v33 : FVec Ideal S128x768 .f32) (v38 : FVec Ideal S128x1 .f32) (v44 v48 : Vec Ideal S1x768 .f32) (r : Fin 128) :
    k0_pay7 v33 v38 v44 v48 (ix2 r 0) = zScale (fun n => k0_pay6 v33 v38 v44 v48 (ix2 r n)) := by
  unfold k0_pay7
  exact (scale_at _ r).trans (congrArg (fun z => scaleOf z (Ideal.ofBits .f32 0x43E00000#32)) (max_r2_a1 (absf (k0_pay6 v33 v38 v44 v48)) reduces_S128x768_S128 (.inl rfl) rfl r))

/-- Codes from rows and scales. -/
theorem code_at (M : FVec Ideal S128x1 .f32) (Y : FVec Ideal S128x768 .f32) (r : Fin 128) (n : Fin 768) :
    shapeCast S1x128x768 (truncf .fp8e4m3 (minimumf (broadcast S128x768 (Scalar.ofBits .f32 0x43E00000#32)) (maximumf (broadcast S128x768 (Scalar.ofBits .f32 0xC3E00000#32)) (divf Y (broadcastTo S128x768 M broadcasts_S128x1_S128x768)))) bitsLt_fp8e4m3_f32) shapeCasts_S128x768_S1x128x768 (ix3 0 r n)
      = min (Ideal.ofBits .f32 0x43E00000#32) (max (Ideal.ofBits .f32 0xC3E00000#32) (Ideal.div (Y (ix2 r n)) (M (ix2 r 0)))) := by
  pointwise []

/-- The codes of rows. -/
theorem pay8_at (v33 : FVec Ideal S128x768 .f32) (v38 : FVec Ideal S128x1 .f32) (v44 v48 : Vec Ideal S1x768 .f32) (r : Fin 128) (n : Fin 768) :
    k0_pay8 v33 v38 v44 v48 (ix3 0 r n) = zCode (fun n => k0_pay6 v33 v38 v44 v48 (ix2 r n)) n := by
  unfold k0_pay8
  refine (code_at _ _ r n).trans ?_
  rw [pay7_at]
  exact Eq.refl _

/-- The scales along lanes. -/
theorem pay10_at (v33 : FVec Ideal S128x768 .f32) (v38 : FVec Ideal S128x1 .f32) (v44 v48 : Vec Ideal S1x768 .f32) (r l : Fin 128) :
    k0_pay10 v33 v38 v44 v48 (ix3 0 r l) = zScale (fun n => k0_pay6 v33 v38 v44 v48 (ix2 r n)) := by
  rw [← pay7_at]
  unfold k0_pay10 k0_pay9
  generalize k0_pay7 v33 v38 v44 v48 = M
  pointwise []

/-- The scales as a row. -/
theorem pay12_at (v33 : FVec Ideal S128x768 .f32) (v38 : FVec Ideal S128x1 .f32) (v44 v48 : Vec Ideal S1x768 .f32) (r : Fin 128) :
    k0_pay12 (k0_pay11 v33 v38 v44 v48) (ix3 0 0 r) = zScale (fun n => k0_pay6 v33 v38 v44 v48 (ix2 r n)) := by
  rw [← pay7_at]
  unfold k0_pay12 k0_pay11 k0_pay9
  generalize k0_pay7 v33 v38 v44 v48 = M
  pointwise []

/-- The transformed rows of a chunk. -/
theorem row_at (v0 : Vec Ideal S1x128x768 .fp8e4m3) (v2 : Vec Ideal S768x768 .fp8e4m3) (v4 : Vec Ideal S1x1x128 .f32) (v12 v16 v44 v48 : Vec Ideal S1x768 .f32) (r : Fin 128) :
    (fun n => k0_pay6 (k0_pay4 v0 v2 v4 v12 v16) (k0_pay5 v0 v2 v4 v12 v16) v44 v48 (ix2 r n))
      = yRow (fun k => v0 (ix3 0 r k)) (fun k n => v2 (ix2 k n)) (v4 (ix3 0 0 r)) (fun n => v12 (ix2 0 n)) (fun n => v16 (ix2 0 n)) (fun n => v44 (ix2 0 n)) (fun n => v48 (ix2 0 n)) := by
  funext n
  rw [pay6_at, pay4_at, pay5_at]
  exact Eq.refl _

/-- A chunk's codes, from entries of its operands. -/
theorem codes_of (a : Vec Ideal S1x128x768 .fp8e4m3) (b : Vec Ideal S768x768 .fp8e4m3) (c : Vec Ideal S1x1x128 .f32) (d e g h : Vec Ideal S1x768 .f32) (x : S1x128x768.Idx)
    {X : Fin 768 → EReal} {W : Fin 768 → Fin 768 → EReal} {s : EReal} {D E G H : Fin 768 → EReal} {n : Fin 768} (hn : (x 2 : ℕ) = n)
    (ha : ∀ k, a (ix3 0 (x 1) k) = X k) (hb : ∀ k n, b (ix2 k n) = W k n) (hc : c (ix3 0 0 (x 1)) = s)
    (hd : ∀ n, d (ix2 0 n) = D n) (he : ∀ n, e (ix2 0 n) = E n) (hg : ∀ n, g (ix2 0 n) = G n) (hh : ∀ n, h (ix2 0 n) = H n) :
    k0_pay8 (k0_pay4 a b c d e) (k0_pay5 a b c d e) g h x = zCode (yRow X W s D E G H) n := by
  obtain rfl : (fun k => a (ix3 0 (x 1) k)) = X := funext ha
  obtain rfl : (fun k n => b (ix2 k n)) = W := funext fun k => funext (hb k)
  subst hc
  obtain rfl : (fun n => d (ix2 0 n)) = D := funext hd
  obtain rfl : (fun n => e (ix2 0 n)) = E := funext he
  obtain rfl : (fun n => g (ix2 0 n)) = G := funext hg
  obtain rfl : (fun n => h (ix2 0 n)) = H := funext hh
  obtain rfl : x 2 = n := Fin.ext hn
  have ex : x = ix3 0 (x 1) (x 2) := by
    funext i
    match i with
    | ⟨0, _⟩ => exact Subsingleton.elim (α := Fin 1) _ _
    | ⟨1, _⟩ => rfl
    | ⟨2, _⟩ => rfl
  rw [ex]
  exact (pay8_at _ _ _ _ (x 1) (x 2)).trans (congrArg (fun y => zCode y (x 2)) (row_at a b c d e g h (x 1)))

/-- A chunk's scales along lanes, from entries of its operands. -/
theorem lanes_of (a : Vec Ideal S1x128x768 .fp8e4m3) (b : Vec Ideal S768x768 .fp8e4m3) (c : Vec Ideal S1x1x128 .f32) (d e g h : Vec Ideal S1x768 .f32) (x : S1x128x128.Idx)
    {X : Fin 768 → EReal} {W : Fin 768 → Fin 768 → EReal} {s : EReal} {D E G H : Fin 768 → EReal}
    (ha : ∀ k, a (ix3 0 (x 1) k) = X k) (hb : ∀ k n, b (ix2 k n) = W k n) (hc : c (ix3 0 0 (x 1)) = s)
    (hd : ∀ n, d (ix2 0 n) = D n) (he : ∀ n, e (ix2 0 n) = E n) (hg : ∀ n, g (ix2 0 n) = G n) (hh : ∀ n, h (ix2 0 n) = H n) :
    k0_pay10 (k0_pay4 a b c d e) (k0_pay5 a b c d e) g h x = zScale (yRow X W s D E G H) := by
  obtain rfl : (fun k => a (ix3 0 (x 1) k)) = X := funext ha
  obtain rfl : (fun k n => b (ix2 k n)) = W := funext fun k => funext (hb k)
  subst hc
  obtain rfl : (fun n => d (ix2 0 n)) = D := funext hd
  obtain rfl : (fun n => e (ix2 0 n)) = E := funext he
  obtain rfl : (fun n => g (ix2 0 n)) = G := funext hg
  obtain rfl : (fun n => h (ix2 0 n)) = H := funext hh
  have ex : x = ix3 0 (x 1) (x 2) := by
    funext i
    match i with
    | ⟨0, _⟩ => exact Subsingleton.elim (α := Fin 1) _ _
    | ⟨1, _⟩ => rfl
    | ⟨2, _⟩ => rfl
  rw [ex]
  exact (pay10_at _ _ _ _ (x 1) (x 2)).trans (congrArg zScale (row_at a b c d e g h (x 1)))

/-- A chunk's scales as a row, from entries of its operands. -/
theorem scales_of (a : Vec Ideal S1x128x768 .fp8e4m3) (b : Vec Ideal S768x768 .fp8e4m3) (c : Vec Ideal S1x1x128 .f32) (d e g h : Vec Ideal S1x768 .f32) (x : S1x1x128.Idx)
    {X : Fin 768 → EReal} {W : Fin 768 → Fin 768 → EReal} {s : EReal} {D E G H : Fin 768 → EReal}
    (ha : ∀ k, a (ix3 0 (x 2) k) = X k) (hb : ∀ k n, b (ix2 k n) = W k n) (hc : c (ix3 0 0 (x 2)) = s)
    (hd : ∀ n, d (ix2 0 n) = D n) (he : ∀ n, e (ix2 0 n) = E n) (hg : ∀ n, g (ix2 0 n) = G n) (hh : ∀ n, h (ix2 0 n) = H n) :
    k0_pay12 (k0_pay11 (k0_pay4 a b c d e) (k0_pay5 a b c d e) g h) x = zScale (yRow X W s D E G H) := by
  obtain rfl : (fun k => a (ix3 0 (x 2) k)) = X := funext ha
  obtain rfl : (fun k n => b (ix2 k n)) = W := funext fun k => funext (hb k)
  subst hc
  obtain rfl : (fun n => d (ix2 0 n)) = D := funext hd
  obtain rfl : (fun n => e (ix2 0 n)) = E := funext he
  obtain rfl : (fun n => g (ix2 0 n)) = G := funext hg
  obtain rfl : (fun n => h (ix2 0 n)) = H := funext hh
  have ex : x = ix3 0 0 (x 2) := by
    funext i
    match i with
    | ⟨0, _⟩ => exact Subsingleton.elim (α := Fin 1) _ _
    | ⟨1, _⟩ => exact Subsingleton.elim (α := Fin 1) _ _
    | ⟨2, _⟩ => rfl
  rw [ex]
  exact (pay12_at _ _ _ _ (x 2)).trans (congrArg zScale (row_at a b c d e g h (x 2)))

/-! The other chunks' payloads are the same functions, cut up otherwise. -/

variable (a : Vec Ideal S1x128x768 .fp8e4m3) (b : Vec Ideal S768x768 .fp8e4m3) (c : Vec Ideal S1x1x128 .f32) (d e g h : Vec Ideal S1x768 .f32)

theorem codes_1 : k0_pay17 (k0_pay13 a b c d e) (k0_pay14 a b c d e) g h = k0_pay8 (k0_pay4 a b c d e) (k0_pay5 a b c d e) g h := rfl
theorem codes_2 : k0_pay25 (k0_pay21 a b c d e) (k0_pay22 a b c d e) g h = k0_pay8 (k0_pay4 a b c d e) (k0_pay5 a b c d e) g h := rfl
theorem codes_3 : k0_pay33 (k0_pay29 a b c d e) (k0_pay30 a b c d e) g h = k0_pay8 (k0_pay4 a b c d e) (k0_pay5 a b c d e) g h := rfl
theorem lanes_1 : k0_pay19 (k0_pay13 a b c d e) (k0_pay14 a b c d e) g h = k0_pay10 (k0_pay4 a b c d e) (k0_pay5 a b c d e) g h := rfl
theorem lanes_2 : k0_pay27 (k0_pay26 (k0_pay21 a b c d e) (k0_pay22 a b c d e) g h) = k0_pay10 (k0_pay4 a b c d e) (k0_pay5 a b c d e) g h := rfl
theorem scales_1 : k0_pay20 (k0_pay18 (k0_pay13 a b c d e) (k0_pay14 a b c d e) g h) = k0_pay12 (k0_pay11 (k0_pay4 a b c d e) (k0_pay5 a b c d e) g h) := rfl
theorem scales_2 : k0_pay28 (k0_pay26 (k0_pay21 a b c d e) (k0_pay22 a b c d e) g h) = k0_pay12 (k0_pay11 (k0_pay4 a b c d e) (k0_pay5 a b c d e) g h) := rfl

/-- The last chunk's scales leave out a cast between equal shapes. -/
theorem last_eq : k0_pay1 (k0_pay34 (k0_pay29 a b c d e) (k0_pay30 a b c d e) g h) = k0_pay9 (k0_pay4 a b c d e) (k0_pay5 a b c d e) g h := rfl
theorem lanes_3 : k0_pay2 (k0_pay34 (k0_pay29 a b c d e) (k0_pay30 a b c d e) g h) = k0_pay10 (k0_pay4 a b c d e) (k0_pay5 a b c d e) g h := by
  unfold k0_pay2 k0_pay10
  rw [last_eq]
theorem scales_3 : k0_pay3 (k0_pay34 (k0_pay29 a b c d e) (k0_pay30 a b c d e) g h) = k0_pay12 (k0_pay11 (k0_pay4 a b c d e) (k0_pay5 a b c d e) g h) := by
  unfold k0_pay3 k0_pay12 k0_pay11
  rw [last_eq]

end Cert.KVal
-- ==== Proof.Value.Transform.lean ====
/- What the kernel's transform leaves in its windows' buffers: the formulas of Spec.lean, chunk by chunk. -/
module

public import proofs.«01_k».proof.Proof.Value.Chunk
public import proofs.«01_k».proof.Proof.KernelIdeal.Region0
public import Idealize.ShloMosaic.Lib.Pipeline.ValueKit
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

variable (x0 : Vec Ideal S1x512x768 .fp8e4m3) (x1 : Vec Ideal S1x1x512 .f32) (x2 : Vec Ideal S768x768 .fp8e4m3) (x3 x4 x5 x6 : Vec Ideal S1x768 .f32)

/-- A whole row read through its rectangle. -/
theorem ld_row (X : Vec Ideal S1x768 .f32) (n : Fin 768) : View.ld X r0_3 (ix2 0 n) = X (ix2 0 n) :=
  View.ld_unit_apply_of X _ _ _ _ _ (fun a => by
    match a with
    | ⟨0, _⟩ => rfl
    | ⟨1, _⟩ => exact (Nat.zero_add _).symm)

/-- The weights read through their rectangle. -/
theorem ld_weights (X : Vec Ideal S768x768 .fp8e4m3) (k n : Fin 768) : View.ld X r0_1 (ix2 k n) = X (ix2 k n) :=
  View.ld_unit_apply_of X _ _ _ _ _ (fun a => by
    match a with
    | ⟨0, _⟩ => exact (Nat.zero_add _).symm
    | ⟨1, _⟩ => exact (Nat.zero_add _).symm)

/-- The codes. -/
theorem out0_7_at (y : S1x512x768.Idx) : out0_7 x0 x1 x2 x3 x4 x5 x6 y
    = zCode (yRow (fun k => x0 (ix3 0 (y 1) k)) (fun k n => x2 (ix2 k n)) (x1 (ix3 0 0 (y 1))) (fun n => x3 (ix2 0 n)) (fun n => x4 (ix2 0 n)) (fun n => x5 (ix2 0 n)) (fun n => x6 (ix2 0 n))) (y 2) := by
  unfold out0_7 k0_pay42 k0_pay43 k0_pay39 k0_pay40 k0_pay37 k0_pay38 k0_pay35 k0_pay36
  rw [codes_1, codes_2, codes_3]
  canon_tiles x h
  all_goals
    refine codes_of _ _ _ _ _ _ _ x h2.symm (fun k => ?_) (ld_weights x2) ?_ (ld_row x3) (ld_row x4) (ld_row x5) (ld_row x6)
    · refine View.ld_unit_apply_of _ _ _ _ _ _ fun a => ?_
      match a with
      | ⟨0, _⟩ => rfl
      | ⟨1, _⟩ => exact h1.trans (by first | rfl | exact (Nat.zero_add _).symm)
      | ⟨2, _⟩ => exact (Nat.zero_add _).symm
    · refine View.ld_unit_apply_of _ _ _ _ _ _ fun a => ?_
      match a with
      | ⟨0, _⟩ => rfl
      | ⟨1, _⟩ => rfl
      | ⟨2, _⟩ => exact h1.trans (by first | rfl | exact (Nat.zero_add _).symm)

/-- The scales. -/
theorem out0_8_at (y : S1x1x512.Idx) : out0_8 x0 x1 x2 x3 x4 x5 x6 y
    = zScale (yRow (fun k => x0 (ix3 0 (y 2) k)) (fun k n => x2 (ix2 k n)) (x1 (ix3 0 0 (y 2))) (fun n => x3 (ix2 0 n)) (fun n => x4 (ix2 0 n)) (fun n => x5 (ix2 0 n)) (fun n => x6 (ix2 0 n))) := by
  unfold out0_8 k0_pay44 k0_pay41 k0_pay42 k0_pay43 k0_pay39 k0_pay40 k0_pay37 k0_pay38 k0_pay35 k0_pay36
  rw [scales_1, scales_2, scales_3]
  canon_tiles x h
  all_goals
    refine scales_of _ _ _ _ _ _ _ x (fun k => ?_) (ld_weights x2) ?_ (ld_row x3) (ld_row x4) (ld_row x5) (ld_row x6)
    · refine View.ld_unit_apply_of _ _ _ _ _ _ fun a => ?_
      match a with
      | ⟨0, _⟩ => rfl
      | ⟨1, _⟩ => exact h2.trans (by first | rfl | exact (Nat.zero_add _).symm)
      | ⟨2, _⟩ => exact (Nat.zero_add _).symm
    · refine View.ld_unit_apply_of _ _ _ _ _ _ fun a => ?_
      match a with
      | ⟨0, _⟩ => rfl
      | ⟨1, _⟩ => rfl
      | ⟨2, _⟩ => exact h2.trans (by first | rfl | exact (Nat.zero_add _).symm)

/-- The scales along lanes. -/
theorem out0_9_at (y : S1x512x128.Idx) : out0_9 x0 x1 x2 x3 x4 x5 x6 y
    = zScale (yRow (fun k => x0 (ix3 0 (y 1) k)) (fun k n => x2 (ix2 k n)) (x1 (ix3 0 0 (y 1))) (fun n => x3 (ix2 0 n)) (fun n => x4 (ix2 0 n)) (fun n => x5 (ix2 0 n)) (fun n => x6 (ix2 0 n))) := by
  unfold out0_9 k0_pay44 k0_pay41 k0_pay42 k0_pay43 k0_pay39 k0_pay40 k0_pay37 k0_pay38 k0_pay35 k0_pay36
  rw [lanes_1, lanes_2, lanes_3]
  canon_tiles x h
  all_goals
    refine lanes_of _ _ _ _ _ _ _ x (fun k => ?_) (ld_weights x2) ?_ (ld_row x3) (ld_row x4) (ld_row x5) (ld_row x6)
    · refine View.ld_unit_apply_of _ _ _ _ _ _ fun a => ?_
      match a with
      | ⟨0, _⟩ => rfl
      | ⟨1, _⟩ => exact h1.trans (by first | rfl | exact (Nat.zero_add _).symm)
      | ⟨2, _⟩ => exact (Nat.zero_add _).symm
    · refine View.ld_unit_apply_of _ _ _ _ _ _ fun a => ?_
      match a with
      | ⟨0, _⟩ => rfl
      | ⟨1, _⟩ => rfl
      | ⟨2, _⟩ => exact h1.trans (by first | rfl | exact (Nat.zero_add _).symm)

end Cert.KVal
-- ==== Proof.Value.Arrays0.lean ====
/- The arrays the transform leaves: the codes and scales of the tokens, document by document. -/
module

public import proofs.«01_k».proof.Proof.Value.Transform
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1
variable (V : (c : Dev nD) → (b : Ref sig .tc) → Buf (Elt Ideal) ((c : Thread nD τ).loc b))

/-- Token `t` of document `d`: its row before the quantisation. -/
def tokRow (c : Dev nD) (d : Fin 32) (t : Fin 512) : Fin 768 → EReal :=
  yRow (fun k => V c main_arg0 (ix3 d t k)) (fun k n => V c main_arg3 (ix2 k n)) (V c main_v0 (ix3 d 0 t)) (fun n => V c main_v1 (ix2 0 n))
    (fun n => V c main_v2 (ix2 0 n)) (fun n => V c main_v3 (ix2 0 n)) (fun n => V c main_v4 (ix2 0 n))

/-- Which block each window works on at each point. -/
theorem idx0 : ∀ t : Fin cfg0.N, ((cfg0.win 0).index t = ![t.val, 0, 0] ∧ (cfg0.win 1).index t = ![t.val, 0, 0] ∧ (cfg0.win 2).index t = ![0, 0] ∧ (cfg0.win 3).index t = ![0, 0] ∧ (cfg0.win 4).index t = ![0, 0] ∧ (cfg0.win 5).index t = ![0, 0] ∧ (cfg0.win 6).index t = ![0, 0] ∧ (cfg0.win 7).index t = ![t.val, 0, 0]
   ∧ (cfg0.win 8).index t = ![t.val, 0, 0] ∧ (cfg0.win 9).index t = ![t.val, 0, 0]) := by decide +kernel

/-- The codes. -/
theorem zc_arr (c : Dev nD) : (dat0 V c).arrAt 7 cfg0.N = fun i : S32x512x768.Idx => zCode (tokRow V c (i 0) (i 1)) (i 2) := by
  refine (dat0 V c).arrAt_eq_of_covers 7 _ (by decide +kernel) fun t hf y => ?_
  blk_simp
  rw [after0_7, out0_7_at]
  refine congr (congrArg zCode ?_) ?_
  · unfold tokRow
    blk_point [iblk0, idx0 t]
  · refine Fin.ext ?_
    blk_simp [idx0 t]
    first | done | omega

/-- The scales, tokens along the lanes. -/
theorem zs_arr (c : Dev nD) : (dat0 V c).arrAt 8 cfg0.N = fun i : S32x1x512.Idx => zScale (tokRow V c (i 0) (i 2)) := by
  refine (dat0 V c).arrAt_eq_of_covers 8 _ (by decide +kernel) fun t hf y => ?_
  blk_simp
  rw [after0_8, out0_8_at]
  unfold tokRow
  blk_point [iblk0, idx0 t]

/-- The scales, repeated along the lanes. -/
theorem zt_arr (c : Dev nD) : (dat0 V c).arrAt 9 cfg0.N = fun i : S32x512x128.Idx => zScale (tokRow V c (i 0) (i 1)) := by
  refine (dat0 V c).arrAt_eq_of_covers 9 _ (by decide +kernel) fun t hf y => ?_
  blk_simp
  rw [after0_9, out0_9_at]
  unfold tokRow
  blk_point [iblk0, idx0 t]
end Cert.KVal
-- ==== Proof.Value.SpecStats.lean ====
/- The statistics of the scores and their eight-bit codes, as formulas over a row or a column of scores. -/
module

public import proofs.«01_k».proof.Proof.Value.Spec
public import Idealize.ShloMosaic.Lib.Pointwise

@[expose] public section

set_option maxRecDepth 16384

noncomputable section

open Idealize.ShloMosaic Idealize.ShloMosaic.TcCoe Idealize.SL.Sem
namespace Cert.Val

/-- The sum of a document's scores. -/
def l1Of (r : Fin 50368 → EReal) : EReal := ∑ v, r v

/-- The mean of a word's scores over the documents. -/
def meanOf (q : Fin 32 → EReal) : EReal := Ideal.div (∑ d, q d) (Ideal.ofBits .f32 0x42000000#32)

/-- The sum of the squared means. -/
def flopsOf (m : Fin 50368 → EReal) : EReal := ∑ v, m v * m v

/-- The scale of a document's codes. -/
def impScale (r : Fin 50368 → EReal) : EReal := scaleOf (Finset.univ.sup r) (Ideal.ofBits .f32 0x437F0000#32)

/-- A document's codes. -/
def impCode (r : Fin 50368 → EReal) (v : Fin 50368) : BitVec 8 :=
  Ideal.fptoui 8 (min (Ideal.ofBits .f32 0x437F0000#32) (max 0 (Ideal.liftRound Ideal.roundHalfEven (Ideal.div (r v) (impScale r)))))

/-- A clipped value's code, converted through a wide integer. -/
theorem code_eq (x : EReal) :
    BitVec.setWidth 8 (Ideal.fptosi 32 (min (Ideal.ofBits .f32 0x437F0000#32) (max 0 x))) = Ideal.fptoui 8 (min (Ideal.ofBits .f32 0x437F0000#32) (max 0 x)) := by
  have h255 : Ideal.ofBits .f32 0x437F0000#32 = ((255 : ℝ) : EReal) := by
    simp [Ideal.ofBits, Ideal.ieee]
    rw [← EReal.coe_mul]; norm_num
  rw [h255]
  obtain ⟨r, hr, h0, h1⟩ : ∃ r : ℝ, min ((255 : ℝ) : EReal) (max 0 x) = (r : EReal) ∧ 0 ≤ r ∧ r ≤ 255 := by
    have h0 : (0 : EReal) ≤ min ((255 : ℝ) : EReal) (max 0 x) := le_min (by exact_mod_cast (by norm_num : (0 : ℝ) ≤ 255)) (le_max_left _ _)
    have h1 : min ((255 : ℝ) : EReal) (max 0 x) ≤ ((255 : ℝ) : EReal) := min_le_left _ _
    generalize min ((255 : ℝ) : EReal) (max 0 x) = u at h0 h1
    induction u with
    | bot => exact absurd h0 (by simp)
    | top => exact absurd h1 (by simp)
    | coe r => exact ⟨r, rfl, by exact_mod_cast h0, by exact_mod_cast h1⟩
  rw [hr, Ideal.fptosi, Ideal.fptoui, Ideal.toIntClamped_coe, Ideal.toIntClamped_coe, if_pos h0]
  have hf0 : 0 ≤ ⌊r⌋ := Int.floor_nonneg.mpr h0
  have hf1 : ⌊r⌋ ≤ 255 := by
    have : (⌊r⌋ : ℝ) ≤ 255 := (Int.floor_le r).trans h1
    exact_mod_cast this
  generalize ⌊r⌋ = n at hf0 hf1
  have e1 : max (-((2 ^ (32 - 1) : Nat) : Int)) (min (((2 ^ (32 - 1) : Nat) : Int) - 1) n) = n := by norm_num; omega
  have e2 : max 0 (min (((2 ^ 8 : Nat) : Int) - 1) n) = n := by norm_num; omega
  rw [e1, e2]
  interval_cases n <;> rfl

end Cert.Val
-- ==== Proof.Value.StatsK.lean ====
/- The kernel's statistics at an index. -/
module

public import proofs.«01_k».proof.Proof.Gen.KernelIdeal.Skeleton
public import proofs.«01_k».proof.Proof.Value.Spec
public import proofs.«01_k».proof.Proof.Value.Maxes
public import proofs.«01_k».proof.Proof.Value.SpecStats

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

variable (X : Vec Ideal S32x50368 .f32)

/-- The sums. -/
theorem l1K (d : Fin 32) : k2_pay2 X (ix2 d 0) = l1Of fun v => X (ix2 d v) := by
  unfold l1Of
  pointwise [k2_pay2, k2_pay1]

/-- The means. -/
theorem meanK (v : Fin 50368) : k2_pay3 X (ix2 0 v) = meanOf fun d => X (ix2 d v) := by
  unfold meanOf
  pointwise [k2_pay3, k2_pay1]

/-- Their squares summed. -/
theorem flopsK : k2_pay4 X (ix2 0 0) = flopsOf fun v => meanOf fun d => X (ix2 d v) := by
  unfold flopsOf meanOf
  pointwise [k2_pay4, k2_pay3, k2_pay1]

/-- A scale from a largest score. -/
theorem scaleK (M : FVec Ideal S32x1 .f32) (d : Fin 32) : select (cmpf .oeq M (broadcast S32x1 (Scalar.ofBits .f32 0x00000000#32)))
    (broadcast S32x1 (Scalar.ofBits .f32 0x3F800000#32)) (divf M (broadcast S32x1 (Scalar.ofBits .f32 0x437F0000#32))) (ix2 d 0)
    = scaleOf (M (ix2 d 0)) (Ideal.ofBits .f32 0x437F0000#32) := by
  pointwise []
  rfl

/-- The largest score of a document. -/
theorem topK (d : Fin 32) : shapeCast S32x1 (multiReduction .maximumf [1] S32 (k2_pay1 X) 0xFF800000#32 reduces_S32x50368_S32 (.inl rfl) rfl) shapeCasts_S32_S32x1 (ix2 d 0)
    = Finset.univ.sup fun v => (X (ix2 d v) : EReal) := by
  have h : k2_pay1 X = X := by
    funext y
    pointwise [k2_pay1]
  rw [h]
  refine Eq.trans ?_ (max_r2_a1 X reduces_S32x50368_S32 (.inl rfl) rfl d)
  pointwise []

/-- The codes' scales. -/
theorem impScaleK (d : Fin 32) : k2_pay5 X (ix2 d 0) = impScale fun v => X (ix2 d v) := by
  unfold k2_pay5
  exact (scaleK _ d).trans (congrArg (fun z => scaleOf z (Ideal.ofBits .f32 0x437F0000#32)) (topK X d))

/-- A code from a score and a scale. -/
theorem codeK (s : FVec Ideal S32x1 .f32) (d : Fin 32) (v : Fin 50368) :
    trunci 8 (fptosi 32 (minimumf (broadcast S32x50368 (Scalar.ofBits .f32 0x437F0000#32)) (maximumf (broadcast S32x50368 (Scalar.sitofp .f32 0#32))
      (roundeven (divf (k2_pay1 X) (broadcastTo S32x50368 s broadcasts_S32x1_S32x50368)))))) natLt_8_32 (ix2 d v)
    = BitVec.setWidth 8 (Ideal.fptosi 32 (min (Ideal.ofBits .f32 0x437F0000#32) (max (((0#32).toInt : ℝ) : EReal)
      (Ideal.liftRound Ideal.roundHalfEven (Ideal.div (X (ix2 d v)) (s (ix2 d 0))))))) := by
  pointwise [k2_pay1]
  try rfl

/-- The codes. -/
theorem impCodeK (d : Fin 32) (v : Fin 50368) : k2_pay6 X (ix2 d v) = impCode (fun v => X (ix2 d v)) v := by
  unfold k2_pay6
  refine (codeK X _ d v).trans ?_
  rw [impScaleK, show (((0#32).toInt : ℝ) : EReal) = 0 by simp]
  exact code_eq _

end Cert.KVal
-- ==== Proof.Value.Arrays2.lean ====
/- The arrays of the statistics, over the scores. -/
module

public import proofs.«01_k».proof.Proof.KernelIdeal.Region2
public import proofs.«01_k».proof.Proof.Value.StatsK
public import Idealize.ShloMosaic.Lib.Pipeline.ValueKit
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

variable (V : (c : Dev nD) → (b : Ref sig .tc) → Buf (Elt Ideal) ((c : Thread nD τ).loc b))

/-- The scores are fetched whole. -/
theorem iblk2_0 (c : Dev nD) : iblk2 V c 0 t2_0 = V c main_v7 := by
  funext y
  refine congrArg (V c main_v7) (funext fun b => Fin.ext ?_)
  exact (cfg2.win 0).rect_emb_val_of_index_zero t2_0 b ((by decide +kernel : ∀ b, (cfg2.win 0).index t2_0 b = 0) b) y

/-- A load of all of them. -/
theorem ld2_0 (x : Vec Ideal S32x50368 .f32) : View.ld x r2_0 = x := View.ld_unit_lit _ x (by decide)

/-- Result 1 of the call is one payload of the scores. -/
theorem buf2_1 (c : Dev nD) : (dat2 V c).arrAt 1 cfg2.N = k2_pay2 (V c main_v7) := by
  refine (dat2 V c).arrAt_eq_of_after_last 1 t2_0 (by decide +kernel) _ fun j => ?_
  rw [after2_1, iblk2_0]
  have h : out2_1 (V c main_v7) = k2_pay2 (V c main_v7) := (View.canon_cons_unit_lit _ _ _ (by decide)).trans (congrArg k2_pay2 (ld2_0 _))
  rw [h]
  blk_simp

/-- The sums. -/
theorem arr2_1 (c : Dev nD) : (dat2 V c).arrAt 1 cfg2.N = fun y : S32x1.Idx => l1Of fun v => V c main_v7 (ix2 (y 0) v) := by
  rw [buf2_1]
  funext y
  refine (congrArg (k2_pay2 (F := Ideal) (V c main_v7)) (show y = ix2 (y 0) 0 from (eq_ix2 y).trans (congrArg (ix2 (y 0)) (Fin.eq_zero (y 1 : Fin 1))))).trans ?_
  exact l1K _ _

/-- Result 2 of the call is one payload of the scores. -/
theorem buf2_2 (c : Dev nD) : (dat2 V c).arrAt 2 cfg2.N = k2_pay3 (V c main_v7) := by
  refine (dat2 V c).arrAt_eq_of_after_last 2 t2_0 (by decide +kernel) _ fun j => ?_
  rw [after2_2, iblk2_0]
  have h : out2_2 (V c main_v7) = k2_pay3 (V c main_v7) := (View.canon_cons_unit_lit _ _ _ (by decide)).trans (congrArg k2_pay3 (ld2_0 _))
  rw [h]
  blk_simp

/-- The means. -/
theorem arr2_2 (c : Dev nD) : (dat2 V c).arrAt 2 cfg2.N = fun y : S1x50368.Idx => meanOf fun d => V c main_v7 (ix2 d (y 1)) := by
  rw [buf2_2]
  funext y
  refine (congrArg (k2_pay3 (F := Ideal) (V c main_v7)) (show y = ix2 0 (y 1) from (eq_ix2 y).trans (congrArg (fun a => ix2 a (y 1)) (Fin.eq_zero (y 0 : Fin 1))))).trans ?_
  exact meanK _ _

/-- Result 3 of the call is one payload of the scores. -/
theorem buf2_3 (c : Dev nD) : (dat2 V c).arrAt 3 cfg2.N = k2_pay4 (V c main_v7) := by
  refine (dat2 V c).arrAt_eq_of_after_last 3 t2_0 (by decide +kernel) _ fun j => ?_
  rw [after2_3, iblk2_0]
  have h : out2_3 (V c main_v7) = k2_pay4 (V c main_v7) := (View.canon_cons_unit_lit _ _ _ (by decide)).trans (congrArg k2_pay4 (ld2_0 _))
  rw [h]
  blk_simp

/-- The sum of their squares. -/
theorem arr2_3 (c : Dev nD) : (dat2 V c).arrAt 3 cfg2.N = fun y : S1x1.Idx => flopsOf fun v => meanOf fun d => V c main_v7 (ix2 d v) := by
  rw [buf2_3]
  funext y
  refine (congrArg (k2_pay4 (F := Ideal) (V c main_v7)) (show y = ix2 0 0 from (eq_ix2 y).trans (congr (congrArg ix2 (Fin.eq_zero (y 0 : Fin 1))) (Fin.eq_zero (y 1 : Fin 1))))).trans ?_
  exact flopsK _

/-- Result 4 of the call is one payload of the scores. -/
theorem buf2_4 (c : Dev nD) : (dat2 V c).arrAt 4 cfg2.N = k2_pay6 (V c main_v7) := by
  refine (dat2 V c).arrAt_eq_of_after_last 4 t2_0 (by decide +kernel) _ fun j => ?_
  rw [after2_4, iblk2_0]
  have h : out2_4 (V c main_v7) = k2_pay6 (V c main_v7) := (View.canon_cons_unit_lit _ _ _ (by decide)).trans (congrArg k2_pay6 (ld2_0 _))
  rw [h]
  blk_simp

/-- The codes. -/
theorem arr2_4 (c : Dev nD) : (dat2 V c).arrAt 4 cfg2.N = fun y : S32x50368.Idx => impCode (fun v => V c main_v7 (ix2 (y 0) v)) (y 1) := by
  rw [buf2_4]
  funext y
  refine (congrArg (k2_pay6 (F := Ideal) (V c main_v7)) (show y = ix2 (y 0) (y 1) from eq_ix2 y)).trans ?_
  exact impCodeK _ _ _

/-- Result 5 of the call is one payload of the scores. -/
theorem buf2_5 (c : Dev nD) : (dat2 V c).arrAt 5 cfg2.N = k2_pay5 (V c main_v7) := by
  refine (dat2 V c).arrAt_eq_of_after_last 5 t2_0 (by decide +kernel) _ fun j => ?_
  rw [after2_5, iblk2_0]
  have h : out2_5 (V c main_v7) = k2_pay5 (V c main_v7) := (View.canon_cons_unit_lit _ _ _ (by decide)).trans (congrArg k2_pay5 (ld2_0 _))
  rw [h]
  blk_simp

/-- Their scales. -/
theorem arr2_5 (c : Dev nD) : (dat2 V c).arrAt 5 cfg2.N = fun y : S32x1.Idx => impScale fun v => V c main_v7 (ix2 (y 0) v) := by
  rw [buf2_5]
  funext y
  refine (congrArg (k2_pay5 (F := Ideal) (V c main_v7)) (show y = ix2 (y 0) 0 from (eq_ix2 y).trans (congrArg (ix2 (y 0)) (Fin.eq_zero (y 1 : Fin 1))))).trans ?_
  exact impScaleK _ _

end Cert.KVal
-- ==== Proof.Value.SpecRep.lean ====
/- The vocabulary logits and their masked maximum in plain formulas over extended reals; what kernel and reference are both
   shown to compute. -/
module

public import Idealize.ShloMosaic.Lib.Pointwise

@[expose] public section

set_option maxRecDepth 16384

noncomputable section

open Idealize.ShloMosaic Idealize.ShloMosaic.TcCoe Idealize.SL.Sem
namespace Cert.Val

/-- The signed value of a byte's low half, -/
def nibLo (x : BitVec 8) : EReal :=
  FloatOps.sitofp (F := Ideal) .bf16 (IntOp.subi (IntOp.xori (BitVec.setWidth 8 (IntOp.andi (BitVec.setWidth 32 x) 15#32)) 8#8) 8#8)
/-- and of its high half. -/
def nibHi (x : BitVec 8) : EReal :=
  FloatOps.sitofp (F := Ideal) .bf16 (IntOp.subi (IntOp.xori (BitVec.setWidth 8 (IntOp.shrsi .vector (BitVec.setWidth 32 x) 4#32)) 8#8) 8#8)

/-- A token's codes against a packed row with its group scales. -/
def dotp (z : Fin 768 → EReal) (e : Fin 384 → BitVec 8) (s : Fin 6 → EReal) : EReal :=
  (∑ p : Fin 384, z ⟨p.val * 2, by omega⟩ * (nibLo (e p) * s ⟨p.val / 64, by omega⟩))
    + ∑ p : Fin 384, z ⟨p.val * 2 + 1, by omega⟩ * (nibHi (e p) * s ⟨p.val / 64, by omega⟩)

/-- Whether token `t` is one of a document of `n`. -/
def live (n : BitVec 32) (t : Fin 512) : BitVec 1 := IntOp.cmpi .slt (BitVec.ofNat 32 t.val) n

/-- The largest of a document's logits. -/
def top (z : Fin 512 → Fin 768 → EReal) (zs : Fin 512 → EReal) (n : BitVec 32) (e : Fin 384 → BitVec 8) (s : Fin 6 → EReal) : EReal :=
  Finset.univ.sup fun t : Fin 512 => if live n t = 1 then dotp (z t) e s * zs t else ⊥

/-- The head's output at one document and one vocabulary row. -/
def repOf (z : Fin 512 → Fin 768 → EReal) (zs : Fin 512 → EReal) (n : BitVec 32) (e : Fin 384 → BitVec 8) (s : Fin 6 → EReal) (b : EReal) : EReal :=
  Ideal.log1p (max (top z zs n e s + b) 0)

/-- Adding under a maximum is adding to the maximum: nothing is lost to `⊥`, which absorbs. -/
theorem sup_add {ι : Type} (f : ι → EReal) (t : Finset ι) (b : EReal) : (t.sup fun i => f i + b) = t.sup f + b := by
  refine (Finset.comp_sup_eq_sup_comp_of_is_total (fun x : EReal => x + b) (fun x y h => add_le_add_left h b) ?_).symm
  exact EReal.bot_add b

/-- The bias may be added before the mask. -/
theorem top_add (z : Fin 512 → Fin 768 → EReal) (zs : Fin 512 → EReal) (n : BitVec 32) (e : Fin 384 → BitVec 8) (s : Fin 6 → EReal) (b : EReal) :
    (Finset.univ.sup fun t : Fin 512 => if live n t = 1 then dotp (z t) e s * zs t + b else ⊥) = top z zs n e s + b := by
  unfold top
  rw [← sup_add]
  refine congrArg (Finset.univ.sup) (funext fun t => ?_)
  by_cases h : live n t = 1
  · rw [if_pos h, if_pos h]
  · rw [if_neg h, if_neg h, EReal.bot_add]

end Cert.Val
-- ==== Proof.Value.Nibbles.lean ====
/- The kernel's way to decode four-bit codes: a bfloat16 whose last four bits are the code with its sign bit flipped, less 136. -/
module

public import proofs.«01_k».proof.Proof.Value.SpecRep

@[expose] public section

set_option maxRecDepth 16384

noncomputable section

open Idealize.ShloMosaic Idealize.ShloMosaic.TcCoe Idealize.SL.Sem
namespace Cert.Val

/-- Both codes of a word's last byte, spread over its two halves as bfloat16 patterns. -/
def spread (u : BitVec 32) : BitVec 32 :=
  IntOp.xori (IntOp.ori (IntOp.andi u 15#32) (IntOp.shli .vector (IntOp.andi u 240#32) 12#32)) 1124614920#32

/-- Four bytes in one word. -/
def word (a b c d : BitVec 8) : BitVec 32 :=
  IntOp.ori (IntOp.ori (IntOp.ori (BitVec.setWidth 32 a) (IntOp.shli .vector (BitVec.setWidth 32 b) 8#32))
    (IntOp.shli .vector (BitVec.setWidth 32 c) 16#32)) (IntOp.shli .vector (BitVec.setWidth 32 d) 24#32)

theorem and_byte (u : BitVec 32) : u &&& 15#32 = BitVec.setWidth 32 (BitVec.setWidth 8 u) &&& 15#32 := by
  apply BitVec.eq_of_getLsbD_eq
  intro i hi
  interval_cases i <;> simp
theorem and_byte' (u : BitVec 32) : u &&& 240#32 = BitVec.setWidth 32 (BitVec.setWidth 8 u) &&& 240#32 := by
  apply BitVec.eq_of_getLsbD_eq
  intro i hi
  interval_cases i <;> simp

/-- Only the last byte counts. -/
theorem spread_byte (u : BitVec 32) : spread u = spread (BitVec.setWidth 32 (BitVec.setWidth 8 u)) := by
  unfold spread
  show IntOp.xori (IntOp.ori (u &&& 15#32) (IntOp.shli .vector (u &&& 240#32) 12#32)) 1124614920#32 = _
  rw [and_byte u, and_byte' u]
  rfl

theorem byte0 (a b c d : BitVec 8) : BitVec.setWidth 8 (IntOp.shrui .vector (word a b c d) 0#32) = a := by
  show BitVec.setWidth 8 ((((BitVec.setWidth 32 a ||| BitVec.setWidth 32 b <<< 8) ||| BitVec.setWidth 32 c <<< 16) ||| BitVec.setWidth 32 d <<< 24) >>> 0) = a
  apply BitVec.eq_of_getLsbD_eq
  intro i hi
  interval_cases i <;> simp
theorem byte1 (a b c d : BitVec 8) : BitVec.setWidth 8 (IntOp.shrui .vector (word a b c d) 8#32) = b := by
  show BitVec.setWidth 8 ((((BitVec.setWidth 32 a ||| BitVec.setWidth 32 b <<< 8) ||| BitVec.setWidth 32 c <<< 16) ||| BitVec.setWidth 32 d <<< 24) >>> 8) = b
  apply BitVec.eq_of_getLsbD_eq
  intro i hi
  interval_cases i <;> simp
theorem byte2 (a b c d : BitVec 8) : BitVec.setWidth 8 (IntOp.shrui .vector (word a b c d) 16#32) = c := by
  show BitVec.setWidth 8 ((((BitVec.setWidth 32 a ||| BitVec.setWidth 32 b <<< 8) ||| BitVec.setWidth 32 c <<< 16) ||| BitVec.setWidth 32 d <<< 24) >>> 16) = c
  apply BitVec.eq_of_getLsbD_eq
  intro i hi
  interval_cases i <;> simp
theorem byte3 (a b c d : BitVec 8) : BitVec.setWidth 8 (IntOp.shrui .vector (word a b c d) 24#32) = d := by
  show BitVec.setWidth 8 ((((BitVec.setWidth 32 a ||| BitVec.setWidth 32 b <<< 8) ||| BitVec.setWidth 32 c <<< 16) ||| BitVec.setWidth 32 d <<< 24) >>> 24) = d
  apply BitVec.eq_of_getLsbD_eq
  intro i hi
  interval_cases i <;> simp

/-- The bfloat16 at `0x4300 + y` is `128 + y`. -/
theorem pattern (y : Fin 16) : Ideal.ofBits .bf16 (17152#16 + BitVec.ofNat 16 y.val) = (((128 + y.val : ℕ) : ℝ) : EReal) := by
  show Ideal.ieee 8 7 _ = _
  have h1 : ((17152#16 + BitVec.ofNat 16 y.val).extractLsb' (8 + 7) 1 == 1#1) = false := by revert y; decide
  have h2 : ((17152#16 + BitVec.ofNat 16 y.val).extractLsb' 7 8).toNat = 134 := by revert y; decide
  have h3 : ((17152#16 + BitVec.ofNat 16 y.val).extractLsb' 0 7).toNat = y.val := by revert y; decide
  unfold Ideal.ieee
  simp only [h1, h2, h3]
  norm_num

/-- A pattern less 136. -/
theorem pattern_sub (y : Fin 16) :
    Ideal.ofBits .bf16 (17152#16 + BitVec.ofNat 16 y.val) - Ideal.ofBits .bf16 17160#16 = ((((y.val : ℤ) - 8 : ℤ) : ℝ) : EReal) := by
  have h := pattern 8
  rw [show (17152#16 + BitVec.ofNat 16 (8 : Fin 16).val) = 17160#16 from by decide] at h
  rw [pattern y, h, ← EReal.coe_sub]
  refine congrArg _ ?_
  push_cast
  norm_num
  ring

/-- A word's low half decodes to its byte's low code, -/
theorem spread_lo (x : BitVec 8) :
    Ideal.ofBits .bf16 ((spread (BitVec.setWidth 32 x)).extractLsb' 0 16) - Ideal.ofBits .bf16 17160#16 = nibLo x := by
  have h : ∀ x : BitVec 8, ∃ y : Fin 16, (spread (BitVec.setWidth 32 x)).extractLsb' 0 16 = 17152#16 + BitVec.ofNat 16 y.val
      ∧ (IntOp.subi (IntOp.xori (BitVec.setWidth 8 (IntOp.andi (BitVec.setWidth 32 x) 15#32)) 8#8) 8#8).toInt = (y.val : ℤ) - 8 := by
    decide +kernel
  obtain ⟨y, h1, h2⟩ := h x
  rw [h1, pattern_sub]
  show _ = (((IntOp.subi (IntOp.xori (BitVec.setWidth 8 (IntOp.andi (BitVec.setWidth 32 x) 15#32)) 8#8) 8#8).toInt : ℝ) : EReal)
  rw [h2]
/-- and its high half to the high code. -/
theorem spread_hi (x : BitVec 8) :
    Ideal.ofBits .bf16 ((spread (BitVec.setWidth 32 x)).extractLsb' 16 16) - Ideal.ofBits .bf16 17160#16 = nibHi x := by
  have h : ∀ x : BitVec 8, ∃ y : Fin 16, (spread (BitVec.setWidth 32 x)).extractLsb' 16 16 = 17152#16 + BitVec.ofNat 16 y.val
      ∧ (IntOp.subi (IntOp.xori (BitVec.setWidth 8 (IntOp.shrsi .vector (BitVec.setWidth 32 x) 4#32)) 8#8) 8#8).toInt = (y.val : ℤ) - 8 := by
    decide +kernel
  obtain ⟨y, h1, h2⟩ := h x
  rw [h1, pattern_sub]
  show _ = (((IntOp.subi (IntOp.xori (BitVec.setWidth 8 (IntOp.shrsi .vector (BitVec.setWidth 32 x) 4#32)) 8#8) 8#8).toInt : ℝ) : EReal)
  rw [h2]

/-- The code of parity `q` in a byte. -/
def nib (q : ℕ) (x : BitVec 8) : EReal := if q = 0 then nibLo x else nibHi x

/-- Either half of a word. -/
theorem spread_half (u : BitVec 32) (x : BitVec 8) (hx : BitVec.setWidth 8 u = x) (q : ℕ) (hq : q < 2) :
    Ideal.ofBits .bf16 ((spread u).extractLsb' (16 * q) 16) - Ideal.ofBits .bf16 17160#16 = nib q x := by
  rw [spread_byte, hx]
  have : q = 0 ∨ q = 1 := by omega
  rcases this with rfl | rfl
  · exact spread_lo x
  · exact spread_hi x

end Cert.Val
-- ==== Proof.Value.Unpack.lean ====
/- The scratch weights the kernel unpacks, block by block. -/
module

public import proofs.«01_k».proof.Proof.Gen.KernelIdeal.Skeleton
public import proofs.«01_k».proof.Proof.Value.Nibbles
public import proofs.«01_k».proof.Proof.KernelIdeal.Body1
public import Idealize.ShloMosaic.Lib.BitcastPair
public import Idealize.ShloMosaic.Lib.Pipeline.ValueKit

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

/-- A word's halves, one above the other. -/
theorem halves_at (X : IVec S384x128 32) (h) (r : Fin 768) (l : Fin 128) :
    bitcast S768x128 16 X h (ix2 r l) = (X (ix2 ⟨r.val / 2, by omega⟩ l)).extractLsb' (16 * (r.val % 2)) 16 := by
  refine (bitcast_32_16 X h (ix2 r l)).trans ?_
  refine congrArg (fun u : BitVec 32 => u.extractLsb' (16 * (r.val % 2)) 16) (congrArg X ?_)
  funext a
  match a with
  | ⟨0, _⟩ => rfl
  | ⟨1, _⟩ => rfl

/-- The words' bytes. -/
theorem words_raw (a b c d : Vec Ideal S128x384 .i8) (p : Fin 384) (l : Fin 128) :
    k1_pay9 (F := Ideal) a b c d (ix2 p l) = word (a (ix2 l p)) (b (ix2 l p)) (c (ix2 l p)) (d (ix2 l p)) := by
  unfold word
  pointwise [k1_pay9]
/-- The transposed group scales. -/
theorem gs_at (x5 : Vec Ideal S512x6 .f32) (g : Fin 6) (v : Fin 512) : k1_pay10 (gsOf x5) (ix2 g v) = x5 (ix2 v g) := by
  have h : k1_pay10 (gsOf x5) (ix2 g v) = gsOf x5 (ix2 v g) := by pointwise [k1_pay10]
  rw [h]
  unfold gsOf
  exact View.ld_unit_apply_of x5 _ _ _ _ _ (fun a => match a with | ⟨0, _⟩ => (Nat.zero_add _).symm | ⟨1, _⟩ => (Nat.zero_add _).symm)

theorem packed0_at (x4 : Vec Ideal S512x384 .i8) (l : Fin 128) (p : Fin 384) : packed0 x4 (ix2 l p) = x4 (ix2 ⟨0 + l.val, by omega⟩ p) := by
  unfold packed0
  exact View.ld_unit_apply_of x4 _ _ _ _ _ (fun a => match a with | ⟨0, _⟩ => rfl | ⟨1, _⟩ => (Nat.zero_add _).symm)

theorem packed1_at (x4 : Vec Ideal S512x384 .i8) (l : Fin 128) (p : Fin 384) : packed1 x4 (ix2 l p) = x4 (ix2 ⟨128 + l.val, by omega⟩ p) := by
  unfold packed1
  exact View.ld_unit_apply_of x4 _ _ _ _ _ (fun a => match a with | ⟨0, _⟩ => rfl | ⟨1, _⟩ => (Nat.zero_add _).symm)

theorem packed2_at (x4 : Vec Ideal S512x384 .i8) (l : Fin 128) (p : Fin 384) : packed2 x4 (ix2 l p) = x4 (ix2 ⟨256 + l.val, by omega⟩ p) := by
  unfold packed2
  exact View.ld_unit_apply_of x4 _ _ _ _ _ (fun a => match a with | ⟨0, _⟩ => rfl | ⟨1, _⟩ => (Nat.zero_add _).symm)

theorem packed3_at (x4 : Vec Ideal S512x384 .i8) (l : Fin 128) (p : Fin 384) : packed3 x4 (ix2 l p) = x4 (ix2 ⟨384 + l.val, by omega⟩ p) := by
  unfold packed3
  exact View.ld_unit_apply_of x4 _ _ _ _ _ (fun a => match a with | ⟨0, _⟩ => rfl | ⟨1, _⟩ => (Nat.zero_add _).symm)

/-- The words of a packed block. -/
theorem words_at (x4 : Vec Ideal S512x384 .i8) (p : Fin 384) (l : Fin 128) :
    wordsOf x4 (ix2 p l) = word (x4 (ix2 ⟨0 + l.val, by omega⟩ p)) (x4 (ix2 ⟨128 + l.val, by omega⟩ p))
      (x4 (ix2 ⟨256 + l.val, by omega⟩ p)) (x4 (ix2 ⟨384 + l.val, by omega⟩ p)) := by
  unfold wordsOf
  rw [words_raw, packed0_at, packed1_at, packed2_at, packed3_at]

/-- The codes of byte 0. -/
theorem code0_at (x4 : Vec Ideal S512x384 .i8) (r : Fin 768) (l : Fin 128) :
    k1_pay11 (packed0 x4) (packed1 x4) (packed2 x4) (packed3 x4) (ix2 r l) = nib (r.val % 2) (x4 (ix2 ⟨0 + l.val, by omega⟩ ⟨r.val / 2, by omega⟩)) := by
  unfold k1_pay11
  refine Eq.trans (b := Ideal.ofBits .bf16 (bitcast S768x128 16 (fun i => spread (IntOp.shrui .vector ((k1_pay9 (F := Ideal) (packed0 x4) (packed1 x4) (packed2 x4) (packed3 x4)) i) 0#32)) bitcasts_S384x128_w32_S768x128_w16 (ix2 r l)) - Ideal.ofBits .bf16 17160#16) rfl ?_
  rw [halves_at]
  refine spread_half _ _ ?_ _ (by omega)
  change BitVec.setWidth 8 (IntOp.shrui .vector (wordsOf x4 (ix2 ⟨r.val / 2, _⟩ l)) 0#32) = _
  rw [words_at]
  exact byte0 _ _ _ _

/-- The codes of byte 1. -/
theorem code1_at (x4 : Vec Ideal S512x384 .i8) (r : Fin 768) (l : Fin 128) :
    k1_pay20 (F := Ideal) (wordsOf x4) (ix2 r l) = nib (r.val % 2) (x4 (ix2 ⟨128 + l.val, by omega⟩ ⟨r.val / 2, by omega⟩)) := by
  unfold k1_pay20
  refine Eq.trans (b := Ideal.ofBits .bf16 (bitcast S768x128 16 (fun i => spread (IntOp.shrui .vector ((wordsOf x4) i) 8#32)) bitcasts_S384x128_w32_S768x128_w16 (ix2 r l)) - Ideal.ofBits .bf16 17160#16) rfl ?_
  rw [halves_at]
  refine spread_half _ _ ?_ _ (by omega)
  change BitVec.setWidth 8 (IntOp.shrui .vector (wordsOf x4 (ix2 ⟨r.val / 2, _⟩ l)) 8#32) = _
  rw [words_at]
  exact byte1 _ _ _ _

/-- The codes of byte 2. -/
theorem code2_at (x4 : Vec Ideal S512x384 .i8) (r : Fin 768) (l : Fin 128) :
    k1_pay28 (F := Ideal) (wordsOf x4) (ix2 r l) = nib (r.val % 2) (x4 (ix2 ⟨256 + l.val, by omega⟩ ⟨r.val / 2, by omega⟩)) := by
  unfold k1_pay28
  refine Eq.trans (b := Ideal.ofBits .bf16 (bitcast S768x128 16 (fun i => spread (IntOp.shrui .vector ((wordsOf x4) i) 16#32)) bitcasts_S384x128_w32_S768x128_w16 (ix2 r l)) - Ideal.ofBits .bf16 17160#16) rfl ?_
  rw [halves_at]
  refine spread_half _ _ ?_ _ (by omega)
  change BitVec.setWidth 8 (IntOp.shrui .vector (wordsOf x4 (ix2 ⟨r.val / 2, _⟩ l)) 16#32) = _
  rw [words_at]
  exact byte2 _ _ _ _

/-- The codes of byte 3. -/
theorem code3_at (x4 : Vec Ideal S512x384 .i8) (r : Fin 768) (l : Fin 128) :
    k1_pay37 (F := Ideal) (wordsOf x4) (ix2 r l) = nib (r.val % 2) (x4 (ix2 ⟨384 + l.val, by omega⟩ ⟨r.val / 2, by omega⟩)) := by
  unfold k1_pay37
  refine Eq.trans (b := Ideal.ofBits .bf16 (bitcast S768x128 16 (fun i => spread (IntOp.shrui .vector ((wordsOf x4) i) 24#32)) bitcasts_S384x128_w32_S768x128_w16 (ix2 r l)) - Ideal.ofBits .bf16 17160#16) rfl ?_
  rw [halves_at]
  refine spread_half _ _ ?_ _ (by omega)
  change BitVec.setWidth 8 (IntOp.shrui .vector (wordsOf x4 (ix2 ⟨r.val / 2, _⟩ l)) 24#32) = _
  rw [words_at]
  exact byte3 _ _ _ _

/-- The scratch weight at input `k` and vocabulary row `v`. -/
def wt (x4 : Vec Ideal S512x384 .i8) (x5 : Vec Ideal S512x6 .f32) (k : Fin 768) (v : Fin 512) : EReal :=
  nib (k.val % 2) (x4 (ix2 v ⟨k.val / 2, by omega⟩)) * x5 (ix2 v ⟨k.val / 128, by omega⟩)
/-- A code and its scale, at their place. -/
theorem wt_of (x4 : Vec Ideal S512x384 .i8) (x5 : Vec Ideal S512x6 .f32) (g : Fin 6) (v : Fin 512) (r : Fin 768) (h : r.val / 128 = g.val) :
    nib (r.val % 2) (x4 (ix2 v ⟨r.val / 2, by omega⟩)) * x5 (ix2 v g) = wt x4 x5 r v := by
  unfold wt
  exact congrArg (fun g' : Fin 6 => nib (r.val % 2) (x4 (ix2 v ⟨r.val / 2, by omega⟩)) * x5 (ix2 v g')) (Fin.ext h.symm)

theorem piece_0_0_raw (a b c d : Vec Ideal S128x384 .i8) (g : Vec Ideal S512x6 .f32) (r l : Fin 128) :
    k1_pay13 (k1_pay12 a b c d g) (ix2 r l) = k1_pay11 a b c d (ix2 ⟨0 + r.val, by omega⟩ l) * k1_pay10 g (ix2 0 ⟨0 + l.val, by omega⟩) := by
  pointwise [k1_pay13, k1_pay12]
theorem piece_0_0 (x4 : Vec Ideal S512x384 .i8) (x5 : Vec Ideal S512x6 .f32) (r l : Fin 128) :
    k1_pay13 (k1_pay12 (packed0 x4) (packed1 x4) (packed2 x4) (packed3 x4) (gsOf x5)) (ix2 r l) = wt x4 x5 ⟨0 + r.val, by omega⟩ ⟨0 + l.val, by omega⟩ := by
  refine (piece_0_0_raw _ _ _ _ _ r l).trans ?_
  rw [code0_at, gs_at]
  exact wt_of x4 x5 0 ⟨0 + l.val, by omega⟩ ⟨0 + r.val, by omega⟩ (by show (0 + r.val) / 128 = 0; omega)

theorem piece_0_1_raw (v19 : FVec Ideal S6x512 .f32) (v33 : FVec Ideal S768x128 .bf16) (r l : Fin 128) :
    k1_pay14 v19 v33 (ix2 r l) = v33 (ix2 ⟨128 + r.val, by omega⟩ l) * v19 (ix2 1 ⟨0 + l.val, by omega⟩) := by
  pointwise [k1_pay14]
theorem piece_0_1 (x4 : Vec Ideal S512x384 .i8) (x5 : Vec Ideal S512x6 .f32) (r l : Fin 128) :
    k1_pay14 (k1_pay10 (gsOf x5)) (k1_pay11 (packed0 x4) (packed1 x4) (packed2 x4) (packed3 x4)) (ix2 r l) = wt x4 x5 ⟨128 + r.val, by omega⟩ ⟨0 + l.val, by omega⟩ := by
  refine (piece_0_1_raw _ _ r l).trans ?_
  rw [code0_at, gs_at]
  exact wt_of x4 x5 1 ⟨0 + l.val, by omega⟩ ⟨128 + r.val, by omega⟩ (by show (128 + r.val) / 128 = 1; omega)

theorem piece_0_2_raw (v19 : FVec Ideal S6x512 .f32) (v33 : FVec Ideal S768x128 .bf16) (r l : Fin 128) :
    k1_pay15 v19 v33 (ix2 r l) = v33 (ix2 ⟨256 + r.val, by omega⟩ l) * v19 (ix2 2 ⟨0 + l.val, by omega⟩) := by
  pointwise [k1_pay15]
theorem piece_0_2 (x4 : Vec Ideal S512x384 .i8) (x5 : Vec Ideal S512x6 .f32) (r l : Fin 128) :
    k1_pay15 (k1_pay10 (gsOf x5)) (k1_pay11 (packed0 x4) (packed1 x4) (packed2 x4) (packed3 x4)) (ix2 r l) = wt x4 x5 ⟨256 + r.val, by omega⟩ ⟨0 + l.val, by omega⟩ := by
  refine (piece_0_2_raw _ _ r l).trans ?_
  rw [code0_at, gs_at]
  exact wt_of x4 x5 2 ⟨0 + l.val, by omega⟩ ⟨256 + r.val, by omega⟩ (by show (256 + r.val) / 128 = 2; omega)

theorem piece_0_3_raw (v19 : FVec Ideal S6x512 .f32) (v33 : FVec Ideal S768x128 .bf16) (r l : Fin 128) :
    k1_pay16 v19 v33 (ix2 r l) = v33 (ix2 ⟨384 + r.val, by omega⟩ l) * v19 (ix2 3 ⟨0 + l.val, by omega⟩) := by
  pointwise [k1_pay16]
theorem piece_0_3 (x4 : Vec Ideal S512x384 .i8) (x5 : Vec Ideal S512x6 .f32) (r l : Fin 128) :
    k1_pay16 (k1_pay10 (gsOf x5)) (k1_pay11 (packed0 x4) (packed1 x4) (packed2 x4) (packed3 x4)) (ix2 r l) = wt x4 x5 ⟨384 + r.val, by omega⟩ ⟨0 + l.val, by omega⟩ := by
  refine (piece_0_3_raw _ _ r l).trans ?_
  rw [code0_at, gs_at]
  exact wt_of x4 x5 3 ⟨0 + l.val, by omega⟩ ⟨384 + r.val, by omega⟩ (by show (384 + r.val) / 128 = 3; omega)

theorem piece_0_4_raw (v19 : FVec Ideal S6x512 .f32) (v33 : FVec Ideal S768x128 .bf16) (r l : Fin 128) :
    k1_pay17 v19 v33 (ix2 r l) = v33 (ix2 ⟨512 + r.val, by omega⟩ l) * v19 (ix2 4 ⟨0 + l.val, by omega⟩) := by
  pointwise [k1_pay17]
theorem piece_0_4 (x4 : Vec Ideal S512x384 .i8) (x5 : Vec Ideal S512x6 .f32) (r l : Fin 128) :
    k1_pay17 (k1_pay10 (gsOf x5)) (k1_pay11 (packed0 x4) (packed1 x4) (packed2 x4) (packed3 x4)) (ix2 r l) = wt x4 x5 ⟨512 + r.val, by omega⟩ ⟨0 + l.val, by omega⟩ := by
  refine (piece_0_4_raw _ _ r l).trans ?_
  rw [code0_at, gs_at]
  exact wt_of x4 x5 4 ⟨0 + l.val, by omega⟩ ⟨512 + r.val, by omega⟩ (by show (512 + r.val) / 128 = 4; omega)

theorem piece_0_5_raw (v19 : FVec Ideal S6x512 .f32) (v33 : FVec Ideal S768x128 .bf16) (r l : Fin 128) :
    k1_pay19 (k1_pay18 v19 v33) (ix2 r l) = v33 (ix2 ⟨640 + r.val, by omega⟩ l) * v19 (ix2 5 ⟨0 + l.val, by omega⟩) := by
  pointwise [k1_pay19, k1_pay18]
theorem piece_0_5 (x4 : Vec Ideal S512x384 .i8) (x5 : Vec Ideal S512x6 .f32) (r l : Fin 128) :
    k1_pay19 (k1_pay18 (k1_pay10 (gsOf x5)) (k1_pay11 (packed0 x4) (packed1 x4) (packed2 x4) (packed3 x4))) (ix2 r l) = wt x4 x5 ⟨640 + r.val, by omega⟩ ⟨0 + l.val, by omega⟩ := by
  refine (piece_0_5_raw _ _ r l).trans ?_
  rw [code0_at, gs_at]
  exact wt_of x4 x5 5 ⟨0 + l.val, by omega⟩ ⟨640 + r.val, by omega⟩ (by show (640 + r.val) / 128 = 5; omega)

theorem piece_1_0_raw (v17 : IVec S384x128 32) (v19 : FVec Ideal S6x512 .f32) (r l : Fin 128) :
    k1_pay21 v17 v19 (ix2 r l) = k1_pay20 (F := Ideal) v17 (ix2 ⟨0 + r.val, by omega⟩ l) * v19 (ix2 0 ⟨128 + l.val, by omega⟩) := by
  pointwise [k1_pay21]
theorem piece_1_0 (x4 : Vec Ideal S512x384 .i8) (x5 : Vec Ideal S512x6 .f32) (r l : Fin 128) :
    k1_pay21 (wordsOf x4) (k1_pay10 (gsOf x5)) (ix2 r l) = wt x4 x5 ⟨0 + r.val, by omega⟩ ⟨128 + l.val, by omega⟩ := by
  refine (piece_1_0_raw _ _ r l).trans ?_
  rw [code1_at, gs_at]
  exact wt_of x4 x5 0 ⟨128 + l.val, by omega⟩ ⟨0 + r.val, by omega⟩ (by show (0 + r.val) / 128 = 0; omega)

theorem piece_1_1_raw (v17 : IVec S384x128 32) (v19 : FVec Ideal S6x512 .f32) (r l : Fin 128) :
    k1_pay22 v17 v19 (ix2 r l) = k1_pay20 (F := Ideal) v17 (ix2 ⟨128 + r.val, by omega⟩ l) * v19 (ix2 1 ⟨128 + l.val, by omega⟩) := by
  pointwise [k1_pay22]
theorem piece_1_1 (x4 : Vec Ideal S512x384 .i8) (x5 : Vec Ideal S512x6 .f32) (r l : Fin 128) :
    k1_pay22 (wordsOf x4) (k1_pay10 (gsOf x5)) (ix2 r l) = wt x4 x5 ⟨128 + r.val, by omega⟩ ⟨128 + l.val, by omega⟩ := by
  refine (piece_1_1_raw _ _ r l).trans ?_
  rw [code1_at, gs_at]
  exact wt_of x4 x5 1 ⟨128 + l.val, by omega⟩ ⟨128 + r.val, by omega⟩ (by show (128 + r.val) / 128 = 1; omega)

theorem piece_1_2_raw (v17 : IVec S384x128 32) (v19 : FVec Ideal S6x512 .f32) (r l : Fin 128) :
    k1_pay24 (k1_pay23 v17 v19) (ix2 r l) = k1_pay20 (F := Ideal) v17 (ix2 ⟨256 + r.val, by omega⟩ l) * v19 (ix2 2 ⟨128 + l.val, by omega⟩) := by
  pointwise [k1_pay24, k1_pay23]
theorem piece_1_2 (x4 : Vec Ideal S512x384 .i8) (x5 : Vec Ideal S512x6 .f32) (r l : Fin 128) :
    k1_pay24 (k1_pay23 (wordsOf x4) (k1_pay10 (gsOf x5))) (ix2 r l) = wt x4 x5 ⟨256 + r.val, by omega⟩ ⟨128 + l.val, by omega⟩ := by
  refine (piece_1_2_raw _ _ r l).trans ?_
  rw [code1_at, gs_at]
  exact wt_of x4 x5 2 ⟨128 + l.val, by omega⟩ ⟨256 + r.val, by omega⟩ (by show (256 + r.val) / 128 = 2; omega)

theorem piece_1_3_raw (v19 : FVec Ideal S6x512 .f32) (v33 : FVec Ideal S768x128 .bf16) (r l : Fin 128) :
    k1_pay25 v19 v33 (ix2 r l) = v33 (ix2 ⟨384 + r.val, by omega⟩ l) * v19 (ix2 3 ⟨128 + l.val, by omega⟩) := by
  pointwise [k1_pay25]
theorem piece_1_3 (x4 : Vec Ideal S512x384 .i8) (x5 : Vec Ideal S512x6 .f32) (r l : Fin 128) :
    k1_pay25 (k1_pay10 (gsOf x5)) (k1_pay20 (F := Ideal) (wordsOf x4)) (ix2 r l) = wt x4 x5 ⟨384 + r.val, by omega⟩ ⟨128 + l.val, by omega⟩ := by
  refine (piece_1_3_raw _ _ r l).trans ?_
  rw [code1_at, gs_at]
  exact wt_of x4 x5 3 ⟨128 + l.val, by omega⟩ ⟨384 + r.val, by omega⟩ (by show (384 + r.val) / 128 = 3; omega)

theorem piece_1_4_raw (v19 : FVec Ideal S6x512 .f32) (v33 : FVec Ideal S768x128 .bf16) (r l : Fin 128) :
    k1_pay26 v19 v33 (ix2 r l) = v33 (ix2 ⟨512 + r.val, by omega⟩ l) * v19 (ix2 4 ⟨128 + l.val, by omega⟩) := by
  pointwise [k1_pay26]
theorem piece_1_4 (x4 : Vec Ideal S512x384 .i8) (x5 : Vec Ideal S512x6 .f32) (r l : Fin 128) :
    k1_pay26 (k1_pay10 (gsOf x5)) (k1_pay20 (F := Ideal) (wordsOf x4)) (ix2 r l) = wt x4 x5 ⟨512 + r.val, by omega⟩ ⟨128 + l.val, by omega⟩ := by
  refine (piece_1_4_raw _ _ r l).trans ?_
  rw [code1_at, gs_at]
  exact wt_of x4 x5 4 ⟨128 + l.val, by omega⟩ ⟨512 + r.val, by omega⟩ (by show (512 + r.val) / 128 = 4; omega)

theorem piece_1_5_raw (v19 : FVec Ideal S6x512 .f32) (v33 : FVec Ideal S768x128 .bf16) (r l : Fin 128) :
    k1_pay27 v19 v33 (ix2 r l) = v33 (ix2 ⟨640 + r.val, by omega⟩ l) * v19 (ix2 5 ⟨128 + l.val, by omega⟩) := by
  pointwise [k1_pay27]
theorem piece_1_5 (x4 : Vec Ideal S512x384 .i8) (x5 : Vec Ideal S512x6 .f32) (r l : Fin 128) :
    k1_pay27 (k1_pay10 (gsOf x5)) (k1_pay20 (F := Ideal) (wordsOf x4)) (ix2 r l) = wt x4 x5 ⟨640 + r.val, by omega⟩ ⟨128 + l.val, by omega⟩ := by
  refine (piece_1_5_raw _ _ r l).trans ?_
  rw [code1_at, gs_at]
  exact wt_of x4 x5 5 ⟨128 + l.val, by omega⟩ ⟨640 + r.val, by omega⟩ (by show (640 + r.val) / 128 = 5; omega)

theorem piece_2_0_raw (v19 : FVec Ideal S6x512 .f32) (v33 : FVec Ideal S768x128 .bf16) (r l : Fin 128) :
    k1_pay30 v33 (k1_pay29 v19) (ix2 r l) = v33 (ix2 ⟨0 + r.val, by omega⟩ l) * v19 (ix2 0 ⟨256 + l.val, by omega⟩) := by
  pointwise [k1_pay30, k1_pay29]
theorem piece_2_0 (x4 : Vec Ideal S512x384 .i8) (x5 : Vec Ideal S512x6 .f32) (r l : Fin 128) :
    k1_pay30 (k1_pay28 (F := Ideal) (wordsOf x4)) (k1_pay29 (k1_pay10 (gsOf x5))) (ix2 r l) = wt x4 x5 ⟨0 + r.val, by omega⟩ ⟨256 + l.val, by omega⟩ := by
  refine (piece_2_0_raw _ _ r l).trans ?_
  rw [code2_at, gs_at]
  exact wt_of x4 x5 0 ⟨256 + l.val, by omega⟩ ⟨0 + r.val, by omega⟩ (by show (0 + r.val) / 128 = 0; omega)

theorem piece_2_1_raw (v19 : FVec Ideal S6x512 .f32) (v33 : FVec Ideal S768x128 .bf16) (r l : Fin 128) :
    k1_pay31 v19 v33 (ix2 r l) = v33 (ix2 ⟨128 + r.val, by omega⟩ l) * v19 (ix2 1 ⟨256 + l.val, by omega⟩) := by
  pointwise [k1_pay31]
theorem piece_2_1 (x4 : Vec Ideal S512x384 .i8) (x5 : Vec Ideal S512x6 .f32) (r l : Fin 128) :
    k1_pay31 (k1_pay10 (gsOf x5)) (k1_pay28 (F := Ideal) (wordsOf x4)) (ix2 r l) = wt x4 x5 ⟨128 + r.val, by omega⟩ ⟨256 + l.val, by omega⟩ := by
  refine (piece_2_1_raw _ _ r l).trans ?_
  rw [code2_at, gs_at]
  exact wt_of x4 x5 1 ⟨256 + l.val, by omega⟩ ⟨128 + r.val, by omega⟩ (by show (128 + r.val) / 128 = 1; omega)

theorem piece_2_2_raw (v19 : FVec Ideal S6x512 .f32) (v33 : FVec Ideal S768x128 .bf16) (r l : Fin 128) :
    k1_pay32 v19 v33 (ix2 r l) = v33 (ix2 ⟨256 + r.val, by omega⟩ l) * v19 (ix2 2 ⟨256 + l.val, by omega⟩) := by
  pointwise [k1_pay32]
theorem piece_2_2 (x4 : Vec Ideal S512x384 .i8) (x5 : Vec Ideal S512x6 .f32) (r l : Fin 128) :
    k1_pay32 (k1_pay10 (gsOf x5)) (k1_pay28 (F := Ideal) (wordsOf x4)) (ix2 r l) = wt x4 x5 ⟨256 + r.val, by omega⟩ ⟨256 + l.val, by omega⟩ := by
  refine (piece_2_2_raw _ _ r l).trans ?_
  rw [code2_at, gs_at]
  exact wt_of x4 x5 2 ⟨256 + l.val, by omega⟩ ⟨256 + r.val, by omega⟩ (by show (256 + r.val) / 128 = 2; omega)

theorem piece_2_3_raw (v19 : FVec Ideal S6x512 .f32) (v33 : FVec Ideal S768x128 .bf16) (r l : Fin 128) :
    k1_pay33 v19 v33 (ix2 r l) = v33 (ix2 ⟨384 + r.val, by omega⟩ l) * v19 (ix2 3 ⟨256 + l.val, by omega⟩) := by
  pointwise [k1_pay33]
theorem piece_2_3 (x4 : Vec Ideal S512x384 .i8) (x5 : Vec Ideal S512x6 .f32) (r l : Fin 128) :
    k1_pay33 (k1_pay10 (gsOf x5)) (k1_pay28 (F := Ideal) (wordsOf x4)) (ix2 r l) = wt x4 x5 ⟨384 + r.val, by omega⟩ ⟨256 + l.val, by omega⟩ := by
  refine (piece_2_3_raw _ _ r l).trans ?_
  rw [code2_at, gs_at]
  exact wt_of x4 x5 3 ⟨256 + l.val, by omega⟩ ⟨384 + r.val, by omega⟩ (by show (384 + r.val) / 128 = 3; omega)

theorem piece_2_4_raw (v19 : FVec Ideal S6x512 .f32) (v33 : FVec Ideal S768x128 .bf16) (r l : Fin 128) :
    k1_pay34 v19 v33 (ix2 r l) = v33 (ix2 ⟨512 + r.val, by omega⟩ l) * v19 (ix2 4 ⟨256 + l.val, by omega⟩) := by
  pointwise [k1_pay34]
theorem piece_2_4 (x4 : Vec Ideal S512x384 .i8) (x5 : Vec Ideal S512x6 .f32) (r l : Fin 128) :
    k1_pay34 (k1_pay10 (gsOf x5)) (k1_pay28 (F := Ideal) (wordsOf x4)) (ix2 r l) = wt x4 x5 ⟨512 + r.val, by omega⟩ ⟨256 + l.val, by omega⟩ := by
  refine (piece_2_4_raw _ _ r l).trans ?_
  rw [code2_at, gs_at]
  exact wt_of x4 x5 4 ⟨256 + l.val, by omega⟩ ⟨512 + r.val, by omega⟩ (by show (512 + r.val) / 128 = 4; omega)

theorem piece_2_5_raw (v19 : FVec Ideal S6x512 .f32) (v33 : FVec Ideal S768x128 .bf16) (r l : Fin 128) :
    k1_pay36 v33 (k1_pay35 v19) (ix2 r l) = v33 (ix2 ⟨640 + r.val, by omega⟩ l) * v19 (ix2 5 ⟨256 + l.val, by omega⟩) := by
  pointwise [k1_pay36, k1_pay35]
theorem piece_2_5 (x4 : Vec Ideal S512x384 .i8) (x5 : Vec Ideal S512x6 .f32) (r l : Fin 128) :
    k1_pay36 (k1_pay28 (F := Ideal) (wordsOf x4)) (k1_pay35 (k1_pay10 (gsOf x5))) (ix2 r l) = wt x4 x5 ⟨640 + r.val, by omega⟩ ⟨256 + l.val, by omega⟩ := by
  refine (piece_2_5_raw _ _ r l).trans ?_
  rw [code2_at, gs_at]
  exact wt_of x4 x5 5 ⟨256 + l.val, by omega⟩ ⟨640 + r.val, by omega⟩ (by show (640 + r.val) / 128 = 5; omega)

theorem piece_3_0_raw (v17 : IVec S384x128 32) (v19 : FVec Ideal S6x512 .f32) (r l : Fin 128) :
    k1_pay38 v17 v19 (ix2 r l) = k1_pay37 (F := Ideal) v17 (ix2 ⟨0 + r.val, by omega⟩ l) * v19 (ix2 0 ⟨384 + l.val, by omega⟩) := by
  pointwise [k1_pay38]
theorem piece_3_0 (x4 : Vec Ideal S512x384 .i8) (x5 : Vec Ideal S512x6 .f32) (r l : Fin 128) :
    k1_pay38 (wordsOf x4) (k1_pay10 (gsOf x5)) (ix2 r l) = wt x4 x5 ⟨0 + r.val, by omega⟩ ⟨384 + l.val, by omega⟩ := by
  refine (piece_3_0_raw _ _ r l).trans ?_
  rw [code3_at, gs_at]
  exact wt_of x4 x5 0 ⟨384 + l.val, by omega⟩ ⟨0 + r.val, by omega⟩ (by show (0 + r.val) / 128 = 0; omega)

theorem piece_3_1_raw (v17 : IVec S384x128 32) (v19 : FVec Ideal S6x512 .f32) (r l : Fin 128) :
    k1_pay39 v17 v19 (ix2 r l) = k1_pay37 (F := Ideal) v17 (ix2 ⟨128 + r.val, by omega⟩ l) * v19 (ix2 1 ⟨384 + l.val, by omega⟩) := by
  pointwise [k1_pay39]
theorem piece_3_1 (x4 : Vec Ideal S512x384 .i8) (x5 : Vec Ideal S512x6 .f32) (r l : Fin 128) :
    k1_pay39 (wordsOf x4) (k1_pay10 (gsOf x5)) (ix2 r l) = wt x4 x5 ⟨128 + r.val, by omega⟩ ⟨384 + l.val, by omega⟩ := by
  refine (piece_3_1_raw _ _ r l).trans ?_
  rw [code3_at, gs_at]
  exact wt_of x4 x5 1 ⟨384 + l.val, by omega⟩ ⟨128 + r.val, by omega⟩ (by show (128 + r.val) / 128 = 1; omega)

theorem piece_3_2_raw (v17 : IVec S384x128 32) (v19 : FVec Ideal S6x512 .f32) (r l : Fin 128) :
    k1_pay1 (k1_pay40 v17 v19) (ix2 r l) = k1_pay37 (F := Ideal) v17 (ix2 ⟨256 + r.val, by omega⟩ l) * v19 (ix2 2 ⟨384 + l.val, by omega⟩) := by
  pointwise [k1_pay1, k1_pay40]
theorem piece_3_2 (x4 : Vec Ideal S512x384 .i8) (x5 : Vec Ideal S512x6 .f32) (r l : Fin 128) :
    k1_pay1 (k1_pay40 (wordsOf x4) (k1_pay10 (gsOf x5))) (ix2 r l) = wt x4 x5 ⟨256 + r.val, by omega⟩ ⟨384 + l.val, by omega⟩ := by
  refine (piece_3_2_raw _ _ r l).trans ?_
  rw [code3_at, gs_at]
  exact wt_of x4 x5 2 ⟨384 + l.val, by omega⟩ ⟨256 + r.val, by omega⟩ (by show (256 + r.val) / 128 = 2; omega)

theorem piece_3_3_raw (v19 : FVec Ideal S6x512 .f32) (v33 : FVec Ideal S768x128 .bf16) (r l : Fin 128) :
    k1_pay2 v19 v33 (ix2 r l) = v33 (ix2 ⟨384 + r.val, by omega⟩ l) * v19 (ix2 3 ⟨384 + l.val, by omega⟩) := by
  pointwise [k1_pay2]
theorem piece_3_3 (x4 : Vec Ideal S512x384 .i8) (x5 : Vec Ideal S512x6 .f32) (r l : Fin 128) :
    k1_pay2 (k1_pay10 (gsOf x5)) (k1_pay37 (F := Ideal) (wordsOf x4)) (ix2 r l) = wt x4 x5 ⟨384 + r.val, by omega⟩ ⟨384 + l.val, by omega⟩ := by
  refine (piece_3_3_raw _ _ r l).trans ?_
  rw [code3_at, gs_at]
  exact wt_of x4 x5 3 ⟨384 + l.val, by omega⟩ ⟨384 + r.val, by omega⟩ (by show (384 + r.val) / 128 = 3; omega)

theorem piece_3_4_raw (v19 : FVec Ideal S6x512 .f32) (v33 : FVec Ideal S768x128 .bf16) (r l : Fin 128) :
    k1_pay3 v19 v33 (ix2 r l) = v33 (ix2 ⟨512 + r.val, by omega⟩ l) * v19 (ix2 4 ⟨384 + l.val, by omega⟩) := by
  pointwise [k1_pay3]
theorem piece_3_4 (x4 : Vec Ideal S512x384 .i8) (x5 : Vec Ideal S512x6 .f32) (r l : Fin 128) :
    k1_pay3 (k1_pay10 (gsOf x5)) (k1_pay37 (F := Ideal) (wordsOf x4)) (ix2 r l) = wt x4 x5 ⟨512 + r.val, by omega⟩ ⟨384 + l.val, by omega⟩ := by
  refine (piece_3_4_raw _ _ r l).trans ?_
  rw [code3_at, gs_at]
  exact wt_of x4 x5 4 ⟨384 + l.val, by omega⟩ ⟨512 + r.val, by omega⟩ (by show (512 + r.val) / 128 = 4; omega)

theorem piece_3_5_raw (v19 : FVec Ideal S6x512 .f32) (v33 : FVec Ideal S768x128 .bf16) (r l : Fin 128) :
    k1_pay4 v19 v33 (ix2 r l) = v33 (ix2 ⟨640 + r.val, by omega⟩ l) * v19 (ix2 5 ⟨384 + l.val, by omega⟩) := by
  pointwise [k1_pay4]
theorem piece_3_5 (x4 : Vec Ideal S512x384 .i8) (x5 : Vec Ideal S512x6 .f32) (r l : Fin 128) :
    k1_pay4 (k1_pay10 (gsOf x5)) (k1_pay37 (F := Ideal) (wordsOf x4)) (ix2 r l) = wt x4 x5 ⟨640 + r.val, by omega⟩ ⟨384 + l.val, by omega⟩ := by
  refine (piece_3_5_raw _ _ r l).trans ?_
  rw [code3_at, gs_at]
  exact wt_of x4 x5 5 ⟨384 + l.val, by omega⟩ ⟨640 + r.val, by omega⟩ (by show (640 + r.val) / 128 = 5; omega)

/-- A stored block read at a place of the whole. -/
theorem at_piece (p : S128x128.Idx → EReal) (f : Fin 768 → Fin 512 → EReal) (a b : ℕ) (ha : a ≤ 640) (hb : b ≤ 384)
    (hp : ∀ r l : Fin 128, p (ix2 r l) = f ⟨a + r.val, by omega⟩ ⟨b + l.val, by omega⟩) (x : S128x128.Idx) (k : Fin 768) (v : Fin 512)
    (h0 : k.val = a + (x 0).val) (h1 : v.val = b + (x 1).val) : p x = f k v := by
  have hx : x = ix2 (x 0) (x 1) := by
    funext i
    match i with
    | ⟨0, _⟩ => rfl
    | ⟨1, _⟩ => rfl
  rw [hx]
  refine (hp (x 0) (x 1)).trans ?_
  exact congrArg₂ f (Fin.ext h0.symm) (Fin.ext h1.symm)

set_option maxHeartbeats 4000000 in
/-- The scratch buffer after the unpacking. -/
theorem scr_at (x4 : Vec Ideal S512x384 .i8) (x5 : Vec Ideal S512x6 .f32) (y : S768x512.Idx) : scr x4 x5 y = wt x4 x5 (y 0) (y 1) := by
  unfold scr scrPieces
  canon_tiles x h
  · exact at_piece _ (wt x4 x5) 640 384 (by omega) (by omega) (piece_3_5 x4 x5) x (y 0) (y 1) (by omega) (by omega)
  · exact at_piece _ (wt x4 x5) 512 384 (by omega) (by omega) (piece_3_4 x4 x5) x (y 0) (y 1) (by omega) (by omega)
  · exact at_piece _ (wt x4 x5) 384 384 (by omega) (by omega) (piece_3_3 x4 x5) x (y 0) (y 1) (by omega) (by omega)
  · exact at_piece _ (wt x4 x5) 256 384 (by omega) (by omega) (piece_3_2 x4 x5) x (y 0) (y 1) (by omega) (by omega)
  · exact at_piece _ (wt x4 x5) 128 384 (by omega) (by omega) (piece_3_1 x4 x5) x (y 0) (y 1) (by omega) (by omega)
  · exact at_piece _ (wt x4 x5) 0 384 (by omega) (by omega) (piece_3_0 x4 x5) x (y 0) (y 1) (by omega) (by omega)
  · exact at_piece _ (wt x4 x5) 640 256 (by omega) (by omega) (piece_2_5 x4 x5) x (y 0) (y 1) (by omega) (by omega)
  · exact at_piece _ (wt x4 x5) 512 256 (by omega) (by omega) (piece_2_4 x4 x5) x (y 0) (y 1) (by omega) (by omega)
  · exact at_piece _ (wt x4 x5) 384 256 (by omega) (by omega) (piece_2_3 x4 x5) x (y 0) (y 1) (by omega) (by omega)
  · exact at_piece _ (wt x4 x5) 256 256 (by omega) (by omega) (piece_2_2 x4 x5) x (y 0) (y 1) (by omega) (by omega)
  · exact at_piece _ (wt x4 x5) 128 256 (by omega) (by omega) (piece_2_1 x4 x5) x (y 0) (y 1) (by omega) (by omega)
  · exact at_piece _ (wt x4 x5) 0 256 (by omega) (by omega) (piece_2_0 x4 x5) x (y 0) (y 1) (by omega) (by omega)
  · exact at_piece _ (wt x4 x5) 640 128 (by omega) (by omega) (piece_1_5 x4 x5) x (y 0) (y 1) (by omega) (by omega)
  · exact at_piece _ (wt x4 x5) 512 128 (by omega) (by omega) (piece_1_4 x4 x5) x (y 0) (y 1) (by omega) (by omega)
  · exact at_piece _ (wt x4 x5) 384 128 (by omega) (by omega) (piece_1_3 x4 x5) x (y 0) (y 1) (by omega) (by omega)
  · exact at_piece _ (wt x4 x5) 256 128 (by omega) (by omega) (piece_1_2 x4 x5) x (y 0) (y 1) (by omega) (by omega)
  · exact at_piece _ (wt x4 x5) 128 128 (by omega) (by omega) (piece_1_1 x4 x5) x (y 0) (y 1) (by omega) (by omega)
  · exact at_piece _ (wt x4 x5) 0 128 (by omega) (by omega) (piece_1_0 x4 x5) x (y 0) (y 1) (by omega) (by omega)
  · exact at_piece _ (wt x4 x5) 640 0 (by omega) (by omega) (piece_0_5 x4 x5) x (y 0) (y 1) (by omega) (by omega)
  · exact at_piece _ (wt x4 x5) 512 0 (by omega) (by omega) (piece_0_4 x4 x5) x (y 0) (y 1) (by omega) (by omega)
  · exact at_piece _ (wt x4 x5) 384 0 (by omega) (by omega) (piece_0_3 x4 x5) x (y 0) (y 1) (by omega) (by omega)
  · exact at_piece _ (wt x4 x5) 256 0 (by omega) (by omega) (piece_0_2 x4 x5) x (y 0) (y 1) (by omega) (by omega)
  · exact at_piece _ (wt x4 x5) 128 0 (by omega) (by omega) (piece_0_1 x4 x5) x (y 0) (y 1) (by omega) (by omega)
  · exact at_piece _ (wt x4 x5) 0 0 (by omega) (by omega) (piece_0_0 x4 x5) x (y 0) (y 1) (by omega) (by omega)
end Cert.KVal
-- ==== Proof.Value.DocRow.lean ====
/- One document's row of the logits: the loop's running maxima make the maximum over the document's tokens. -/
module

public import proofs.«01_k».proof.Proof.KernelIdeal.Body1
public import proofs.«01_k».proof.Proof.KernelIdeal.Lens
public import proofs.«01_k».proof.Proof.Value.SpecRep
public import proofs.«01_k».proof.Proof.Value.Maxes
public import Idealize.ShloMosaic.Lib.Pipeline.ValueKit

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

/-- One chunk's step of the running maximum. -/
theorem pay6_fold (n : BitVec 32) (k : Fin (k1_t2_loop n).trips) (run : FVec Ideal S8x512 .f32) (z : Vec Ideal S1x128x768 .fp8e4m3)
    (w : Vec Ideal S768x512 .bf16) (s : Vec Ideal S1x128x1 .f32) (r : Fin 8) (v : Fin 512) :
    k1_pay6 n k run z w s (ix2 r v) = max (run (ix2 r v))
      (Finset.univ.fold max (Ideal.ofBits .f32 0xFF800000#32)
        (fun x : Fin 16 =>
          Scalar.select
            (IntOp.cmpi .slt (IntOp.addi (BitVec.ofNat 32 (x.val * 8 + r.val)) (Scalar.muli (Scf.iv 0#32 1#32 k) 128#32)) n)
            ((∑ k : Fin 768, z (ix3 0 ⟨x.val * 8 + r.val, by omega⟩ k) * w (ix2 k v)) * s (ix3 0 ⟨x.val * 8 + r.val, by omega⟩ 0))
            (Ideal.ofBits .f32 0xFF800000#32))) := by
  pointwise [k1_pay6]

/-- The row's end: the maximum over the eight running maxima, the bias, the activation. -/
theorem k1_pay8_at (run : FVec Ideal S8x512 .f32) (b : Vec Ideal S1x512 .f32) (v : Fin 512) :
    k1_pay8 run b (ix2 0 v) = Ideal.log1p (max ((Finset.univ.fold max (Ideal.ofBits .f32 0xFF800000#32) fun x : Fin 8 => run (ix2 x v)) + b (ix2 0 v)) 0) := by
  pointwise [k1_pay8]

theorem k1_pay5_at (r : Fin 8) (v : Fin 512) : (k1_pay5 (F := Ideal)) (ix2 r v) = Ideal.ofBits .f32 0xFF800000#32 := by
  pointwise [k1_pay5]

variable (t : Fin k1_t1_loop.trips) (n : BitVec 32) (z : Vec Ideal S32x512x768 .fp8e4m3) (s : Vec Ideal S32x512x128 .f32)
  (w : Vec Ideal S768x512 .bf16)

/-- The document's number. -/
def doc (t : Fin k1_t1_loop.trips) : Fin 32 := ⟨t.val, t1_lt t⟩

/-- A token's masked logit. -/
def lgt (v : Fin 512) (a : Fin 512) : EReal :=
  if live n a = 1 then (∑ k : Fin 768, z (ix3 (doc t) a k) * w (ix2 k v)) * s (ix3 (doc t) a 0) else ⊥

theorem ldz (h : n.toInt ≤ 512) (k : Fin (k1_t2_loop n).trips) (inb) (a : Fin 128) (j : Fin 768) (ha : 128 * k.val + a.val < 512) :
    View.ld z (Rect.unit (s := S32x512x768) (k1_off2 t n k) S1x128x768.size inb) (ix3 0 a j) = z (ix3 (doc t) ⟨128 * k.val + a.val, ha⟩ j) :=
  View.ld_unit_apply_of z _ _ _ _ _ (fun i => by
    refine Eq.trans ?_ (congrArg (fun o => o + _) (congrFun (off2_eq t n h k) i).symm)
    match i with
    | ⟨0, _⟩ => rfl
    | ⟨1, _⟩ => rfl
    | ⟨2, _⟩ => exact (Nat.zero_add _).symm)
theorem lds (h : n.toInt ≤ 512) (k : Fin (k1_t2_loop n).trips) (inb) (a : Fin 128) (ha : 128 * k.val + a.val < 512) :
    View.ld s (Rect.unit (s := S32x512x128) (k1_off3 t n k) S1x128x1.size inb) (ix3 0 a 0) = s (ix3 (doc t) ⟨128 * k.val + a.val, ha⟩ 0) :=
  View.ld_unit_apply_of s _ _ _ _ _ (fun i => by
    refine Eq.trans ?_ (congrArg (fun o => o + _) (congrFun (off3_eq t n h k) i).symm)
    match i with
    | ⟨0, _⟩ => rfl
    | ⟨1, _⟩ => rfl
    | ⟨2, _⟩ => rfl)
theorem ldw (inb) (j : Fin 768) (v : Fin 512) :
    View.ld w (Rect.unit (s := S768x512) ![0, 0] S768x512.size inb) (ix2 j v) = w (ix2 j v) :=
  View.ld_unit_apply_of w _ _ _ _ _ (fun i => by
    match i with
    | ⟨0, _⟩ => exact (Nat.zero_add _).symm
    | ⟨1, _⟩ => exact (Nat.zero_add _).symm)

theorem tok_word (k x r : ℕ) :
    IntOp.addi (BitVec.ofNat 32 (x * 8 + r)) (Scalar.muli (Scf.iv 0#32 1#32 k) 128#32) = BitVec.ofNat 32 (128 * k + (x * 8 + r)) := by
  show BitVec.ofNat 32 (x * 8 + r) + (0#32 + BitVec.ofNat 32 k * 1#32) * 128#32 = _
  rw [BitVec.zero_add, BitVec.mul_one, show (128#32 : BitVec 32) = BitVec.ofNat 32 128 from rfl, ← BitVec.ofNat_mul, ← BitVec.ofNat_add]
  exact congrArg _ (by omega)

/-- One step adds a chunk's tokens of residue `r`. -/
theorem docChunks_step (hw : k1_chk1 t n) (h : n.toInt ≤ 512) (init : FVec Ideal S8x512 .f32) (k : Fin (k1_t2_loop n).trips) (hk : k.val < 4) (r : Fin 8) (v : Fin 512) :
    docChunks t n hw z s w init (k.val + 1) (ix2 r v)
      = max (docChunks t n hw z s w init k.val (ix2 r v)) (Finset.univ.sup fun x : Fin 16 => lgt t n z s w v ⟨128 * k.val + (x.val * 8 + r.val), by omega⟩) := by
  rw [docChunks_succ, pay6_fold, negInf]
  refine congrArg (max _) ?_
  refine Finset.fold_congr fun x _ => ?_
  rw [tok_word]
  unfold lgt
  rw [lds t n s h k _ _ (by show 128 * k.val + (x.val * 8 + r.val) < 512; omega)]
  simp only [ldw w]
  rw [Finset.sum_congr rfl fun j _ => by rw [ldz t n z h k _ _ j (by show 128 * k.val + (x.val * 8 + r.val) < 512; omega)]]
  rfl

/-- A maximum over the tokens of residue `r` before chunk `k`, and over chunk `k`'s. -/
theorem sup_chunk (f : Fin 512 → EReal) (k : ℕ) (hk : k < 4) (r : Fin 8) :
    max ((Finset.univ.filter fun a : Fin 512 => a.val < 128 * k ∧ a.val % 8 = r.val).sup f)
      (Finset.univ.sup fun x : Fin 16 => f ⟨128 * k + (x.val * 8 + r.val), by omega⟩)
      = (Finset.univ.filter fun a : Fin 512 => a.val < 128 * (k + 1) ∧ a.val % 8 = r.val).sup f := by
  refine le_antisymm (max_le (Finset.sup_le fun a ha => ?_) (Finset.sup_le fun x _ => ?_)) (Finset.sup_le fun a ha => ?_)
  · have ha := (Finset.mem_filter.mp ha).2
    exact Finset.le_sup (f := f) (Finset.mem_filter.mpr ⟨Finset.mem_univ _, by omega, ha.2⟩)
  · refine Finset.le_sup (f := f) (Finset.mem_filter.mpr ⟨Finset.mem_univ _, ?_, ?_⟩)
    · show 128 * k + (x.val * 8 + r.val) < 128 * (k + 1); omega
    · show (128 * k + (x.val * 8 + r.val)) % 8 = r.val; omega
  · obtain ⟨h1, h2⟩ := (Finset.mem_filter.mp ha).2
    by_cases hb : a.val < 128 * k
    · exact le_max_of_le_left (Finset.le_sup (f := f) (Finset.mem_filter.mpr ⟨Finset.mem_univ _, hb, h2⟩))
    · refine le_max_of_le_right ?_
      obtain ⟨x, hx⟩ : ∃ x : ℕ, x < 16 ∧ a.val = 128 * k + (x * 8 + r.val) := ⟨(a.val - 128 * k) / 8, by omega, by omega⟩
      have e : f a = (fun x : Fin 16 => f ⟨128 * k + (x.val * 8 + r.val), by omega⟩) ⟨x, hx.1⟩ := congrArg f (Fin.ext hx.2)
      rw [e]
      exact Finset.le_sup (f := fun x : Fin 16 => f ⟨128 * k + (x.val * 8 + r.val), by omega⟩) (Finset.mem_univ _)

/-- The running maximum after `k` chunks. -/
theorem docChunks_at (hw : k1_chk1 t n) (h : n.toInt ≤ 512) (r : Fin 8) (v : Fin 512) : ∀ k, k ≤ (k1_t2_loop n).trips →
    docChunks t n hw z s w k1_pay5 k (ix2 r v)
      = (Finset.univ.filter fun a : Fin 512 => a.val < 128 * k ∧ a.val % 8 = r.val).sup (lgt t n z s w v)
  | 0, _ => by
    rw [docChunks_zero, k1_pay5_at, negInf]
    symm
    rw [Finset.filter_false_of_mem (fun a _ => by omega), Finset.sup_empty]
  | k + 1, hk => by
    have h4 : (k1_t2_loop n).trips ≤ 4 := t2_trips_le n h
    rw [docChunks_step t n z s w hw h k1_pay5 ⟨k, hk⟩ (by show k < 4; omega) r v, docChunks_at hw h r v k (Nat.le_of_succ_le hk)]
    exact sup_chunk _ k (by omega) r

/-- Tokens past the loop are masked. -/
theorem live_past (h : n.toInt ≤ 512) (a : Fin 512) (ha : 128 * (k1_t2_loop n).trips ≤ a.val) : ¬ live n a = 1 := by
  intro hl
  have hlt := (IntOp.cmpi_slt).1 hl
  rw [t2_trips n h] at ha
  have e : (BitVec.ofNat 32 a.val).toInt = a.val := by
    have := a.isLt
    have hn : (BitVec.ofNat 32 a.val).toNat = a.val := by rw [BitVec.toNat_ofNat]; exact Nat.mod_eq_of_lt (by omega)
    rw [BitVec.toInt_eq_toNat_of_lt (by rw [hn]; omega), hn]
  rw [e] at hlt
  have h0 : 0 ≤ n.toInt + 127 := by omega
  rw [Int.tdiv_eq_ediv_of_nonneg h0] at ha
  omega

/-- A document's row of the output. -/
theorem docRow_at (hw : k1_chk1 t n) (h : n.toInt ≤ 512) (b : Vec Ideal S1x512 .f32) (v : Fin 512) :
    docRow t n hw z s w b (ix2 0 v) = Ideal.log1p (max ((Finset.univ.sup (lgt t n z s w v)) + b (ix2 0 v)) 0) := by
  unfold docRow
  rw [t3_trips, docRest_zero, k1_pay8_at, negInf]
  have hb : View.ld b (Rect.unit (s := S1x512) ![0, 0] S1x512.size inb_S1x512_S1x512_0_0) (ix2 0 v) = b (ix2 0 v) :=
    View.ld_unit_apply_of b _ _ _ _ _ (fun i => by
      match i with
      | ⟨0, _⟩ => rfl
      | ⟨1, _⟩ => exact (Nat.zero_add _).symm)
  rw [hb]
  refine congrArg (fun u : EReal => Ideal.log1p (max (u + b (ix2 0 v)) 0)) ?_
  refine Eq.trans (b := Finset.univ.sup fun x : Fin 8 => docChunks t n hw z s w k1_pay5 (k1_t2_loop n).trips (ix2 x v)) rfl ?_
  refine le_antisymm (Finset.sup_le fun r _ => ?_) (Finset.sup_le fun a _ => ?_)
  · rw [docChunks_at t n z s w hw h r v _ le_rfl]
    exact Finset.sup_mono (Finset.subset_univ _)
  · by_cases ha : a.val < 128 * (k1_t2_loop n).trips
    · refine le_trans ?_ (Finset.le_sup (f := fun x : Fin 8 => docChunks t n hw z s w k1_pay5 (k1_t2_loop n).trips (ix2 x v))
        (Finset.mem_univ (⟨a.val % 8, by omega⟩ : Fin 8)))
      beta_reduce
      rw [docChunks_at t n z s w hw h _ v _ le_rfl]
      exact Finset.le_sup (f := lgt t n z s w v) (Finset.mem_filter.mpr ⟨Finset.mem_univ _, ha, rfl⟩)
    · have : lgt t n z s w v a = ⊥ := if_neg (live_past n h a (Nat.le_of_not_lt ha))
      rw [this]; exact bot_le

end Cert.KVal
-- ==== Proof.Value.Tile.lean ====
/- The output tile of one grid point, entry by entry. -/
module

public import proofs.«01_k».proof.Proof.Value.Unpack
public import proofs.«01_k».proof.Proof.Value.DocRow

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

/-- A sum over 768 by parity. -/
theorem sum_parity (f : Fin 768 → EReal) :
    ∑ k : Fin 768, f k = (∑ p : Fin 384, f ⟨p.val * 2, by omega⟩) + ∑ p : Fin 384, f ⟨p.val * 2 + 1, by omega⟩ := by
  rw [← Finset.sum_add_distrib, ← (finProdFinEquiv (m := 384) (n := 2)).sum_comp, Fintype.sum_prod_type]
  refine Finset.sum_congr rfl fun p _ => ?_
  rw [Fin.sum_univ_two]
  refine congrArg₂ (fun a b : EReal => a + b) (congrArg f (Fin.ext ?_)) (congrArg f (Fin.ext ?_))
  · show 0 + 2 * p.val = p.val * 2; omega
  · show 1 + 2 * p.val = p.val * 2 + 1; omega

/-- A token against an unpacked column. -/
theorem dot_wt (z : Fin 768 → EReal) (x4 : Vec Ideal S512x384 .i8) (x5 : Vec Ideal S512x6 .f32) (v : Fin 512) :
    ∑ k : Fin 768, z k * wt x4 x5 k v = dotp z (fun p => x4 (ix2 v p)) (fun g => x5 (ix2 v g)) := by
  rw [sum_parity]
  unfold dotp
  have hs : ∀ (g g' : Fin 6), g = g' → x5 (ix2 v g) = x5 (ix2 v g') := fun _ _ e => by rw [e]
  have hx : ∀ (p p' : Fin 384), p = p' → x4 (ix2 v p) = x4 (ix2 v p') := fun _ _ e => by rw [e]
  have h2 : ∀ (q : ℕ) (u u' : BitVec 8), u = u' → nib q u = nib q u' := fun _ _ _ e => by rw [e]
  refine congrArg₂ (fun a b : EReal => a + b) (Finset.sum_congr rfl fun p _ => ?_) (Finset.sum_congr rfl fun p _ => ?_)
  · refine congrArg (fun u : EReal => z _ * u) ?_
    unfold wt
    refine congrArg₂ (fun a b : EReal => a * b) ?_ (hs _ _ (Fin.ext (by show p.val * 2 / 128 = p.val / 64; omega)))
    refine (h2 _ _ _ (hx _ p (Fin.ext (by show p.val * 2 / 2 = p.val; omega)))).trans ?_
    exact if_pos (by show p.val * 2 % 2 = 0; omega)
  · refine congrArg (fun u : EReal => z _ * u) ?_
    unfold wt
    refine congrArg₂ (fun a b : EReal => a * b) ?_ (hs _ _ (Fin.ext (by show (p.val * 2 + 1) / 128 = p.val / 64; omega)))
    refine (h2 _ _ _ (hx _ p (Fin.ext (by show (p.val * 2 + 1) / 2 = p.val; omega)))).trans ?_
    exact if_neg (by show ¬ (p.val * 2 + 1) % 2 = 0; omega)

theorem off1_eq (t : Fin k1_t1_loop.trips) : k1_off1 t = ![t.val] :=
  (by decide +kernel : ∀ t : Fin k1_t1_loop.trips, k1_off1 t = ![t.val]) t

/-- The length read for a document is its entry. -/
theorem lenAt_at (x : Vec Ideal S32 .i32) (t : Fin k1_t1_loop.trips) : lenAt x t = x (ix1 (doc t)) := by
  unfold lenAt
  refine View.ld_unit_apply_of x _ _ _ _ _ (fun i => ?_)
  refine Eq.trans ?_ (congrArg (fun o => o + _) (congrFun (off1_eq t) i).symm)
  match i with
  | ⟨0, _⟩ => rfl

variable (x1 : Vec Ideal S32 .i32) (hl : LensOK x1) (x2 : Vec Ideal S32x512x768 .fp8e4m3) (x3 : Vec Ideal S32x512x128 .f32)
  (x4 : Vec Ideal S512x384 .i8) (x5 : Vec Ideal S512x6 .f32) (x6 : Vec Ideal S1x512 .f32)

/-- A document's row, in plain formulas. -/
theorem row_rep (h : ∀ t, (lenAt x1 t).toInt ≤ 512) (t : Fin k1_t1_loop.trips) (v : Fin 512) :
    docRow t (lenAt x1 t) (hl t) x2 x3 (scr x4 x5) x6 (ix2 0 v)
      = repOf (fun a k => x2 (ix3 (doc t) a k)) (fun a => x3 (ix3 (doc t) a 0)) (x1 (ix1 (doc t)))
          (fun p => x4 (ix2 v p)) (fun g => x5 (ix2 v g)) (x6 (ix2 0 v)) := by
  rw [docRow_at t _ x2 x3 (scr x4 x5) (hl t) (h t)]
  unfold repOf
  refine congrArg (fun u : EReal => Ideal.log1p (max (u + x6 (ix2 0 v)) 0)) ?_
  unfold top
  refine congrArg (Finset.univ.sup) (funext fun a => ?_)
  unfold lgt
  rw [lenAt_at]
  have : (∑ k : Fin 768, x2 (ix3 (doc t) a k) * scr x4 x5 (ix2 k v)) = dotp (fun k => x2 (ix3 (doc t) a k)) (fun p => x4 (ix2 v p)) (fun g => x5 (ix2 v g)) := by
    rw [← dot_wt]
    refine Finset.sum_congr rfl fun k _ => ?_
    rw [scr_at]; rfl
  rw [this]

theorem rows_all (y : S32x512.Idx) (u : Elt Ideal .f32) (w : Vec Ideal S768x512 .bf16)
    (hr : ∀ (t : Fin k1_t1_loop.trips) (x : S1x512.Idx), (y 0).val = t.val → (y 1).val = (x 1).val →
      docRow t (lenAt x1 t) (hl t) x2 x3 w x6 x = u) : ∀ k, View.AllAt (docRows x1 hl x2 x3 w x6 k) y u
  | 0 => fun p hp => absurd (show p ∈ ([] : List (View.Piece (Elt Ideal) S32x512 .f32)) from hp) List.not_mem_nil
  | k + 1 => by
    rw [docRows]
    by_cases hk : k < k1_t1_loop.trips
    · rw [dif_pos hk]
      refine View.allAt_cons_unit _ _ _ _ _ (fun x hx => ?_) (rows_all y u w hr k)
      have h0 := (hx 0).trans (congrArg (fun o => o + _) (congrFun (off6_eq ⟨k, hk⟩) 0))
      have h1 := (hx 1).trans (congrArg (fun o => o + _) (congrFun (off6_eq ⟨k, hk⟩) 1))
      have hx0 : (x 0).val < 1 := (x 0).isLt
      exact hr ⟨k, hk⟩ x (h0.trans (by show k + (x 0).val = k; omega)) (h1.trans (Nat.zero_add _))
    · rw [dif_neg hk]; exact rows_all y u w hr k

/-- An entry of the output tile. -/
theorem tile_at (h : ∀ t, (lenAt x1 t).toInt ≤ 512) (d : Fin 32) (v : Fin 512) :
    tile x1 hl x2 x3 x4 x5 x6 (ix2 d v)
      = repOf (fun a k => x2 (ix3 d a k)) (fun a => x3 (ix3 d a 0)) (x1 (ix1 d))
          (fun p => x4 (ix2 v p)) (fun g => x5 (ix2 v g)) (x6 (ix2 0 v)) := by
  unfold tile
  refine View.canon_eq_of_allAt _ _ _ (docRows_cover _ _ _ _ _ _ _) (rows_all x1 hl x2 x3 x6 _ _ _ (fun t x h0 h1 => ?_) 32)
  have hx : x = ix2 0 v := by
    funext i
    match i with
    | ⟨0, _⟩ => exact Fin.ext (Nat.lt_one_iff.mp (x 0).isLt)
    | ⟨1, _⟩ => exact Fin.ext h1.symm
  have hd : doc t = d := Fin.ext h0.symm
  rw [hx, row_rep x1 hl x2 x3 x4 x5 x6 h t v, hd]

end Cert.KVal
-- ==== Proof.Value.RepArray.lean ====
/- The scores' array after the call that computes them. -/
module

public import proofs.«01_k».proof.Proof.Value.Tile
public import proofs.«01_k».proof.Proof.KernelIdeal.Region1
public import Idealize.ShloMosaic.Lib.Pipeline.ArrRel
public import Idealize.ShloMosaic.Lib.Pipeline.Covers
public import Idealize.ShloMosaic.Lib.Pipeline.ValueKit
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1
variable (V : (c : Dev nD) → (b : Ref sig .tc) → Buf (Elt Ideal) ((c : Thread nD τ).loc b)) (a : (pcfg1 (F := Ideal)).Adm)

/-- A filled block at an index of its filled part. -/
theorem fill_at {sig : RefSig} {G : Pipeline.Grid} (w : Pipeline.Window sig G) {α : Type} (i : G.Coords) (d : w.block.Idx → α) (g : (w.xblock i).Idx → α)
    (j : w.block.Idx) (h : ∀ a, (j a).val < w.xsize i a) : w.fill i d g j = g fun a => ⟨(j a).val, h a⟩ := by
  unfold Pipeline.Window.fill
  rw [dif_pos ((w.moved_iff i j).mpr h)]

/-- The scores the arrays before the call determine. -/
def repArr (c : Dev nD) : S32x50368.Idx → EReal := fun i =>
  repOf (fun t k => V c main_v5_0 (ix3 (i 0) t k)) (fun t => V c main_v5_2 (ix3 (i 0) t 0)) (lens1 a (ix1 (i 0)))
    (fun p => V c main_arg8 (ix2 (i 1) p)) (fun g => V c main_arg9 (ix2 (i 1) g)) (V c main_v6 (ix2 0 (i 1)))

/-- Which block each window works on at each point. -/
theorem idx1 : ∀ t : Fin grid1.N, (cc1_transform_0 (grid1.coords t) = ![0, 0, 0] ∧ cc1_transform_1 (grid1.coords t) = ![0, 0, 0] ∧ cc1_transform_2 (grid1.coords t) = ![t.val, 0]
   ∧ cc1_transform_3 (grid1.coords t) = ![t.val, 0] ∧ cc1_transform_4 (grid1.coords t) = ![0, t.val] ∧ cc1_transform_5 (grid1.coords t) = ![0, t.val]) := by decide +kernel

/-- The part of the packed rows' block inside the array. -/
theorem ext2 : ∀ t : Fin grid1.N, ∀ a : Fin 2, (Pipeline.Clip.of (cc1_transform_2 (grid1.coords t) a) (S512x384.size a) (S50368x384.size a)).extent (S512x384.size a)
    = ![min 512 (50368 - 512 * t.val), 384] a := by decide +kernel

/-- An element of the packed rows' block inside the array. -/
theorem x4_at (c : Dev nD) (t : Fin (cfg1 a).N) (d) (v : Fin 512) (p : Fin 384) (hv : t.val * 512 + v.val < 50368) :
    x4At V a c t d (ix2 v p) = V c main_arg8 (ix2 ⟨t.val * 512 + v.val, hv⟩ p) := by
  refine (fill_at ((cfg1 a).win 2) _ _ _ _ fun b => ?_).trans (congrArg (V c main_arg8) (funext fun b => Fin.ext ?_))
  · refine lt_of_lt_of_eq ?_ (ext2 t b).symm
    match b with
    | ⟨0, _⟩ => show v.val < min 512 (50368 - 512 * t.val); have := v.isLt; omega
    | ⟨1, _⟩ => exact p.isLt
  refine (((cfg1 a).win 2).rect_emb_val_off t _ b).trans ?_
  have h := congrFun (idx1 t).2.2.1 b
  match b, h with
  | ⟨0, _⟩, h => exact congrArg (fun o => o * 512 + v.val) h
  | ⟨1, _⟩, h => exact (congrArg (fun o => o * 384 + p.val) h).trans (by simp)

/-- The part of the group scales' block inside the array. -/
theorem ext3 : ∀ t : Fin grid1.N, ∀ a : Fin 2, (Pipeline.Clip.of (cc1_transform_3 (grid1.coords t) a) (S512x6.size a) (S50368x6.size a)).extent (S512x6.size a)
    = ![min 512 (50368 - 512 * t.val), 6] a := by decide +kernel

/-- An element of the group scales' block inside the array. -/
theorem x5_at (c : Dev nD) (t : Fin (cfg1 a).N) (d) (v : Fin 512) (p : Fin 6) (hv : t.val * 512 + v.val < 50368) :
    x5At V a c t d (ix2 v p) = V c main_arg9 (ix2 ⟨t.val * 512 + v.val, hv⟩ p) := by
  refine (fill_at ((cfg1 a).win 3) _ _ _ _ fun b => ?_).trans (congrArg (V c main_arg9) (funext fun b => Fin.ext ?_))
  · refine lt_of_lt_of_eq ?_ (ext3 t b).symm
    match b with
    | ⟨0, _⟩ => show v.val < min 512 (50368 - 512 * t.val); have := v.isLt; omega
    | ⟨1, _⟩ => exact p.isLt
  refine (((cfg1 a).win 3).rect_emb_val_off t _ b).trans ?_
  have h := congrFun (idx1 t).2.2.2.1 b
  match b, h with
  | ⟨0, _⟩, h => exact congrArg (fun o => o * 512 + v.val) h
  | ⟨1, _⟩, h => exact (congrArg (fun o => o * 6 + p.val) h).trans (by simp)

/-- The part of the biases' block inside the array. -/
theorem ext4 : ∀ t : Fin grid1.N, ∀ a : Fin 2, (Pipeline.Clip.of (cc1_transform_4 (grid1.coords t) a) (S1x512.size a) (S1x50368.size a)).extent (S1x512.size a)
    = ![1, min 512 (50368 - 512 * t.val)] a := by decide +kernel

/-- An element of the biases' block inside the array. -/
theorem x6_at (c : Dev nD) (t : Fin (cfg1 a).N) (d) (v : Fin 512) (hv : t.val * 512 + v.val < 50368) :
    x6At V a c t d (ix2 0 v) = V c main_v6 (ix2 0 ⟨t.val * 512 + v.val, hv⟩) := by
  refine (fill_at ((cfg1 a).win 4) _ _ _ _ fun b => ?_).trans (congrArg (V c main_v6) (funext fun b => Fin.ext ?_))
  · refine lt_of_lt_of_eq ?_ (ext4 t b).symm
    match b with
    | ⟨0, _⟩ => exact Nat.zero_lt_one
    | ⟨1, _⟩ => show v.val < min 512 (50368 - 512 * t.val); have := v.isLt; omega
  refine (((cfg1 a).win 4).rect_emb_val_off t _ b).trans ?_
  have h := congrFun (idx1 t).2.2.2.2.1 b
  match b, h with
  | ⟨0, _⟩, h => exact congrArg (fun o => o * 1 + 0) h
  | ⟨1, _⟩, h => exact congrArg (fun o => o * 512 + v.val) h

/-- The part of the output's block inside the array. -/
theorem ext5 : ∀ t : Fin grid1.N, ∀ a : Fin 2, (Pipeline.Clip.of (cc1_transform_5 (grid1.coords t) a) (S32x512.size a) (S32x50368.size a)).extent (S32x512.size a)
    = ![32, min 512 (50368 - 512 * t.val)] a := by decide +kernel

/-- The codes, fetched whole. -/
theorem zc_at (c : Dev nD) (t : Fin (cfg1 a).N) (d : Fin 32) (r : Fin 512) (k : Fin 768) : iblk1 V a c 0 t (ix3 d r k) = V c main_v5_0 (ix3 d r k) := by
  refine congrArg (V c main_v5_0) (funext fun b => Fin.ext ?_)
  refine ((cfg1 a).win 0).rect_emb_val_of_index_zero t b ?_ _
  have h := congrFun (idx1 t).1 b
  match b, h with
  | ⟨0, _⟩, h => exact h
  | ⟨1, _⟩, h => exact h
  | ⟨2, _⟩, h => exact h

/-- The scales, fetched whole. -/
theorem zt_at (c : Dev nD) (t : Fin (cfg1 a).N) (d : Fin 32) (r : Fin 512) (k : Fin 128) : iblk1 V a c 1 t (ix3 d r k) = V c main_v5_2 (ix3 d r k) := by
  refine congrArg (V c main_v5_2) (funext fun b => Fin.ext ?_)
  refine ((cfg1 a).win 1).rect_emb_val_of_index_zero t b ?_ _
  have h := congrFun (idx1 t).2.1 b
  match b, h with
  | ⟨0, _⟩, h => exact h
  | ⟨1, _⟩, h => exact h
  | ⟨2, _⟩, h => exact h

/-- The blocks written cover the array. -/
theorem cov5 : ((cfg1 a).win 5).Covers := by
  refine ((cfg1 a).win 5).covers_of_indexMap_surj rfl (fun b => ?_) fun β => ?_
  · match b with
    | ⟨0, _⟩ => exact Nat.succ_pos 31
    | ⟨1, _⟩ => exact Nat.succ_pos 511
  · have h1 : (β (1 : Fin 2)).val < 99 := (β (1 : Fin 2)).isLt.trans_eq (show (50368 + 512 - 1) / 512 = 99 by norm_num)
    have h0 : (β (0 : Fin 2)).val < 1 := (β (0 : Fin 2)).isLt.trans_eq (show (32 + 32 - 1) / 32 = 1 by norm_num)
    refine ⟨grid1.coords ⟨(β (1 : Fin 2)).val, h1⟩, fun b => ?_⟩
    have h := congrFun (idx1 ⟨(β (1 : Fin 2)).val, h1⟩).2.2.2.2.2 b
    match b, h with
    | ⟨0, _⟩, h => exact h.trans (by show 0 = (β (0 : Fin 2)).val; omega)
    | ⟨1, _⟩, h => exact h

/-- An index of the tile, as the body sees it. -/
theorem xinj5 (t : Fin (cfg1 a).N) (y : (((cfg1 a).win 5).xblock ((cfg1 a).grid.coords t)).Idx) (h0 : (y (0 : Fin 2)).val < 32) (h1 : (y (1 : Fin 2)).val < 512) :
    ((cfg1 a).win 5).xinj ((cfg1 a).grid.coords t) y = ix2 (⟨(y (0 : Fin 2)).val, h0⟩ : Fin 32) (⟨(y (1 : Fin 2)).val, h1⟩ : Fin 512) := by
  funext b
  match b with
  | ⟨0, _⟩ => rfl
  | ⟨1, _⟩ => rfl

/-- Where an element of the tile lies in the array. -/
theorem emb5 (t : Fin (cfg1 a).N) (y : (((cfg1 a).win 5).xblock ((cfg1 a).grid.coords t)).Idx) (h0 : (y (0 : Fin 2)).val < 32)
    (hv : t.val * 512 + (y (1 : Fin 2)).val < 50368) :
    (((cfg1 a).win 5).blk t).view.emb y = ix2 (⟨(y (0 : Fin 2)).val, h0⟩ : Fin 32) (⟨t.val * 512 + (y (1 : Fin 2)).val, hv⟩ : Fin 50368) := by
  funext b
  refine Fin.ext ?_
  refine (((cfg1 a).win 5).rect_emb_val_off t _ b).trans ?_
  have h := congrFun (idx1 t).2.2.2.2.2 b
  match b, h with
  | ⟨0, _⟩, h => exact (congrArg (fun o => o * 32 + (y (0 : Fin 2)).val) h).trans (by simp)
  | ⟨1, _⟩, h => exact congrArg (fun o => o * 512 + (y (1 : Fin 2)).val) h

/-- A tile's entry is the score it stands for. -/
theorem tile_rep (c : Dev nD) (hl : ∀ t, (lens1 a t).toInt ≤ 512) (t : Fin (cfg1 a).N) (X : Vec Ideal S32x512 .f32) (hR : OutRel V a c t X)
    (d : Fin 32) (v : Fin 512) (hv : t.val * 512 + v.val < 50368) : X (ix2 d v) = repArr V a c (ix2 d ⟨t.val * 512 + v.val, hv⟩) := by
  obtain ⟨hl', d2, d3, d4, e⟩ := hR
  rw [e]
  refine (tile_at _ hl' _ _ _ _ _ (fun u => by rw [lenAt_at]; exact hl _) _ _).trans ?_
  unfold repArr
  refine congr (congr (congr (congr (congr (congrArg repOf ?_) ?_) rfl) ?_) ?_) ?_
  · funext r k; exact zc_at V a c t _ r k
  · funext r; exact zt_at V a c t _ r 0
  · funext p; exact x4_at V a c t d2 _ p hv
  · funext p; exact x5_at V a c t d3 _ p hv
  · exact x6_at V a c t d4 _ hv

/-- THE SCORES: whatever the blocks held past the array's end, the array after the call is `repArr`. -/
theorem rep_arr (c : Dev nD) (hl : ∀ t, (lens1 a t).toInt ≤ 512) (G : Buf (Elt Ideal) (((cfg1 a).win 5).arr.view.loc (c.tc : Thread nD τ)))
    (hG : ((dat1 V a c).toRRel fgt1 (Rl1 V a c)).ArrAt 5 (cfg1 a).N G) : G = repArr V a c := by
  obtain ⟨X, hX, hA⟩ := hG.exists_exact
  rw [hA (Function.update (fun _ _ _ => Classical.arbitrary _) 5 X) fun u _ _ => by rw [Function.update_self]]
  refine Pipeline.Dat.arrAt_eq_of_covers _ 5 _ (cov5 a) fun t hf y => ?_
  have hR : OutRel V a c t (X t) := (dat1 V a c).toRRel_leaves rfl (hX t t.isLt hf)
  rw [Pipeline.RDat.withAfter_after, Function.update_self]
  have hb : ∀ b : Fin 2, (y b).val < ![32, min 512 (50368 - 512 * t.val)] b := fun b => (y b).isLt.trans_eq (ext5 t b)
  have h0 : (y (0 : Fin 2)).val < 32 := hb 0
  have h1 : (y (1 : Fin 2)).val < min 512 (50368 - 512 * t.val) := hb 1
  have h2 : (y (1 : Fin 2)).val < 512 := by omega
  have hv : t.val * 512 + (y (1 : Fin 2)).val < 50368 := by omega
  exact (congrArg (X t) (xinj5 a t y h0 h2)).trans ((tile_rep V a c hl t (X t) hR _ _ hv).trans (congrArg (repArr V a c) (emb5 a t y h0 hv)).symm)

end Cert.KVal
-- ==== Proof.Value.Host.lean ====
/- What the host's reshapes leave in memory. -/
module

public import proofs.«01_k».proof.Proof.KernelIdeal.Run
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

variable (W : Valuation τ sig (Elt Ideal))

/-- What `main_v0` holds afterwards: the scales of the tokens' codes, reshaped. -/
theorem host_main_v0 : StableHlo.after (hostOps0 (F := Ideal)) W (Proc.devRef .tc main_v0) = shapeCast S32x1x512 (W (Proc.devRef .tc main_arg1)) shapeCasts_S32x512_S32x1x512 := by
  after_results <;> rfl
/-- What `main_v1` holds afterwards: the scales of the dense layer's columns, reshaped. -/
theorem host_main_v1 : StableHlo.after (hostOps0 (F := Ideal)) W (Proc.devRef .tc main_v1) = shapeCast S1x768 (W (Proc.devRef .tc main_arg4)) shapeCasts_S768_S1x768 := by
  after_results <;> rfl
/-- What `main_v2` holds afterwards: the bias, reshaped. -/
theorem host_main_v2 : StableHlo.after (hostOps0 (F := Ideal)) W (Proc.devRef .tc main_v2) = shapeCast S1x768 (W (Proc.devRef .tc main_arg5)) shapeCasts_S768_S1x768 := by
  after_results <;> rfl
/-- What `main_v3` holds afterwards: the normalisation's factors, reshaped. -/
theorem host_main_v3 : StableHlo.after (hostOps0 (F := Ideal)) W (Proc.devRef .tc main_v3) = shapeCast S1x768 (W (Proc.devRef .tc main_arg6)) shapeCasts_S768_S1x768 := by
  after_results <;> rfl
/-- What `main_v4` holds afterwards: its offsets, reshaped. -/
theorem host_main_v4 : StableHlo.after (hostOps0 (F := Ideal)) W (Proc.devRef .tc main_v4) = shapeCast S1x768 (W (Proc.devRef .tc main_arg7)) shapeCasts_S768_S1x768 := by
  after_results <;> rfl
/-- What `main_v6` holds afterwards: the vocabulary's bias, reshaped. -/
theorem host_main_v6 : StableHlo.after (hostOps1 (F := Ideal)) W (Proc.devRef .tc main_v6) = shapeCast S1x50368 (W (Proc.devRef .tc main_arg10)) shapeCasts_S50368_S1x50368 := by
  after_results <;> rfl
/-- What `main_v9` holds afterwards: the sums, reshaped. -/
theorem host_main_v9 : StableHlo.after (hostOps3 (F := Ideal)) W (Proc.devRef .tc main_v9) = shapeCast S32 (W (Proc.devRef .tc main_v8_0)) shapeCasts_S32x1_S32 := by
  after_results <;> rfl
/-- What `main_v10` holds afterwards: the means, reshaped. -/
theorem host_main_v10 : StableHlo.after (hostOps3 (F := Ideal)) W (Proc.devRef .tc main_v10) = shapeCast S50368 (W (Proc.devRef .tc main_v8_1)) shapeCasts_S1x50368_S50368 := by
  after_results <;> rfl
/-- What `main_v11` holds afterwards: the sum of squares, reshaped. -/
theorem host_main_v11 : StableHlo.after (hostOps3 (F := Ideal)) W (Proc.devRef .tc main_v11) = shapeCast S_ (W (Proc.devRef .tc main_v8_2)) shapeCasts_S1x1_S_ := by
  after_results <;> rfl
/-- What `main_v12` holds afterwards: the new scales, reshaped. -/
theorem host_main_v12 : StableHlo.after (hostOps3 (F := Ideal)) W (Proc.devRef .tc main_v12) = shapeCast S32x512 (W (Proc.devRef .tc main_v5_1)) shapeCasts_S32x1x512_S32x512 := by
  after_results <;> rfl
/-- What `main_v13` holds afterwards: the impacts' scales, reshaped. -/
theorem host_main_v13 : StableHlo.after (hostOps3 (F := Ideal)) W (Proc.devRef .tc main_v13) = shapeCast S32 (W (Proc.devRef .tc main_v8_4)) shapeCasts_S32x1_S32 := by
  after_results <;> rfl

/-- The reshapes, index by index. -/
theorem cast_xs (x : FVec Ideal S32x512 .f32) (d : Fin 32) (t : Fin 512) : shapeCast S32x1x512 x shapeCasts_S32x512_S32x1x512 (ix3 d 0 t) = x (ix2 d t) := by
  pointwise
/-- A unit axis between two others dropped. -/
theorem cast_zs (x : FVec Ideal S32x1x512 .f32) (d : Fin 32) (t : Fin 512) : shapeCast S32x512 x shapeCasts_S32x1x512_S32x512 (ix2 d t) = x (ix3 d 0 t) := by
  pointwise
/-- A vector of 768 as a row. -/
theorem cast_row (x : FVec Ideal S768 .f32) (n : Fin 768) : shapeCast S1x768 x shapeCasts_S768_S1x768 (ix2 0 n) = x (ix1 n) := by
  pointwise
/-- A vector of 50368 as a row. -/
theorem cast_bv (x : FVec Ideal S50368 .f32) (n : Fin 50368) : shapeCast S1x50368 x shapeCasts_S50368_S1x50368 (ix2 0 n) = x (ix1 n) := by
  pointwise
/-- A row as a vector. -/
theorem cast_mean (x : FVec Ideal S1x50368 .f32) (n : Fin 50368) : shapeCast S50368 x shapeCasts_S1x50368_S50368 (ix1 n) = x (ix2 0 n) := by
  pointwise
/-- A column as a vector. -/
theorem cast_col (x : FVec Ideal S32x1 .f32) (n : Fin 32) : shapeCast S32 x shapeCasts_S32x1_S32 (ix1 n) = x (ix2 n 0) := by
  pointwise

end Cert.KVal
-- ==== Proof.Value.Head.lean ====
/- What kernel and reference compute of the eleven arguments: the tokens' codes and scales, and the scores. -/
module

public import proofs.«01_k».proof.Proof.Value.SpecRep
public import proofs.«01_k».proof.Proof.Value.SpecStats
public import Idealize.ShloMosaic.Lib.Pointwise

@[expose] public section

set_option maxRecDepth 16384

noncomputable section

open Idealize.ShloMosaic Idealize.ShloMosaic.TcCoe Idealize.SL.Sem
namespace Cert.Val

variable (x0 : Vec Ideal ⟨3, ![32, 512, 768]⟩ .fp8e4m3) (x1 : Vec Ideal ⟨2, ![32, 512]⟩ .f32) (x2 : Vec Ideal ⟨1, ![32]⟩ .i32)
  (x3 : Vec Ideal ⟨2, ![768, 768]⟩ .fp8e4m3) (x4 x5 x6 x7 : Vec Ideal ⟨1, ![768]⟩ .f32) (x8 : Vec Ideal ⟨2, ![50368, 384]⟩ .i8)
  (x9 : Vec Ideal ⟨2, ![50368, 6]⟩ .f32) (x10 : Vec Ideal ⟨1, ![50368]⟩ .f32)

/-- Token `t` of document `d`: its row before the quantisation. -/
def tok (d : Fin 32) (t : Fin 512) : Fin 768 → EReal :=
  yRow (fun k => x0 (ix3 d t k)) (fun k n => x3 (ix2 k n)) (x1 (ix2 d t)) (fun n => x4 (ix1 n)) (fun n => x5 (ix1 n)) (fun n => x6 (ix1 n)) (fun n => x7 (ix1 n))

/-- The score of document `d` and word `v`. -/
def score (d : Fin 32) (v : Fin 50368) : EReal :=
  repOf (fun t k => zCode (tok x0 x1 x3 x4 x5 x6 x7 d t) k) (fun t => zScale (tok x0 x1 x3 x4 x5 x6 x7 d t)) (x2 (ix1 d)) (fun p => x8 (ix2 v p)) (fun g => x9 (ix2 v g)) (x10 (ix1 v))

end Cert.Val
-- ==== Proof.Value.KernelOut.lean ====
/- The kernel's results in memory, of the arguments in memory. -/
module

public import proofs.«01_k».proof.Proof.KernelIdeal.Run
public import proofs.«01_k».proof.Proof.Value.Arrays0
public import proofs.«01_k».proof.Proof.Value.Arrays2
public import proofs.«01_k».proof.Proof.Value.RepArray
public import proofs.«01_k».proof.Proof.Value.Host
public import proofs.«01_k».proof.Proof.Value.Head
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.KVal
open Cert.KernelIdeal.Gen Cert.Val
open Cert.KernelIdeal hiding ix1

variable (m : (ℓ : Loc nD τ sig) → Buf (Elt Ideal) ℓ)

/-- The score of document `d` and word `v`, of the arguments in memory. -/
def scoreA (c : Dev nD) (d : Fin 32) (v : Fin 50368) : EReal :=
  score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) d v

/-- A token's row, of the arguments in memory. -/
def tokA (c : Dev nD) (d : Fin 32) (t : Fin 512) : Fin 768 → EReal :=
  tok (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) d t

/-- The first call reads the arguments, some of them reshaped. -/
theorem tok_eq (c : Dev nD) (d : Fin 32) (t : Fin 512) : tokRow (V1 m) c d t = tokA m c d t := by
  have h0 := W1_args m c main_arg0 (by decide)
  have h3 := W1_args m c main_arg3 (by decide)
  have e0 : (fun k => V1 m c main_arg0 (ix3 d t k)) = fun k : Fin 768 => (m ((c : Thread nD τ).loc main_arg0)) (ix3 d t k) := funext fun k => congrFun h0 _
  have e3 : (fun k n => V1 m c main_arg3 (ix2 k n)) = fun k n : Fin 768 => (m ((c : Thread nD τ).loc main_arg3)) (ix2 k n) := funext fun k => funext fun n => congrFun h3 _
  have e1 : V1 m c main_v0 (ix3 d 0 t) = (m ((c : Thread nD τ).loc main_arg1)) (ix2 d t) := (congrFun (host_main_v0 (W0 m c)) _).trans (cast_xs _ d t)
  have e4 : (fun n => V1 m c main_v1 (ix2 0 n)) = fun n : Fin 768 => (m ((c : Thread nD τ).loc main_arg4)) (ix1 n) := funext fun n => (congrFun (host_main_v1 (W0 m c)) _).trans (cast_row _ n)
  have e5 : (fun n => V1 m c main_v2 (ix2 0 n)) = fun n : Fin 768 => (m ((c : Thread nD τ).loc main_arg5)) (ix1 n) := funext fun n => (congrFun (host_main_v2 (W0 m c)) _).trans (cast_row _ n)
  have e6 : (fun n => V1 m c main_v3 (ix2 0 n)) = fun n : Fin 768 => (m ((c : Thread nD τ).loc main_arg6)) (ix1 n) := funext fun n => (congrFun (host_main_v3 (W0 m c)) _).trans (cast_row _ n)
  have e7 : (fun n => V1 m c main_v4 (ix2 0 n)) = fun n : Fin 768 => (m ((c : Thread nD τ).loc main_arg7)) (ix1 n) := funext fun n => (congrFun (host_main_v4 (W0 m c)) _).trans (cast_row _ n)
  unfold tokRow tokA tok
  exact congr (congr (congr (congr (congr (congr (congrArg yRow e0) e3) e1) e4) e5) e6) e7

/-- The codes as the second call and the caller find them. -/
theorem codes2 (c : Dev nD) : W2 m c (Proc.devRef .tc main_v5_0) = fun i : S32x512x768.Idx => zCode (tokA m c (i 0) (i 1)) (i 2) := by
  refine (W2_arr m c 7).trans ((zc_arr (V1 m) c).trans (funext fun i => ?_))
  exact congrFun (congrArg zCode (tok_eq m c (i 0) (i 1))) (i 2)
/-- The codes' scales, as the first call leaves them. -/
theorem scales2 (c : Dev nD) : W2 m c (Proc.devRef .tc main_v5_1) = fun i : S32x1x512.Idx => zScale (tokA m c (i 0) (i 2)) := by
  refine (W2_arr m c 8).trans ((zs_arr (V1 m) c).trans (funext fun i => ?_))
  exact congrArg zScale (tok_eq m c (i 0) (i 2))
/-- The same scales, each repeated over 128 lanes. -/
theorem lanes2 (c : Dev nD) : W2 m c (Proc.devRef .tc main_v5_2) = fun i : S32x512x128.Idx => zScale (tokA m c (i 0) (i 1)) := by
  refine (W2_arr m c 9).trans ((zt_arr (V1 m) c).trans (funext fun i => ?_))
  exact congrArg zScale (tok_eq m c (i 0) (i 1))

/-- The lengths the second call prefetched. -/
theorem lens_eq (c : Dev nD) (d : Fin 32) : lens1 (adm1 m) (ix1 d) = (m ((c : Thread nD τ).loc main_arg2)) (ix1 d) := by
  obtain rfl := dev_eq c
  rfl

/-- The scores, over what the second call finds. -/
theorem repArr_eq (c : Dev nD) : repArr (V3 m) (adm1 m) c = fun i : S32x50368.Idx => scoreA m c (i 0) (i 1) := by
  funext i
  have h0 := (W3_of m c main_v5_0 (by decide)).trans (codes2 m c)
  have h2 := (W3_of m c main_v5_2 (by decide)).trans (lanes2 m c)
  have h8 := W3_args m c main_arg8 (by decide)
  have h9 := W3_args m c main_arg9 (by decide)
  have h10 := W2_args m c main_arg10 (by decide)
  have e0 : (fun t k => V3 m c main_v5_0 (ix3 (i 0) t k)) = fun t k => zCode (tokA m c (i 0) t) k := funext fun t => funext fun k => congrFun h0 _
  have e2 : (fun t => V3 m c main_v5_2 (ix3 (i 0) t 0)) = fun t => zScale (tokA m c (i 0) t) := funext fun t => congrFun h2 _
  have e8 : (fun p => V3 m c main_arg8 (ix2 (i 1) p)) = fun p : Fin 384 => (m ((c : Thread nD τ).loc main_arg8)) (ix2 (i 1) p) := funext fun p => congrFun h8 _
  have e9 : (fun g => V3 m c main_arg9 (ix2 (i 1) g)) = fun g : Fin 6 => (m ((c : Thread nD τ).loc main_arg9)) (ix2 (i 1) g) := funext fun g => congrFun h9 _
  have e10 : V3 m c main_v6 (ix2 0 (i 1)) = (m ((c : Thread nD τ).loc main_arg10)) (ix1 (i 1)) := (congrFun (host_main_v6 (W2 m c)) _).trans ((cast_bv _ (i 1)).trans (congrFun h10 _))
  unfold repArr scoreA score
  exact congr (congr (congr (congr (congr (congrArg repOf e0) e2) (lens_eq m c (i 0))) e8) e9) e10

variable (γ : Gam m) (hl : ∀ t, (lens1 (adm1 m) t).toInt ≤ 512)
include hl

/-- The scores as the third call finds them. -/
theorem rep4 (c : Dev nD) : W4 m γ c (Proc.devRef .tc main_v7) = fun i : S32x50368.Idx => scoreA m c (i 0) (i 1) :=
  (W4_arr m γ c 5).trans ((rep_arr (V3 m) (adm1 m) c hl (γ.1 c 5) (γ.2 c 5)).trans (repArr_eq m c))

/-- One score of them. -/
theorem rep4_at (c : Dev nD) (d : Fin 32) (v : Fin 50368) : V4 m γ c main_v7 (ix2 d v) = scoreA m c d v := congrFun (rep4 m γ hl c) _

/-- The scores. -/
theorem out_rep (c : Dev nD) : W6 m γ c (Proc.devRef .tc main_v7) = fun i : S32x50368.Idx => scoreA m c (i 0) (i 1) :=
  (W6_of m γ c main_v7 (by decide)).trans ((W5_of m γ c main_v7 (by decide +kernel)).trans (rep4 m γ hl c))

/-- Each document's sum. -/
theorem out_l1 (c : Dev nD) : W6 m γ c (Proc.devRef .tc main_v9) = fun y : S32.Idx => l1Of fun v => scoreA m c (y 0) v := by
  refine (host_main_v9 (W5 m γ c)).trans (funext fun y => ?_)
  refine (congrArg (shapeCast S32 _ shapeCasts_S32x1_S32) (eq_ix1 y)).trans ((cast_col _ (y 0)).trans ?_)
  refine (congrFun ((W5_arr m γ c 1).trans (arr2_1 (V4 m γ) c)) _).trans ?_
  exact congrArg l1Of (funext fun v => rep4_at m γ hl c (y 0) v)

/-- Each word's mean. -/
theorem out_mean (c : Dev nD) : W6 m γ c (Proc.devRef .tc main_v10) = fun y : S50368.Idx => meanOf fun d => scoreA m c d (y 0) := by
  refine (host_main_v10 (W5 m γ c)).trans (funext fun y => ?_)
  refine (congrArg (shapeCast S50368 _ shapeCasts_S1x50368_S50368) (eq_ix1 y)).trans ((cast_mean _ (y 0)).trans ?_)
  refine (congrFun ((W5_arr m γ c 2).trans (arr2_2 (V4 m γ) c)) _).trans ?_
  exact congrArg meanOf (funext fun d => rep4_at m γ hl c d (y 0))

/-- The sum of the squared means, before the reshape. -/
theorem flops5 (c : Dev nD) : W5 m γ c (Proc.devRef .tc main_v8_2) = fun _ : S1x1.Idx => flopsOf fun v => meanOf fun d => scoreA m c d v := by
  refine ((W5_arr m γ c 3).trans (arr2_3 (V4 m γ) c)).trans (funext fun y => ?_)
  exact congrArg flopsOf (funext fun v => congrArg meanOf (funext fun d => rep4_at m γ hl c d v))

/-- The sum of the squared means. -/
theorem out_flops (c : Dev nD) : W6 m γ c (Proc.devRef .tc main_v11) = shapeCast S_ (fun _ : S1x1.Idx => flopsOf fun v => meanOf fun d => scoreA m c d v) shapeCasts_S1x1_S_ :=
  (host_main_v11 (W5 m γ c)).trans (congrArg (fun x : S1x1.Idx → EReal => shapeCast S_ x shapeCasts_S1x1_S_) (flops5 m γ hl c))

/-- The scales of the eight-bit codes. -/
theorem out_impScale (c : Dev nD) : W6 m γ c (Proc.devRef .tc main_v13) = fun y : S32.Idx => impScale fun v => scoreA m c (y 0) v := by
  refine (host_main_v13 (W5 m γ c)).trans (funext fun y => ?_)
  refine (congrArg (shapeCast S32 _ shapeCasts_S32x1_S32) (eq_ix1 y)).trans ((cast_col _ (y 0)).trans ?_)
  refine (congrFun ((W5_arr m γ c 5).trans (arr2_5 (V4 m γ) c)) _).trans ?_
  exact congrArg impScale (funext fun v => rep4_at m γ hl c (y 0) v)

/-- The eight-bit codes. -/
theorem out_impCodes (c : Dev nD) : W6 m γ c (Proc.devRef .tc main_v8_3) = fun y : S32x50368.Idx => impCode (fun v => scoreA m c (y 0) v) (y 1) := by
  refine (W6_of m γ c main_v8_3 (by decide)).trans (((W5_arr m γ c 4).trans (arr2_4 (V4 m γ) c)).trans (funext fun y => ?_))
  exact congrFun (congrArg impCode (funext fun v => rep4_at m γ hl c (y 0) v)) (y 1)

omit hl

/-- The tokens' codes and scales are not touched after the first call but for a reshape. -/
theorem out_codes (c : Dev nD) : W6 m γ c (Proc.devRef .tc main_v5_0) = fun i : S32x512x768.Idx => zCode (tokA m c (i 0) (i 1)) (i 2) :=
  (W6_of m γ c main_v5_0 (by decide)).trans ((W5_of m γ c main_v5_0 (by decide +kernel)).trans ((W4_of m γ c main_v5_0 (by decide +kernel)).trans
    ((W3_of m c main_v5_0 (by decide)).trans (codes2 m c))))

/-- The scales, one a token. -/
theorem out_scales (c : Dev nD) : W6 m γ c (Proc.devRef .tc main_v12) = fun y : S32x512.Idx => zScale (tokA m c (y 0) (y 1)) := by
  have h := (W5_of m γ c main_v5_1 (by decide +kernel)).trans ((W4_of m γ c main_v5_1 (by decide +kernel)).trans ((W3_of m c main_v5_1 (by decide)).trans (scales2 m c)))
  refine (host_main_v12 (W5 m γ c)).trans (funext fun y => ?_)
  refine (congrArg (shapeCast S32x512 _ shapeCasts_S32x1x512_S32x512) (eq_ix2 y)).trans ((cast_zs _ (y 0) (y 1)).trans ?_)
  exact congrFun h _

end Cert.KVal
-- ==== Proof.Value.RefTransform.lean ====
/- The reference's transform, read at an index: the formulas of Spec.lean. -/
module

public import proofs.«01_k».proof.Proof.Gen.ReferenceIdeal.Skeleton
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.ReferenceIdeal.Val
open Cert.ReferenceIdeal Cert.ReferenceIdeal.Gen Cert.Val
/-- The normalised rows. -/
theorem pay6_at (v0 : Vec Ideal S32x512x768 .fp8e4m3) (v1 : Vec Ideal S768x768 .fp8e4m3) (v3 : Vec Ideal S32x512 .f32) (v7 : Vec Ideal S768 .f32) (v11 : Vec Ideal S768 .f32) (b : Fin 32) (t : Fin 512) (n : Fin 768) :
    k0_pay6 v0 v1 v3 v7 v11 (ix3 b t n) = lnorm (gRow (fun k => v0 (ix3 b t k)) (fun k n => v1 (ix2 k n)) (v3 (ix2 b t)) (fun n => v7 (ix1 n)) (fun n => v11 (ix1 n))) n := by
  pointwise [k0_pay6]
  rfl

/-- The transformed rows. -/
theorem pay8_at (v38 : FVec Ideal S32x512x768 .f32) (v39 v43 : Vec Ideal S768 .f32) (b : Fin 32) (t : Fin 512) (n : Fin 768) :
    k0_pay8 v38 (k0_pay7 v39) v43 (ix3 b t n) = affine (fun n => v38 (ix3 b t n)) (fun n => v39 (ix1 n)) (fun n => v43 (ix1 n)) n := by
  pointwise [k0_pay8, k0_pay7]
  rfl

/-- A scale from a largest magnitude. -/
theorem scale_at (M : FVec Ideal S32x512 .f32) (b : Fin 32) (t : Fin 512) : select (cmpf .oeq M (broadcast S32x512 (Scalar.ofBits .f32 0x00000000#32))) (broadcast S32x512 (Scalar.ofBits .f32 0x3F800000#32)) (divf M (broadcast S32x512 (Scalar.ofBits .f32 0x43E00000#32))) (ix2 b t) = scaleOf (M (ix2 b t)) (Ideal.ofBits .f32 0x43E00000#32) := by
  pointwise []
  rfl

/-- Codes from rows and scales. -/
theorem code_at (M : FVec Ideal S32x512 .f32) (Y : FVec Ideal S32x512x768 .f32) (b : Fin 32) (t : Fin 512) (n : Fin 768) :
    truncf .fp8e4m3 (minimumf (broadcast S32x512x768 (Scalar.ofBits .f32 0x43E00000#32)) (maximumf (broadcast S32x512x768 (Scalar.ofBits .f32 0xC3E00000#32)) (divf Y (broadcastTo S32x512x768 (shapeCast S32x512x1 M shapeCasts_S32x512_S32x512x1) broadcasts_S32x512x1_S32x512x768)))) bitsLt_fp8e4m3_f32 (ix3 b t n) = min (Ideal.ofBits .f32 0x43E00000#32) (max (Ideal.ofBits .f32 0xC3E00000#32) (Ideal.div (Y (ix3 b t n)) (M (ix2 b t)))) := by
  pointwise []

/-- Their scales. -/
theorem pay9_at (v38 : FVec Ideal S32x512x768 .f32) (v39 v43 : Vec Ideal S768 .f32) (b : Fin 32) (t : Fin 512) :
    k0_pay9 v38 (k0_pay7 v39) v43 (ix2 b t) = zScale (affine (fun n => v38 (ix3 b t n)) (fun n => v39 (ix1 n)) (fun n => v43 (ix1 n))) := by
  unfold k0_pay9
  have h : ∀ k, absf (k0_pay8 v38 (k0_pay7 v39) v43) (ix3 b t k) = FloatOps.absf (F := Ideal) (φ := .f32) (affine (fun n => v38 (ix3 b t n)) (fun n => v39 (ix1 n)) (fun n => v43 (ix1 n)) k) := fun k =>
    congrArg (FloatOps.absf (F := Ideal) (φ := .f32)) (pay8_at v38 v39 v43 b t k)
  have h2 := (max_r3_a2 (absf (k0_pay8 v38 (k0_pay7 v39) v43)) reduces_S32x512x768_S32x512 (.inl rfl) rfl b t).trans (congrArg (Finset.univ.sup) (funext h))
  exact (scale_at _ b t).trans (congrArg (fun z => scaleOf z (Ideal.ofBits .f32 0x43E00000#32)) h2)

/-- Their codes. -/
theorem pay10_at (v38 : FVec Ideal S32x512x768 .f32) (v39 v43 : Vec Ideal S768 .f32) (b : Fin 32) (t : Fin 512) (n : Fin 768) :
    k0_pay10 v38 (k0_pay7 v39) v43 (ix3 b t n) = zCode (affine (fun n => v38 (ix3 b t n)) (fun n => v39 (ix1 n)) (fun n => v43 (ix1 n))) n := by
  unfold k0_pay10
  refine (code_at _ _ b t n).trans ?_
  rw [pay8_at, pay9_at]
  unfold zCode
  exact Eq.refl _
end Cert.ReferenceIdeal.Val
-- ==== Proof.Value.RefRep.lean ====
/- The reference's head, read at an index: the formulas of SpecRep.lean. -/
module

public import proofs.«01_k».proof.Proof.Gen.ReferenceIdeal.Skeleton
public import proofs.«01_k».proof.Proof.Value.Spec
public import proofs.«01_k».proof.Proof.Value.SpecRep
public import proofs.«01_k».proof.Proof.Value.Maxes

@[expose] public section

set_option maxRecDepth 16384

noncomputable section

open Idealize.ShloMosaic Idealize.ShloMosaic.TcCoe Idealize.SL.Sem
namespace Cert.ReferenceIdeal.Val
open Cert.ReferenceIdeal Cert.ReferenceIdeal.Gen Cert.Val

/-- The low halves' weights. -/
theorem even_at (e : Vec Ideal S50368x384 .i8) (gs : Vec Ideal S50368x6 .f32) (v : Fin 50368) (p : Fin 384) :
    shapeCast S50368x384 (mulf (k0_pay13 (F := Ideal) e) (k0_pay14 gs)) shapeCasts_S50368x6x64_S50368x384 (ix2 v p) = nibLo (e (ix2 v p)) * gs (ix2 v ⟨p.val / 64, by omega⟩) := by
  pointwise [k0_pay14, k0_pay13, k0_pay12, k0_pay11, nibLo]

/-- The high halves' weights. -/
theorem odd_at (e : Vec Ideal S50368x384 .i8) (gs : Vec Ideal S50368x6 .f32) (v : Fin 50368) (p : Fin 384) :
    shapeCast S50368x384 (mulf (shapeCast S50368x6x64 (sitofp (F := Ideal) .bf16 (subi (xori (trunci 8 (shrsi (k0_pay11 (F := Ideal) e) (broadcast S50368x384 4#32)) natLt_8_32) (broadcast S50368x384 8#8)) (broadcast S50368x384 8#8))) shapeCasts_S50368x384_S50368x6x64)
      (broadcastTo S50368x6x64 (k0_pay12 gs) broadcasts_S50368x6x1_S50368x6x64)) shapeCasts_S50368x6x64_S50368x384 (ix2 v p) = nibHi (e (ix2 v p)) * gs (ix2 v ⟨p.val / 64, by omega⟩) := by
  pointwise [k0_pay12, k0_pay11, nibHi]

/-- The codes' even columns. -/
theorem zEven_at (z : FVec Ideal S32x512x768 .fp8e4m3) (b : Fin 32) (t : Fin 512) (p : Fin 384) :
    shapeCast S32x512x384 (extractStridedSlice S32x512x384x1 ![0, 0, 0, 0] (shapeCast S32x512x384x2 (extf .bf16 z bitsLt_fp8e4m3_bf16) shapeCasts_S32x512x768_S32x512x384x2) slices_S32x512x384x2_o0_0_0_0_S32x512x384x1) shapeCasts_S32x512x384x1_S32x512x384 (ix3 b t p)
      = z (ix3 b t ⟨p.val * 2, by omega⟩) := by
  pointwise []

/-- The codes' odd columns. -/
theorem zOdd_at (z : FVec Ideal S32x512x768 .fp8e4m3) (b : Fin 32) (t : Fin 512) (p : Fin 384) :
    shapeCast S32x512x384 (extractStridedSlice S32x512x384x1 ![0, 0, 0, 1] (shapeCast S32x512x384x2 (extf .bf16 z bitsLt_fp8e4m3_bf16) shapeCasts_S32x512x768_S32x512x384x2) slices_S32x512x384x2_o0_0_0_1_S32x512x384x1) shapeCasts_S32x512x384x1_S32x512x384 (ix3 b t p)
      = z (ix3 b t ⟨p.val * 2 + 1, by omega⟩) := by
  pointwise []

theorem dot_at (z : FVec Ideal S32x512x384 .bf16) (w : FVec Ideal S50368x384 .bf16) (b : Fin 32) (t : Fin 512) (v : Fin 50368) :
    matmul dot_S32x512x384_S50368x384_S32x512x50368_2_1_01_0_n_n none z w (constant S32x512x50368 .f32 0x00000000#32) (ix3 b t v) = ∑ p : Fin 384, (z (ix3 b t p) * w (ix2 v p) : EReal) := by
  pointwise []

/-- Scale and bias. -/
theorem lg_at (A B : FVec Ideal S32x512x50368 .f32) (zs : FVec Ideal S32x512 .f32) (bv : Vec Ideal S50368 .f32) (b : Fin 32) (t : Fin 512) (v : Fin 50368) :
    addf (mulf (addf A B) (broadcastTo S32x512x50368 (shapeCast S32x512x1 zs shapeCasts_S32x512_S32x512x1) broadcasts_S32x512x1_S32x512x50368))
      (broadcastTo S32x512x50368 (shapeCast S1x1x50368 bv shapeCasts_S50368_S1x1x50368) broadcasts_S1x1x50368_S32x512x50368) (ix3 b t v)
      = (A (ix3 b t v) + B (ix3 b t v)) * zs (ix2 b t) + bv (ix1 v) := by
  pointwise []

/-- The mask. -/
theorem mask_at (L : FVec Ideal S32x512x50368 .f32) (n : Vec Ideal S32 .i32) (b : Fin 32) (t : Fin 512) (v : Fin 50368) :
    select (broadcastTo S32x512x50368 (shapeCast S32x512x1 (shapeCast S32x512x1 (cmpi .slt (iota .tc S32x512 32 [1] iota_S32x512_d1_w32) (broadcastTo S32x512 (shapeCast S32x1 n shapeCasts_S32_S32x1) broadcasts_S32x1_S32x512)) shapeCasts_S32x512_S32x512x1) shapeCasts_S32x512x1_S32x512x1) broadcasts_S32x512x1_S32x512x50368)
      L (broadcast S32x512x50368 (Scalar.ofBits .f32 0xFF800000#32)) (ix3 b t v)
      = Scalar.select (live (n (ix1 b)) t) (L (ix3 b t v)) (Ideal.ofBits .f32 0xFF800000#32) := by
  pointwise [live]

theorem act_at (M : FVec Ideal S32x50368 .f32) (b : Fin 32) (v : Fin 50368) :
    log1p (maximumf M (broadcast S32x50368 (Scalar.ofBits .f32 0x00000000#32))) (ix2 b v) = Ideal.log1p (max (M (ix2 b v)) 0) := by
  pointwise []

/-- The reference's output at document `b` and vocabulary row `v`. -/
theorem pay15_at (zs : FVec Ideal S32x512 .f32) (z : FVec Ideal S32x512x768 .fp8e4m3) (e : Vec Ideal S50368x384 .i8) (gs : Vec Ideal S50368x6 .f32) (bv : Vec Ideal S50368 .f32) (n : Vec Ideal S32 .i32) (b : Fin 32) (v : Fin 50368) :
    k0_pay15 zs z (k0_pay11 e) (k0_pay12 gs) (k0_pay13 e) (k0_pay14 gs) bv n (ix2 b v)
      = repOf (fun t k => z (ix3 b t k)) (fun t => zs (ix2 b t)) (n (ix1 b)) (fun p => e (ix2 v p)) (fun g => gs (ix2 v g)) (bv (ix1 v)) := by
  unfold k0_pay15
  refine (act_at _ b v).trans ?_
  unfold repOf
  rw [← top_add]
  refine congrArg (fun m : EReal => Ideal.log1p (max m 0)) ?_
  refine (max_r3_a1 _ reduces_S32x512x50368_S32x50368 (.inl rfl) rfl b v).trans ?_
  refine congrArg (Finset.univ.sup) (funext fun t => ?_)
  refine (mask_at _ n b t v).trans ?_
  rw [negInf]
  refine congrArg (fun l : EReal => if live (n (ix1 b)) t = 1 then l else ⊥) ?_
  refine (lg_at _ _ zs bv b t v).trans ?_
  rw [dot_at, dot_at]
  simp only [even_at, odd_at, zEven_at, zOdd_at]
  exact Eq.refl _
end Cert.ReferenceIdeal.Val
-- ==== Proof.Value.StatsR.lean ====
/- The reference's statistics at an index. -/
module

public import proofs.«01_k».proof.Proof.Gen.ReferenceIdeal.Skeleton
public import proofs.«01_k».proof.Proof.Value.Spec
public import proofs.«01_k».proof.Proof.Value.Maxes
public import proofs.«01_k».proof.Proof.Value.SpecStats

@[expose] public section

set_option maxRecDepth 16384

noncomputable section

open Idealize.ShloMosaic Idealize.ShloMosaic.TcCoe Idealize.SL.Sem
namespace Cert.ReferenceIdeal.Val
open Cert.ReferenceIdeal Cert.ReferenceIdeal.Gen Cert.Val

variable (X : Vec Ideal S32x50368 .f32)

/-- The sums. -/
theorem l1R (d : Fin 32) : k0_pay3 (F := Ideal) X (ix1 d) = l1Of fun v => X (ix2 d v) := by
  unfold l1Of
  pointwise [k0_pay3]

/-- The means. -/
theorem meanR (v : Fin 50368) : k0_pay4 (F := Ideal) X (ix1 v) = meanOf fun d => X (ix2 d v) := by
  unfold meanOf
  pointwise [k0_pay4]

/-- Their squares summed. -/
theorem flopsR : k0_pay5 (F := Ideal) X (ix2 0 0) = flopsOf fun v => meanOf fun d => X (ix2 d v) := by
  unfold flopsOf meanOf
  pointwise [k0_pay5, k0_pay4]

/-- A scale from a largest score. -/
theorem scaleR (M : FVec Ideal S32 .f32) (d : Fin 32) : k0_pay1 M (ix1 d) = scaleOf (M (ix1 d)) (Ideal.ofBits .f32 0x437F0000#32) := by
  pointwise [k0_pay1]
  rfl

/-- The codes' scales. -/
theorem impScaleR (d : Fin 32) :
    k0_pay1 (F := Ideal) (multiReduction .maximumf [1] S32 (X : FVec Ideal S32x50368 .f32) 0xFF800000#32 reduces_S32x50368_S32 (.inl rfl) rfl) (ix1 d) = impScale fun v => X (ix2 d v) :=
  (scaleR _ d).trans (congrArg (fun z => scaleOf z (Ideal.ofBits .f32 0x437F0000#32)) (max_r2_a1 X reduces_S32x50368_S32 (.inl rfl) rfl d))

/-- A code from a score and a largest score. -/
theorem codeR (M : FVec Ideal S32 .f32) (d : Fin 32) (v : Fin 50368) :
    k0_pay2 (F := Ideal) X M (ix2 d v) = Ideal.fptoui 8 (min (Ideal.ofBits .f32 0x437F0000#32) (max (((0#32).toInt : ℝ) : EReal)
      (Ideal.liftRound Ideal.roundHalfEven (Ideal.div (X (ix2 d v)) (k0_pay1 M (ix1 d)))))) := by
  unfold k0_pay2
  generalize k0_pay1 M = s
  pointwise []
  try rfl

/-- The codes. -/
theorem impCodeR (d : Fin 32) (v : Fin 50368) :
    k0_pay2 (F := Ideal) X (multiReduction .maximumf [1] S32 (X : FVec Ideal S32x50368 .f32) 0xFF800000#32 reduces_S32x50368_S32 (.inl rfl) rfl) (ix2 d v)
      = impCode (fun v => X (ix2 d v)) v := by
  refine (codeR X _ d v).trans ?_
  rw [impScaleR, show (((0#32).toInt : ℝ) : EReal) = 0 by simp]
  rfl

end Cert.ReferenceIdeal.Val
-- ==== Proof.Value.RefOut.lean ====
/- What the reference leaves in its outputs' buffers, over its operands. -/
module

public import proofs.«01_k».proof.Proof.Gen.ReferenceIdeal.Frame
public import proofs.«01_k».proof.Proof.Value.RefTransform
public import proofs.«01_k».proof.Proof.Value.RefRep
public import proofs.«01_k».proof.Proof.Value.StatsR
public import proofs.«01_k».proof.Proof.Value.Head
public import Idealize.ShloMosaic.Lib.Pipeline.ValueKit
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.ReferenceIdeal.Val
open Cert.ReferenceIdeal Cert.ReferenceIdeal.Gen Cert.Val

theorem ld0_0 (x : Vec Ideal S32x512x768 .fp8e4m3) : View.ld x r0_0 = x := View.ld_unit_lit _ x (by decide)
theorem ld0_1 (x : Vec Ideal S768x768 .fp8e4m3) : View.ld x r0_1 = x := View.ld_unit_lit _ x (by decide)
theorem ld0_2 (x : Vec Ideal S32x512 .f32) : View.ld x r0_2 = x := View.ld_unit_lit _ x (by decide)
theorem ld0_3 (x : Vec Ideal S768 .f32) : View.ld x r0_3 = x := View.ld_unit_lit _ x (by decide)
theorem ld0_4 (x : Vec Ideal S50368x384 .i8) : View.ld x r0_4 = x := View.ld_unit_lit _ x (by decide)
theorem ld0_5 (x : Vec Ideal S50368x6 .f32) : View.ld x r0_5 = x := View.ld_unit_lit _ x (by decide)
theorem ld0_6 (x : Vec Ideal S50368 .f32) : View.ld x r0_6 = x := View.ld_unit_lit _ x (by decide)
theorem ld0_7 (x : Vec Ideal S32 .i32) : View.ld x r0_7 = x := View.ld_unit_lit _ x (by decide)

variable (x0 : Vec Ideal S32x512x768 .fp8e4m3) (x1 : Vec Ideal S32x512 .f32) (x2 : Vec Ideal S32 .i32) (x3 : Vec Ideal S768x768 .fp8e4m3)
  (x4 x5 x6 x7 : Vec Ideal S768 .f32) (x8 : Vec Ideal S50368x384 .i8) (x9 : Vec Ideal S50368x6 .f32) (x10 : Vec Ideal S50368 .f32)

/-- A normalised row, as a function of its element. -/
theorem pay17_row (b : Fin 32) (t : Fin 512) : (fun n => (k0_pay17 x0 x1 x2 x3 x4 x5 x6 x7 x8 x9 x10 (ix3 b t n) : EReal))
    = lnorm (gRow (fun k => x0 (ix3 b t k)) (fun k n => x3 (ix2 k n)) (x1 (ix2 b t)) (fun n => x4 (ix1 n)) (fun n => x5 (ix1 n))) := by
  funext n
  unfold k0_pay17
  rw [ld0_0, ld0_1, ld0_2, ld0_3, ld0_3]
  exact pay6_at _ _ _ _ _ b t n

/-- The scales. -/
theorem zs_at (b : Fin 32) (t : Fin 512) : k0_pay19 x0 x1 x2 x3 x4 x5 x6 x7 x8 x9 x10 (ix2 b t) = zScale (tok x0 x1 x3 x4 x5 x6 x7 b t) := by
  unfold k0_pay19 k0_pay18
  rw [ld0_3, ld0_3]
  refine (pay9_at _ _ _ b t).trans ?_
  exact congrArg (fun l => zScale (affine l (fun n => x6 (ix1 n)) (fun n => x7 (ix1 n)))) (pay17_row x0 x1 x2 x3 x4 x5 x6 x7 x8 x9 x10 b t)

/-- The codes. -/
theorem zc_at (b : Fin 32) (t : Fin 512) (k : Fin 768) : k0_pay20 x0 x1 x2 x3 x4 x5 x6 x7 x8 x9 x10 (ix3 b t k) = zCode (tok x0 x1 x3 x4 x5 x6 x7 b t) k := by
  unfold k0_pay20 k0_pay18
  rw [ld0_3, ld0_3]
  refine (pay10_at _ _ _ b t k).trans ?_
  exact congrArg (fun l => zCode (affine l (fun n => x6 (ix1 n)) (fun n => x7 (ix1 n))) k) (pay17_row x0 x1 x2 x3 x4 x5 x6 x7 x8 x9 x10 b t)

/-- The scores. -/
theorem score_at (b : Fin 32) (v : Fin 50368) : k0_pay25 x0 x1 x2 x3 x4 x5 x6 x7 x8 x9 x10 (ix2 b v) = score x0 x1 x2 x3 x4 x5 x6 x7 x8 x9 x10 b v := by
  unfold k0_pay25 k0_pay21 k0_pay22 k0_pay23 k0_pay24
  rw [ld0_4, ld0_5, ld0_6, ld0_7]
  refine (pay15_at _ _ _ _ _ _ b v).trans ?_
  unfold score
  refine congr (congr (congr (congr (congr (congrArg repOf ?_) ?_) rfl) rfl) rfl) rfl
  · funext t k; exact zc_at x0 x1 x2 x3 x4 x5 x6 x7 x8 x9 x10 b t k
  · funext t; exact zs_at x0 x1 x2 x3 x4 x5 x6 x7 x8 x9 x10 b t

/-- The scores, as one array. -/
theorem pay25_eq : k0_pay25 x0 x1 x2 x3 x4 x5 x6 x7 x8 x9 x10 = fun y => score x0 x1 x2 x3 x4 x5 x6 x7 x8 x9 x10 (y 0) (y 1) := by
  funext y
  rw [← ix2_eta y]
  exact score_at x0 x1 x2 x3 x4 x5 x6 x7 x8 x9 x10 _ _

/-- The output buffers. -/
theorem out11 (y : S32x50368.Idx) : out0_11 x0 x1 x2 x3 x4 x5 x6 x7 x8 x9 x10 y = score x0 x1 x2 x3 x4 x5 x6 x7 x8 x9 x10 (y 0) (y 1) := by
  have h : out0_11 x0 x1 x2 x3 x4 x5 x6 x7 x8 x9 x10 = k0_pay25 x0 x1 x2 x3 x4 x5 x6 x7 x8 x9 x10 := View.canon_cons_unit_lit _ _ _ (by decide)
  rw [h, pay25_eq]

theorem out12 (y : S32.Idx) : out0_12 x0 x1 x2 x3 x4 x5 x6 x7 x8 x9 x10 y = l1Of fun v => score x0 x1 x2 x3 x4 x5 x6 x7 x8 x9 x10 (y 0) v := by
  have h : out0_12 x0 x1 x2 x3 x4 x5 x6 x7 x8 x9 x10 = k0_pay3 (k0_pay25 x0 x1 x2 x3 x4 x5 x6 x7 x8 x9 x10) := View.canon_cons_unit_lit _ _ _ (by decide)
  rw [h, pay25_eq]
  rw [← ix1_eta y]
  exact l1R _ _

theorem out13 (y : S50368.Idx) : out0_13 x0 x1 x2 x3 x4 x5 x6 x7 x8 x9 x10 y = meanOf fun d => score x0 x1 x2 x3 x4 x5 x6 x7 x8 x9 x10 d (y 0) := by
  have h : out0_13 x0 x1 x2 x3 x4 x5 x6 x7 x8 x9 x10 = k0_pay4 (k0_pay25 x0 x1 x2 x3 x4 x5 x6 x7 x8 x9 x10) := View.canon_cons_unit_lit _ _ _ (by decide)
  rw [h, pay25_eq]
  rw [← ix1_eta y]
  exact meanR _ _

theorem out14 : out0_14 x0 x1 x2 x3 x4 x5 x6 x7 x8 x9 x10 (ix2 0 0) = flopsOf fun v => meanOf fun d => score x0 x1 x2 x3 x4 x5 x6 x7 x8 x9 x10 d v := by
  have h : out0_14 x0 x1 x2 x3 x4 x5 x6 x7 x8 x9 x10 = k0_pay5 (k0_pay25 x0 x1 x2 x3 x4 x5 x6 x7 x8 x9 x10) := View.canon_cons_unit_lit _ _ _ (by decide)
  rw [h, pay25_eq]
  exact flopsR _

theorem out15 (y : S32x512x768.Idx) : out0_15 x0 x1 x2 x3 x4 x5 x6 x7 x8 x9 x10 y = zCode (tok x0 x1 x3 x4 x5 x6 x7 (y 0) (y 1)) (y 2) := by
  have h : out0_15 x0 x1 x2 x3 x4 x5 x6 x7 x8 x9 x10 = k0_pay20 x0 x1 x2 x3 x4 x5 x6 x7 x8 x9 x10 := View.canon_cons_unit_lit _ _ _ (by decide)
  rw [h]
  rw [← ix3_eta y]
  exact zc_at x0 x1 x2 x3 x4 x5 x6 x7 x8 x9 x10 _ _ _

theorem out16 (y : S32x512.Idx) : out0_16 x0 x1 x2 x3 x4 x5 x6 x7 x8 x9 x10 y = zScale (tok x0 x1 x3 x4 x5 x6 x7 (y 0) (y 1)) := by
  have h : out0_16 x0 x1 x2 x3 x4 x5 x6 x7 x8 x9 x10 = k0_pay19 x0 x1 x2 x3 x4 x5 x6 x7 x8 x9 x10 := View.canon_cons_unit_lit _ _ _ (by decide)
  rw [h]
  rw [← ix2_eta y]
  exact zs_at x0 x1 x2 x3 x4 x5 x6 x7 x8 x9 x10 _ _

/-- The largest scores. -/
theorem pay26_eq : k0_pay26 x0 x1 x2 x3 x4 x5 x6 x7 x8 x9 x10 = multiReduction .maximumf [1] S32 (k0_pay25 x0 x1 x2 x3 x4 x5 x6 x7 x8 x9 x10) 0xFF800000#32 reduces_S32x50368_S32 (.inl rfl) rfl := rfl

theorem out17 (y : S32x50368.Idx) : out0_17 x0 x1 x2 x3 x4 x5 x6 x7 x8 x9 x10 y = impCode (fun v => score x0 x1 x2 x3 x4 x5 x6 x7 x8 x9 x10 (y 0) v) (y 1) := by
  have h : out0_17 x0 x1 x2 x3 x4 x5 x6 x7 x8 x9 x10 = k0_pay2 (k0_pay25 x0 x1 x2 x3 x4 x5 x6 x7 x8 x9 x10) (k0_pay26 x0 x1 x2 x3 x4 x5 x6 x7 x8 x9 x10) := View.canon_cons_unit_lit _ _ _ (by decide)
  rw [h, pay26_eq, pay25_eq]
  rw [← ix2_eta y]
  exact impCodeR _ _ _

theorem out18 (y : S32.Idx) : out0_18 x0 x1 x2 x3 x4 x5 x6 x7 x8 x9 x10 y = impScale fun v => score x0 x1 x2 x3 x4 x5 x6 x7 x8 x9 x10 (y 0) v := by
  have h : out0_18 x0 x1 x2 x3 x4 x5 x6 x7 x8 x9 x10 = k0_pay1 (k0_pay26 x0 x1 x2 x3 x4 x5 x6 x7 x8 x9 x10) := View.canon_cons_unit_lit _ _ _ (by decide)
  rw [h, pay26_eq, pay25_eq]
  rw [← ix1_eta y]
  exact impScaleR _ _

end Cert.ReferenceIdeal.Val
-- ==== Proof.Value.RefArrays.lean ====
/- The reference's results, over the memory it starts from. -/
module

public import proofs.«01_k».proof.Proof.Gen.ReferenceIdeal.Run
public import proofs.«01_k».proof.Proof.Value.RefOut
public import Idealize.ShloMosaic.Lib.Pipeline.ValueKit
public import proofs.«01_k».proof.Proof.Value.Spec
public import proofs.«01_k».proof.Proof.Value.Maxes

@[expose] public section

set_option maxRecDepth 16384

noncomputable section

open Idealize.ShloMosaic Idealize.ShloMosaic.TcCoe Idealize.SL.Sem
namespace Cert.ReferenceIdeal.Val
open Cert.ReferenceIdeal Cert.ReferenceIdeal.Gen Cert.Val

variable (m : (ℓ : Loc nD τ sig) → Buf (Elt Ideal) ℓ)

/-- Each operand is fetched whole. -/
theorem iblk_0 (c : Dev nD) : iblk m c 0 t0_0 = m ((c : Thread nD τ).loc main_arg0) := by
  funext y
  refine congrArg (V m c main_arg0) (funext fun b => Fin.ext ?_)
  exact (cfg0.win 0).rect_emb_val_of_index_zero t0_0 b ((by decide +kernel : ∀ b, (cfg0.win 0).index t0_0 b = 0) b) y
theorem iblk_1 (c : Dev nD) : iblk m c 1 t0_0 = m ((c : Thread nD τ).loc main_arg1) := by
  funext y
  refine congrArg (V m c main_arg1) (funext fun b => Fin.ext ?_)
  exact (cfg0.win 1).rect_emb_val_of_index_zero t0_0 b ((by decide +kernel : ∀ b, (cfg0.win 1).index t0_0 b = 0) b) y
theorem iblk_2 (c : Dev nD) : iblk m c 2 t0_0 = m ((c : Thread nD τ).loc main_arg2) := by
  funext y
  refine congrArg (V m c main_arg2) (funext fun b => Fin.ext ?_)
  exact (cfg0.win 2).rect_emb_val_of_index_zero t0_0 b ((by decide +kernel : ∀ b, (cfg0.win 2).index t0_0 b = 0) b) y
theorem iblk_3 (c : Dev nD) : iblk m c 3 t0_0 = m ((c : Thread nD τ).loc main_arg3) := by
  funext y
  refine congrArg (V m c main_arg3) (funext fun b => Fin.ext ?_)
  exact (cfg0.win 3).rect_emb_val_of_index_zero t0_0 b ((by decide +kernel : ∀ b, (cfg0.win 3).index t0_0 b = 0) b) y
theorem iblk_4 (c : Dev nD) : iblk m c 4 t0_0 = m ((c : Thread nD τ).loc main_arg4) := by
  funext y
  refine congrArg (V m c main_arg4) (funext fun b => Fin.ext ?_)
  exact (cfg0.win 4).rect_emb_val_of_index_zero t0_0 b ((by decide +kernel : ∀ b, (cfg0.win 4).index t0_0 b = 0) b) y
theorem iblk_5 (c : Dev nD) : iblk m c 5 t0_0 = m ((c : Thread nD τ).loc main_arg5) := by
  funext y
  refine congrArg (V m c main_arg5) (funext fun b => Fin.ext ?_)
  exact (cfg0.win 5).rect_emb_val_of_index_zero t0_0 b ((by decide +kernel : ∀ b, (cfg0.win 5).index t0_0 b = 0) b) y
theorem iblk_6 (c : Dev nD) : iblk m c 6 t0_0 = m ((c : Thread nD τ).loc main_arg6) := by
  funext y
  refine congrArg (V m c main_arg6) (funext fun b => Fin.ext ?_)
  exact (cfg0.win 6).rect_emb_val_of_index_zero t0_0 b ((by decide +kernel : ∀ b, (cfg0.win 6).index t0_0 b = 0) b) y
theorem iblk_7 (c : Dev nD) : iblk m c 7 t0_0 = m ((c : Thread nD τ).loc main_arg7) := by
  funext y
  refine congrArg (V m c main_arg7) (funext fun b => Fin.ext ?_)
  exact (cfg0.win 7).rect_emb_val_of_index_zero t0_0 b ((by decide +kernel : ∀ b, (cfg0.win 7).index t0_0 b = 0) b) y
theorem iblk_8 (c : Dev nD) : iblk m c 8 t0_0 = m ((c : Thread nD τ).loc main_arg8) := by
  funext y
  refine congrArg (V m c main_arg8) (funext fun b => Fin.ext ?_)
  exact (cfg0.win 8).rect_emb_val_of_index_zero t0_0 b ((by decide +kernel : ∀ b, (cfg0.win 8).index t0_0 b = 0) b) y
theorem iblk_9 (c : Dev nD) : iblk m c 9 t0_0 = m ((c : Thread nD τ).loc main_arg9) := by
  funext y
  refine congrArg (V m c main_arg9) (funext fun b => Fin.ext ?_)
  exact (cfg0.win 9).rect_emb_val_of_index_zero t0_0 b ((by decide +kernel : ∀ b, (cfg0.win 9).index t0_0 b = 0) b) y
theorem iblk_10 (c : Dev nD) : iblk m c 10 t0_0 = m ((c : Thread nD τ).loc main_arg10) := by
  funext y
  refine congrArg (V m c main_arg10) (funext fun b => Fin.ext ?_)
  exact (cfg0.win 10).rect_emb_val_of_index_zero t0_0 b ((by decide +kernel : ∀ b, (cfg0.win 10).index t0_0 b = 0) b) y

/-- The score of document `d` and word `v`, of the arguments in memory. -/
def scoreM (c : Dev nD) (d : Fin 32) (v : Fin 50368) : EReal :=
  score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) d v

/-- A token's row, of the arguments in memory. -/
def tokM (c : Dev nD) (d : Fin 32) (t : Fin 512) : Fin 768 → EReal :=
  tok (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) d t

theorem buf11 (c : Dev nD) : Value.reg_main_v0_0 m c = out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 11 t0_0 (by decide +kernel) _ fun j => ?_
  rw [after0_11, iblk_0, iblk_1, iblk_2, iblk_3, iblk_4, iblk_5, iblk_6, iblk_7, iblk_8, iblk_9, iblk_10]
  blk_simp

/-- The scores. -/
theorem reg11 (c : Dev nD) : Value.reg_main_v0_0 m c = fun y : S32x50368.Idx => scoreM m c (y 0) (y 1) := by
  rw [buf11]
  funext y
  exact out11 _ _ _ _ _ _ _ _ _ _ _ y

theorem buf12 (c : Dev nD) : Value.reg_main_v0_1 m c = out0_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 12 t0_0 (by decide +kernel) _ fun j => ?_
  rw [after0_12, iblk_0, iblk_1, iblk_2, iblk_3, iblk_4, iblk_5, iblk_6, iblk_7, iblk_8, iblk_9, iblk_10]
  blk_simp

/-- Their sums. -/
theorem reg12 (c : Dev nD) : Value.reg_main_v0_1 m c = fun y : S32.Idx => l1Of fun v => scoreM m c (y 0) v := by
  rw [buf12]
  funext y
  exact out12 _ _ _ _ _ _ _ _ _ _ _ y

theorem buf13 (c : Dev nD) : Value.reg_main_v0_2 m c = out0_13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 13 t0_0 (by decide +kernel) _ fun j => ?_
  rw [after0_13, iblk_0, iblk_1, iblk_2, iblk_3, iblk_4, iblk_5, iblk_6, iblk_7, iblk_8, iblk_9, iblk_10]
  blk_simp

/-- Their means. -/
theorem reg13 (c : Dev nD) : Value.reg_main_v0_2 m c = fun y : S50368.Idx => meanOf fun d => scoreM m c d (y 0) := by
  rw [buf13]
  funext y
  exact out13 _ _ _ _ _ _ _ _ _ _ _ y

theorem buf15 (c : Dev nD) : Value.reg_main_v0_4 m c = out0_15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 15 t0_0 (by decide +kernel) _ fun j => ?_
  rw [after0_15, iblk_0, iblk_1, iblk_2, iblk_3, iblk_4, iblk_5, iblk_6, iblk_7, iblk_8, iblk_9, iblk_10]
  blk_simp

/-- The tokens' codes. -/
theorem reg15 (c : Dev nD) : Value.reg_main_v0_4 m c = fun y : S32x512x768.Idx => zCode (tokM m c (y 0) (y 1)) (y 2) := by
  rw [buf15]
  funext y
  exact out15 _ _ _ _ _ _ _ _ _ _ _ y

theorem buf16 (c : Dev nD) : Value.reg_main_v0_5 m c = out0_16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 16 t0_0 (by decide +kernel) _ fun j => ?_
  rw [after0_16, iblk_0, iblk_1, iblk_2, iblk_3, iblk_4, iblk_5, iblk_6, iblk_7, iblk_8, iblk_9, iblk_10]
  blk_simp

/-- The tokens' scales. -/
theorem reg16 (c : Dev nD) : Value.reg_main_v0_5 m c = fun y : S32x512.Idx => zScale (tokM m c (y 0) (y 1)) := by
  rw [buf16]
  funext y
  exact out16 _ _ _ _ _ _ _ _ _ _ _ y

theorem buf17 (c : Dev nD) : Value.reg_main_v0_6 m c = out0_17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 17 t0_0 (by decide +kernel) _ fun j => ?_
  rw [after0_17, iblk_0, iblk_1, iblk_2, iblk_3, iblk_4, iblk_5, iblk_6, iblk_7, iblk_8, iblk_9, iblk_10]
  blk_simp

/-- The scores' codes. -/
theorem reg17 (c : Dev nD) : Value.reg_main_v0_6 m c = fun y : S32x50368.Idx => impCode (fun v => scoreM m c (y 0) v) (y 1) := by
  rw [buf17]
  funext y
  exact out17 _ _ _ _ _ _ _ _ _ _ _ y

theorem buf18 (c : Dev nD) : Value.reg_main_v0_7 m c = out0_18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 18 t0_0 (by decide +kernel) _ fun j => ?_
  rw [after0_18, iblk_0, iblk_1, iblk_2, iblk_3, iblk_4, iblk_5, iblk_6, iblk_7, iblk_8, iblk_9, iblk_10]
  blk_simp

/-- The scores' scales. -/
theorem reg18 (c : Dev nD) : Value.reg_main_v0_7 m c = fun y : S32.Idx => impScale fun v => scoreM m c (y 0) v := by
  rw [buf18]
  funext y
  exact out18 _ _ _ _ _ _ _ _ _ _ _ y

theorem buf14 (c : Dev nD) : Value.reg_main_v0_3 m c = out0_14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 14 t0_0 (by decide +kernel) _ fun j => ?_
  rw [after0_14, iblk_0, iblk_1, iblk_2, iblk_3, iblk_4, iblk_5, iblk_6, iblk_7, iblk_8, iblk_9, iblk_10]
  blk_simp

/-- The sum of the squared means. -/
theorem reg14 (c : Dev nD) : Value.reg_main_v0_3 m c = fun _ : S1x1.Idx => flopsOf fun v => meanOf fun d => scoreM m c d v := by
  rw [buf14]
  funext y
  rw [show y = ix2 0 0 from (eq_ix2 y).trans (congr (congrArg ix2 (Fin.eq_zero (y 0 : Fin 1))) (Fin.eq_zero (y 1 : Fin 1)))]
  exact out14 _ _ _ _ _ _ _ _ _ _ _

end Cert.ReferenceIdeal.Val
-- ==== Proof.lean ====
/- The certificate's proof. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Launch
public import proofs.«01_k».proof.Proof.Gen.ReferenceIdeal.Frame
public import proofs.«01_k».proof.Proof.Gen.ReferenceIdeal.Run
public import proofs.«01_k».proof.Proof.Gen.Pre_lens_fit
public import proofs.«01_k».proof.Proof.Kernel.Run
public import proofs.«01_k».proof.Proof.Kernel.Lens
public import proofs.«01_k».proof.Proof.KernelIdeal.Run
public import proofs.«01_k».proof.Proof.KernelIdeal.Lens
public import proofs.«01_k».proof.Proof.Value.KernelOut
public import proofs.«01_k».proof.Proof.Value.RefArrays
public import Idealize.ShloMosaic.Adequacy
public import Idealize.ShloMosaic.Init

@[expose] public section

noncomputable section

namespace Cert.Proof

open Idealize.ShloMosaic Idealize.SL.Sem

/-- The kernel at words runs without fault and leaves its arguments, if no document is longer than 512. -/
theorem quiescent_Kernel : Cert.quiescent_Kernel := fun m g hp =>
  Cert.Kernel.Gen.frame m g (Cert.Kernel.Gen.lensOK_of_le _ (Cert.Kernel.Gen.le_of_pre _ _ _ _ _ _ _ _ _ _ _ (hp Cert.Kernel.Gen.dev0)))

/-- So does the ideal kernel. -/
theorem quiescent_KernelIdeal : Cert.quiescent_KernelIdeal := fun m g hp =>
  Cert.KernelIdeal.Gen.frame m g (Cert.KernelIdeal.Gen.lensOK_of_le _ (Cert.KernelIdeal.Gen.le_of_pre _ _ _ _ _ _ _ _ _ _ _ (hp Cert.KernelIdeal.Gen.dev0)))

/-- So does the ideal reference, of any arguments. -/
theorem quiescent_ReferenceIdeal : Cert.quiescent_ReferenceIdeal := fun m g _ => Cert.ReferenceIdeal.Gen.frame m g

/-- And in particular of arguments with no longer document. -/
theorem quiescent_ReferenceIdeal_pre_lens_fit : Cert.quiescent_ReferenceIdeal_pre_lens_fit := fun m g _ => Cert.ReferenceIdeal.Gen.frame m g

/-- From equal arguments, the same scores. -/
theorem score_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Val.scoreM m' c = Cert.KVal.scoreA m c := by
  have e := congr (congr (congr (congr (congr (congr (congr (congr (congr (congr (congrArg Cert.Val.score h0) h1) h2) h3) h4) h5) h6) h7) h8) h9) h10
  exact e

/-- From equal arguments, the same rows. -/
theorem tok_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Val.tokM m' c = Cert.KVal.tokA m c := by
  have e := congr (congr (congr (congr (congr (congr (congrArg Cert.Val.tok h0) h1) h3) h4) h5) h6) h7
  exact e

/-- From equal arguments, kernel and reference leave the same eight results: both leave the formulas of `Head.lean`. -/
theorem algebraic : Cert.algebraic_KernelIdeal_ReferenceIdeal := by
  intro m g m' g' hp hargs
  have hle : ∀ t, (Cert.KernelIdeal.Gen.lens1 (Cert.KernelIdeal.Gen.adm1 m) t).toInt ≤ 512 := Cert.KernelIdeal.Gen.le_of_pre _ _ _ _ _ _ _ _ _ _ _ (hp Cert.KernelIdeal.Gen.dev0)
  refine ⟨fun c => fun i : Cert.KernelIdeal.S32x50368.Idx => Cert.KVal.scoreA m c (i 0) (i 1),
    fun c => fun y : Cert.KernelIdeal.S32.Idx => Cert.Val.l1Of fun v => Cert.KVal.scoreA m c (y 0) v,
    fun c => fun y : Cert.KernelIdeal.S50368.Idx => Cert.Val.meanOf fun d => Cert.KVal.scoreA m c d (y 0),
    fun c => shapeCast Cert.KernelIdeal.S_ (fun _ : Cert.KernelIdeal.S1x1.Idx => Cert.Val.flopsOf fun v => Cert.Val.meanOf fun d => Cert.KVal.scoreA m c d v) Cert.KernelIdeal.Gen.shapeCasts_S1x1_S_,
    fun c => fun i : Cert.KernelIdeal.S32x512x768.Idx => Cert.Val.zCode (Cert.KVal.tokA m c (i 0) (i 1)) (i 2),
    fun c => fun y : Cert.KernelIdeal.S32x512.Idx => Cert.Val.zScale (Cert.KVal.tokA m c (y 0) (y 1)),
    fun c => fun y : Cert.KernelIdeal.S32x50368.Idx => Cert.Val.impCode (fun v => Cert.KVal.scoreA m c (y 0) v) (y 1),
    fun c => fun y : Cert.KernelIdeal.S32.Idx => Cert.Val.impScale fun v => Cert.KVal.scoreA m c (y 0) v, ?_, ?_⟩
  · refine (θ_run Cert.KernelIdeal.defs _ _).mono (fun r h c => ?_) (Cert.KernelIdeal.Gen.runs m g (Cert.KernelIdeal.Gen.lensOK_of_le _ hle))
    obtain ⟨γ, hγ⟩ := h.1 c
    exact ⟨(hγ _ (Cert.KernelIdeal.Gen.mem_uc Cert.KernelIdeal.main_v7 (by decide))).trans (Cert.KVal.out_rep m γ hle c),
      (hγ _ (Cert.KernelIdeal.Gen.mem_uc Cert.KernelIdeal.main_v9 (by decide))).trans (Cert.KVal.out_l1 m γ hle c),
      (hγ _ (Cert.KernelIdeal.Gen.mem_uc Cert.KernelIdeal.main_v10 (by decide))).trans (Cert.KVal.out_mean m γ hle c),
      (hγ _ (Cert.KernelIdeal.Gen.mem_uc Cert.KernelIdeal.main_v11 (by decide))).trans (Cert.KVal.out_flops m γ hle c),
      (hγ _ (Cert.KernelIdeal.Gen.mem_uc Cert.KernelIdeal.main_v5_0 (by decide))).trans (Cert.KVal.out_codes m γ c),
      (hγ _ (Cert.KernelIdeal.Gen.mem_uc Cert.KernelIdeal.main_v12 (by decide))).trans (Cert.KVal.out_scales m γ c),
      (hγ _ (Cert.KernelIdeal.Gen.mem_uc Cert.KernelIdeal.main_v8_3 (by decide))).trans (Cert.KVal.out_impCodes m γ hle c),
      (hγ _ (Cert.KernelIdeal.Gen.mem_uc Cert.KernelIdeal.main_v13 (by decide))).trans (Cert.KVal.out_impScale m γ hle c),
      (hγ _ (Cert.KernelIdeal.Gen.mem_uc Cert.KernelIdeal.main_arg0 (by decide))).trans (Cert.KernelIdeal.Gen.W6_args m γ c Cert.KernelIdeal.main_arg0 (by decide)),
      (hγ _ (Cert.KernelIdeal.Gen.mem_uc Cert.KernelIdeal.main_arg1 (by decide))).trans (Cert.KernelIdeal.Gen.W6_args m γ c Cert.KernelIdeal.main_arg1 (by decide)),
      (hγ _ (Cert.KernelIdeal.Gen.mem_uc Cert.KernelIdeal.main_arg2 (by decide))).trans (Cert.KernelIdeal.Gen.W6_args m γ c Cert.KernelIdeal.main_arg2 (by decide)),
      (hγ _ (Cert.KernelIdeal.Gen.mem_uc Cert.KernelIdeal.main_arg3 (by decide))).trans (Cert.KernelIdeal.Gen.W6_args m γ c Cert.KernelIdeal.main_arg3 (by decide)),
      (hγ _ (Cert.KernelIdeal.Gen.mem_uc Cert.KernelIdeal.main_arg4 (by decide))).trans (Cert.KernelIdeal.Gen.W6_args m γ c Cert.KernelIdeal.main_arg4 (by decide)),
      (hγ _ (Cert.KernelIdeal.Gen.mem_uc Cert.KernelIdeal.main_arg5 (by decide))).trans (Cert.KernelIdeal.Gen.W6_args m γ c Cert.KernelIdeal.main_arg5 (by decide)),
      (hγ _ (Cert.KernelIdeal.Gen.mem_uc Cert.KernelIdeal.main_arg6 (by decide))).trans (Cert.KernelIdeal.Gen.W6_args m γ c Cert.KernelIdeal.main_arg6 (by decide)),
      (hγ _ (Cert.KernelIdeal.Gen.mem_uc Cert.KernelIdeal.main_arg7 (by decide))).trans (Cert.KernelIdeal.Gen.W6_args m γ c Cert.KernelIdeal.main_arg7 (by decide)),
      (hγ _ (Cert.KernelIdeal.Gen.mem_uc Cert.KernelIdeal.main_arg8 (by decide))).trans (Cert.KernelIdeal.Gen.W6_args m γ c Cert.KernelIdeal.main_arg8 (by decide)),
      (hγ _ (Cert.KernelIdeal.Gen.mem_uc Cert.KernelIdeal.main_arg9 (by decide))).trans (Cert.KernelIdeal.Gen.W6_args m γ c Cert.KernelIdeal.main_arg9 (by decide)),
      (hγ _ (Cert.KernelIdeal.Gen.mem_uc Cert.KernelIdeal.main_arg10 (by decide))).trans (Cert.KernelIdeal.Gen.W6_args m γ c Cert.KernelIdeal.main_arg10 (by decide))⟩
  · refine (θ_run Cert.ReferenceIdeal.defs _ _).mono (fun r h c => ?_) (Cert.ReferenceIdeal.Value.run m' g')
    obtain ⟨a0, a1, a2, a3, a4, a5, a6, a7, a8, a9, a10⟩ := hargs c
    have hs := score_eq m m' c a0 a1 a2 a3 a4 a5 a6 a7 a8 a9 a10
    have ht := tok_eq m m' c a0 a1 a3 a4 a5 a6 a7
    obtain ⟨r0, r1, r2, r3, r4, r5, r6, r7, hrest⟩ := h c
    refine ⟨r0.trans ((Cert.ReferenceIdeal.Val.reg11 m' c).trans ?_), r1.trans ((Cert.ReferenceIdeal.Val.reg12 m' c).trans ?_), r2.trans ((Cert.ReferenceIdeal.Val.reg13 m' c).trans ?_),
      r3.trans ((congrArg (fun x : Cert.ReferenceIdeal.S1x1.Idx → EReal => shapeCast Cert.ReferenceIdeal.S_ x Cert.ReferenceIdeal.Gen.shapeCasts_S1x1_S_) (Cert.ReferenceIdeal.Val.reg14 m' c)).trans ?_),
      r4.trans ((Cert.ReferenceIdeal.Val.reg15 m' c).trans ?_), r5.trans ((Cert.ReferenceIdeal.Val.reg16 m' c).trans ?_), r6.trans ((Cert.ReferenceIdeal.Val.reg17 m' c).trans ?_), r7.trans ((Cert.ReferenceIdeal.Val.reg18 m' c).trans ?_), hrest⟩
    · rw [hs]
    · rw [hs]
    · rw [hs]
    · rw [hs]
    · rw [ht]
    · rw [ht]
    · rw [hs]
    · rw [hs]

/-- All of the claims. -/
theorem claim : Cert.Claim :=
  ⟨Cert.Kernel.Gen.facts, Cert.KernelIdeal.Gen.facts, Cert.ReferenceIdeal.Gen.facts, Cert.Pre_lens_fit.Gen.facts,
    quiescent_Kernel, quiescent_KernelIdeal, quiescent_ReferenceIdeal, quiescent_ReferenceIdeal_pre_lens_fit, trivial, algebraic⟩

end Cert.Proof

end
